-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_wires_in_range [hPre_wires_in_range : Cert.Pre_wires_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_wires_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_wires_in_range [hPre_wires_in_range : Cert.Pre_wires_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_wires_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_wires_in_range [hKernelIdeal : Cert.KernelIdeal.Facts] [hPre_wires_in_range : Cert.Pre_wires_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_wires_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_wires_in_range [hReferenceIdeal : Cert.ReferenceIdeal.Facts] [hPre_wires_in_range : Cert.Pre_wires_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_wires_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_wires_in_range [hKernelIdeal : Cert.KernelIdeal.Facts] [hReferenceIdeal : Cert.ReferenceIdeal.Facts] [hPre_wires_in_range : Cert.Pre_wires_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_wires_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v598) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_wires_in_range : Cert.Pre_wires_in_range.Facts),
    quiescent_Kernel (hKernel := hKernel)
    ∧ quiescent_KernelIdeal (hKernelIdeal := hKernelIdeal)
    ∧ quiescent_KernelIdeal_pre_wires_in_range (hKernelIdeal := hKernelIdeal) (hPre_wires_in_range := hPre_wires_in_range)
    ∧ quiescent_ReferenceIdeal (hReferenceIdeal := hReferenceIdeal)
    ∧ quiescent_ReferenceIdeal_pre_wires_in_range (hReferenceIdeal := hReferenceIdeal) (hPre_wires_in_range := hPre_wires_in_range)
    ∧ preserves_Kernel_KernelIdeal
    ∧ algebraic_KernelIdeal_ReferenceIdeal_pre_wires_in_range (hKernelIdeal := hKernelIdeal) (hReferenceIdeal := hReferenceIdeal) (hPre_wires_in_range := hPre_wires_in_range)
-- ==== Pre_wires_in_range.lean ====
abbrev S16x1x32x32 : Shape := ⟨4, ![16, 1, 32, 32]⟩
abbrev S64x36x6 : Shape := ⟨3, ![64, 36, 6]⟩
abbrev S64x6x6 : Shape := ⟨3, ![64, 6, 6]⟩
abbrev S64x1x6 : Shape := ⟨3, ![64, 1, 6]⟩
abbrev S64x36x64 : Shape := ⟨3, ![64, 36, 64]⟩
abbrev S64x6x64 : Shape := ⟨3, ![64, 6, 64]⟩
abbrev S64x1x64 : Shape := ⟨3, ![64, 1, 64]⟩
abbrev S_ : Shape := ⟨0, ![]⟩

class Facts : Prop where
  bcast_S_S64x36x6 : S_.BroadcastsInDim S64x36x6 (![] : Fin 0 → Fin S64x36x6.rank)
  reducesTo_S64x36x6_S_d0_1_2 : S64x36x6.ReducesTo [0, 1, 2] S_
  h_S_ : 0 < S_.numel
  bcast_S_S64x6x6 : S_.BroadcastsInDim S64x6x6 (![] : Fin 0 → Fin S64x6x6.rank)
  reducesTo_S64x6x6_S_d0_1_2 : S64x6x6.ReducesTo [0, 1, 2] S_
  bcast_S_S64x1x6 : S_.BroadcastsInDim S64x1x6 (![] : Fin 0 → Fin S64x1x6.rank)
  reducesTo_S64x1x6_S_d0_1_2 : S64x1x6.ReducesTo [0, 1, 2] S_

variable [Facts]

def fn_part1 {F : FTy → Type} [FloatOps F] (main_v5 : IVec S_ 1) (main_v11 : IVec S_ 1) (main_v13 : IVec S64x1x6 1) (main_v15 : IVec S64x1x6 1) : IVec S_ 1 :=
  let main_v16 : IVec S64x1x6 1 := andi main_v13 main_v15
  let main_c_7 : IVec S_ 1 := constantI S_ 1 1#1
  let main_v17 : IVec S_ 1 := (fun x v => Host.reduce IntOp.andi x v reducesTo_S64x1x6_S_d0_1_2 h_S_) main_v16 main_c_7
  let main_v18 : IVec S_ 1 := andi main_v5 main_v11
  let main_v19 : IVec S_ 1 := andi main_v18 main_v17
  main_v19

def fn {F : FTy → Type} [FloatOps F] (main_arg0 : FVec F S16x1x32x32 .f32) (main_arg1 : IVec S64x36x6 32) (main_arg2 : IVec S64x6x6 32) (main_arg3 : IVec S64x1x6 32) (main_arg4 : FVec F S64x36x64 .f32) (main_arg5 : FVec F S64x6x64 .f32) (main_arg6 : FVec F S64x1x64 .f32) : IVec S_ 1 :=
  let main_c : IVec S_ 32 := constantI S_ 32 0#32
  let main_v0 : IVec S64x36x6 32 := broadcastInDim S64x36x6 ![] bcast_S_S64x36x6 main_c
  let main_v1 : IVec S64x36x6 1 := cmpi .sge main_arg1 main_v0
  let main_c_0 : IVec S_ 32 := constantI S_ 32 25#32
  let main_v2 : IVec S64x36x6 32 := broadcastInDim S64x36x6 ![] bcast_S_S64x36x6 main_c_0
  let main_v3 : IVec S64x36x6 1 := cmpi .slt main_arg1 main_v2
  let main_v4 : IVec S64x36x6 1 := andi main_v1 main_v3
  let main_c_1 : IVec S_ 1 := constantI S_ 1 1#1
  let main_v5 : IVec S_ 1 := (fun x v => Host.reduce IntOp.andi x v reducesTo_S64x36x6_S_d0_1_2 h_S_) main_v4 main_c_1
  let main_c_2 : IVec S_ 32 := constantI S_ 32 0#32
  let main_v6 : IVec S64x6x6 32 := broadcastInDim S64x6x6 ![] bcast_S_S64x6x6 main_c_2
  let main_v7 : IVec S64x6x6 1 := cmpi .sge main_arg2 main_v6
  let main_c_3 : IVec S_ 32 := constantI S_ 32 36#32
  let main_v8 : IVec S64x6x6 32 := broadcastInDim S64x6x6 ![] bcast_S_S64x6x6 main_c_3
  let main_v9 : IVec S64x6x6 1 := cmpi .slt main_arg2 main_v8
  let main_v10 : IVec S64x6x6 1 := andi main_v7 main_v9
  let main_c_4 : IVec S_ 1 := constantI S_ 1 1#1
  let main_v11 : IVec S_ 1 := (fun x v => Host.reduce IntOp.andi x v reducesTo_S64x6x6_S_d0_1_2 h_S_) main_v10 main_c_4
  let main_c_5 : IVec S_ 32 := constantI S_ 32 0#32
  let main_v12 : IVec S64x1x6 32 := broadcastInDim S64x1x6 ![] bcast_S_S64x1x6 main_c_5
  let main_v13 : IVec S64x1x6 1 := cmpi .sge main_arg3 main_v12
  let main_c_6 : IVec S_ 32 := constantI S_ 32 6#32
  let main_v14 : IVec S64x1x6 32 := broadcastInDim S64x1x6 ![] bcast_S_S64x1x6 main_c_6
  let main_v15 : IVec S64x1x6 1 := cmpi .slt main_arg3 main_v14
  fn_part1 (F := F) main_v5 main_v11 main_v13 main_v15
-- ==== Kernel.lean ====
abbrev S16x1x32x32 : Shape := ⟨4, ![16, 1, 32, 32]⟩
abbrev S64x36x6 : Shape := ⟨3, ![64, 36, 6]⟩
abbrev S64x6x6 : Shape := ⟨3, ![64, 6, 6]⟩
abbrev S64x1x6 : Shape := ⟨3, ![64, 1, 6]⟩
abbrev S64x36x64 : Shape := ⟨3, ![64, 36, 64]⟩
abbrev S64x6x64 : Shape := ⟨3, ![64, 6, 64]⟩
abbrev S64x1x64 : Shape := ⟨3, ![64, 1, 64]⟩
abbrev S16x32x32 : Shape := ⟨3, ![16, 32, 32]⟩
abbrev S16x28x28 : Shape := ⟨3, ![16, 28, 28]⟩
abbrev S16x1x784 : Shape := ⟨3, ![16, 1, 784]⟩
abbrev S_ : Shape := ⟨0, ![]⟩
abbrev S16x7x784 : Shape := ⟨3, ![16, 7, 784]⟩
abbrev S16x16x784 : Shape := ⟨3, ![16, 16, 784]⟩
abbrev S16x32x784 : Shape := ⟨3, ![16, 32, 784]⟩
abbrev S2304x6 : Shape := ⟨2, ![2304, 6]⟩
abbrev S384x6 : Shape := ⟨2, ![384, 6]⟩
abbrev S64x6 : Shape := ⟨2, ![64, 6]⟩
abbrev S2304x64 : Shape := ⟨2, ![2304, 64]⟩
abbrev S384x64 : Shape := ⟨2, ![384, 64]⟩
abbrev S64x64 : Shape := ⟨2, ![64, 64]⟩
abbrev S16x64x784 : Shape := ⟨3, ![16, 64, 784]⟩
abbrev S16x64x28x28 : Shape := ⟨4, ![16, 64, 28, 28]⟩
abbrev S576x6 : Shape := ⟨2, ![576, 6]⟩
abbrev S96x6 : Shape := ⟨2, ![96, 6]⟩
abbrev S16x6 : Shape := ⟨2, ![16, 6]⟩
abbrev S576x64 : Shape := ⟨2, ![576, 64]⟩
abbrev S96x64 : Shape := ⟨2, ![96, 64]⟩
abbrev S16x64 : Shape := ⟨2, ![16, 64]⟩
abbrev S576x25 : Shape := ⟨2, ![576, 25]⟩
abbrev S96x576 : Shape := ⟨2, ![96, 576]⟩
abbrev S16x96 : Shape := ⟨2, ![16, 96]⟩
abbrev S576x1 : Shape := ⟨2, ![576, 1]⟩
abbrev S96x1 : Shape := ⟨2, ![96, 1]⟩
abbrev S16x1 : Shape := ⟨2, ![16, 1]⟩
abbrev S1x32 : Shape := ⟨2, ![1, 32]⟩
abbrev S576x32 : Shape := ⟨2, ![576, 32]⟩
abbrev S576 : Shape := ⟨1, ![576]⟩
abbrev S96x32 : Shape := ⟨2, ![96, 32]⟩
abbrev S96 : Shape := ⟨1, ![96]⟩
abbrev S1x32x784 : Shape := ⟨3, ![1, 32, 784]⟩
abbrev S32x784 : Shape := ⟨2, ![32, 784]⟩
abbrev S32x12544 : Shape := ⟨2, ![32, 12544]⟩
abbrev S25x12544 : Shape := ⟨2, ![25, 12544]⟩
abbrev S576x12544 : Shape := ⟨2, ![576, 12544]⟩
abbrev S96x12544 : Shape := ⟨2, ![96, 12544]⟩
abbrev S16x12544 : Shape := ⟨2, ![16, 12544]⟩
abbrev S16x784 : Shape := ⟨2, ![16, 784]⟩
abbrev S1x16x784 : Shape := ⟨3, ![1, 16, 784]⟩

abbrev nBuf : Space → Nat
  | .hbm => 71
  | .vmem => 22
  | .smem => 0
  | _ => 0

abbrev bufTy : (tb : Table) → Fin (tcTables nBuf tb) → BufTy
  | .hbm, ⟨0, _⟩ => ⟨S16x1x32x32, .f32⟩
  | .hbm, ⟨1, _⟩ => ⟨S64x36x6, .i32⟩
  | .hbm, ⟨2, _⟩ => ⟨S64x6x6, .i32⟩
  | .hbm, ⟨3, _⟩ => ⟨S64x1x6, .i32⟩
  | .hbm, ⟨4, _⟩ => ⟨S64x36x64, .f32⟩
  | .hbm, ⟨5, _⟩ => ⟨S64x6x64, .f32⟩
  | .hbm, ⟨6, _⟩ => ⟨S64x1x64, .f32⟩
  | .hbm, ⟨7, _⟩ => ⟨S16x32x32, .f32⟩
  | .hbm, ⟨8, _⟩ => ⟨S16x28x28, .f32⟩
  | .hbm, ⟨9, _⟩ => ⟨S16x1x784, .f32⟩
  | .hbm, ⟨10, _⟩ => ⟨S16x28x28, .f32⟩
  | .hbm, ⟨11, _⟩ => ⟨S16x1x784, .f32⟩
  | .hbm, ⟨12, _⟩ => ⟨S16x28x28, .f32⟩
  | .hbm, ⟨13, _⟩ => ⟨S16x1x784, .f32⟩
  | .hbm, ⟨14, _⟩ => ⟨S16x28x28, .f32⟩
  | .hbm, ⟨15, _⟩ => ⟨S16x1x784, .f32⟩
  | .hbm, ⟨16, _⟩ => ⟨S16x28x28, .f32⟩
  | .hbm, ⟨17, _⟩ => ⟨S16x1x784, .f32⟩
  | .hbm, ⟨18, _⟩ => ⟨S16x28x28, .f32⟩
  | .hbm, ⟨19, _⟩ => ⟨S16x1x784, .f32⟩
  | .hbm, ⟨20, _⟩ => ⟨S16x28x28, .f32⟩
  | .hbm, ⟨21, _⟩ => ⟨S16x1x784, .f32⟩
  | .hbm, ⟨22, _⟩ => ⟨S16x28x28, .f32⟩
  | .hbm, ⟨23, _⟩ => ⟨S16x1x784, .f32⟩
  | .hbm, ⟨24, _⟩ => ⟨S16x28x28, .f32⟩
  | .hbm, ⟨25, _⟩ => ⟨S16x1x784, .f32⟩
  | .hbm, ⟨26, _⟩ => ⟨S16x28x28, .f32⟩
  | .hbm, ⟨27, _⟩ => ⟨S16x1x784, .f32⟩
  | .hbm, ⟨28, _⟩ => ⟨S16x28x28, .f32⟩
  | .hbm, ⟨29, _⟩ => ⟨S16x1x784, .f32⟩
  | .hbm, ⟨30, _⟩ => ⟨S16x28x28, .f32⟩
  | .hbm, ⟨31, _⟩ => ⟨S16x1x784, .f32⟩
  | .hbm, ⟨32, _⟩ => ⟨S16x28x28, .f32⟩
  | .hbm, ⟨33, _⟩ => ⟨S16x1x784, .f32⟩
  | .hbm, ⟨34, _⟩ => ⟨S16x28x28, .f32⟩
  | .hbm, ⟨35, _⟩ => ⟨S16x1x784, .f32⟩
  | .hbm, ⟨36, _⟩ => ⟨S16x28x28, .f32⟩
  | .hbm, ⟨37, _⟩ => ⟨S16x1x784, .f32⟩
  | .hbm, ⟨38, _⟩ => ⟨S16x28x28, .f32⟩
  | .hbm, ⟨39, _⟩ => ⟨S16x1x784, .f32⟩
  | .hbm, ⟨40, _⟩ => ⟨S16x28x28, .f32⟩
  | .hbm, ⟨41, _⟩ => ⟨S16x1x784, .f32⟩
  | .hbm, ⟨42, _⟩ => ⟨S16x28x28, .f32⟩
  | .hbm, ⟨43, _⟩ => ⟨S16x1x784, .f32⟩
  | .hbm, ⟨44, _⟩ => ⟨S16x28x28, .f32⟩
  | .hbm, ⟨45, _⟩ => ⟨S16x1x784, .f32⟩
  | .hbm, ⟨46, _⟩ => ⟨S16x28x28, .f32⟩
  | .hbm, ⟨47, _⟩ => ⟨S16x1x784, .f32⟩
  | .hbm, ⟨48, _⟩ => ⟨S16x28x28, .f32⟩
  | .hbm, ⟨49, _⟩ => ⟨S16x1x784, .f32⟩
  | .hbm, ⟨50, _⟩ => ⟨S16x28x28, .f32⟩
  | .hbm, ⟨51, _⟩ => ⟨S16x1x784, .f32⟩
  | .hbm, ⟨52, _⟩ => ⟨S16x28x28, .f32⟩
  | .hbm, ⟨53, _⟩ => ⟨S16x1x784, .f32⟩
  | .hbm, ⟨54, _⟩ => ⟨S16x28x28, .f32⟩
  | .hbm, ⟨55, _⟩ => ⟨S16x1x784, .f32⟩
  | .hbm, ⟨56, _⟩ => ⟨S16x28x28, .f32⟩
  | .hbm, ⟨57, _⟩ => ⟨S16x1x784, .f32⟩
  | .hbm, ⟨58, _⟩ => ⟨S_, .f32⟩
  | .hbm, ⟨59, _⟩ => ⟨S16x7x784, .f32⟩
  | .hbm, ⟨60, _⟩ => ⟨S16x16x784, .f32⟩
  | .hbm, ⟨61, _⟩ => ⟨S16x16x784, .f32⟩
  | .hbm, ⟨62, _⟩ => ⟨S16x32x784, .f32⟩
  | .hbm, ⟨63, _⟩ => ⟨S2304x6, .i32⟩
  | .hbm, ⟨64, _⟩ => ⟨S384x6, .i32⟩
  | .hbm, ⟨65, _⟩ => ⟨S64x6, .i32⟩
  | .hbm, ⟨66, _⟩ => ⟨S2304x64, .f32⟩
  | .hbm, ⟨67, _⟩ => ⟨S384x64, .f32⟩
  | .hbm, ⟨68, _⟩ => ⟨S64x64, .f32⟩
  | .hbm, ⟨69, _⟩ => ⟨S16x64x784, .f32⟩
  | .hbm, ⟨70, _⟩ => ⟨S16x64x28x28, .f32⟩
  | .local _ .vmem, ⟨0, _⟩ => ⟨S16x32x784, .f32⟩
  | .local _ .vmem, ⟨1, _⟩ => ⟨S576x6, .i32⟩
  | .local _ .vmem, ⟨2, _⟩ => ⟨S576x6, .i32⟩
  | .local _ .vmem, ⟨3, _⟩ => ⟨S96x6, .i32⟩
  | .local _ .vmem, ⟨4, _⟩ => ⟨S96x6, .i32⟩
  | .local _ .vmem, ⟨5, _⟩ => ⟨S16x6, .i32⟩
  | .local _ .vmem, ⟨6, _⟩ => ⟨S16x6, .i32⟩
  | .local _ .vmem, ⟨7, _⟩ => ⟨S576x64, .f32⟩
  | .local _ .vmem, ⟨8, _⟩ => ⟨S576x64, .f32⟩
  | .local _ .vmem, ⟨9, _⟩ => ⟨S96x64, .f32⟩
  | .local _ .vmem, ⟨10, _⟩ => ⟨S96x64, .f32⟩
  | .local _ .vmem, ⟨11, _⟩ => ⟨S16x64, .f32⟩
  | .local _ .vmem, ⟨12, _⟩ => ⟨S16x64, .f32⟩
  | .local _ .vmem, ⟨13, _⟩ => ⟨S16x16x784, .f32⟩
  | .local _ .vmem, ⟨14, _⟩ => ⟨S16x16x784, .f32⟩
  | .local _ .vmem, ⟨15, _⟩ => ⟨S576x25, .i8⟩
  | .local _ .vmem, ⟨16, _⟩ => ⟨S96x576, .i8⟩
  | .local _ .vmem, ⟨17, _⟩ => ⟨S16x96, .i8⟩
  | .local _ .vmem, ⟨18, _⟩ => ⟨S576x1, .i32⟩
  | .local _ .vmem, ⟨19, _⟩ => ⟨S576x1, .i32⟩
  | .local _ .vmem, ⟨20, _⟩ => ⟨S96x1, .i32⟩
  | .local _ .vmem, ⟨21, _⟩ => ⟨S96x1, .i32⟩
  | _, _ => ⟨S16x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_call0_v21 : Ref sig .tc := ⟨.hbm, 28, rfl⟩
abbrev main_call0_v22 : Ref sig .tc := ⟨.hbm, 29, rfl⟩
abbrev main_call0_v23 : Ref sig .tc := ⟨.hbm, 30, rfl⟩
abbrev main_call0_v24 : Ref sig .tc := ⟨.hbm, 31, rfl⟩
abbrev main_call0_v25 : Ref sig .tc := ⟨.hbm, 32, rfl⟩
abbrev main_call0_v26 : Ref sig .tc := ⟨.hbm, 33, rfl⟩
abbrev main_call0_v27 : Ref sig .tc := ⟨.hbm, 34, rfl⟩
abbrev main_call0_v28 : Ref sig .tc := ⟨.hbm, 35, rfl⟩
abbrev main_call0_v29 : Ref sig .tc := ⟨.hbm, 36, rfl⟩
abbrev main_call0_v30 : Ref sig .tc := ⟨.hbm, 37, rfl⟩
abbrev main_call0_v31 : Ref sig .tc := ⟨.hbm, 38, rfl⟩
abbrev main_call0_v32 : Ref sig .tc := ⟨.hbm, 39, rfl⟩
abbrev main_call0_v33 : Ref sig .tc := ⟨.hbm, 40, rfl⟩
abbrev main_call0_v34 : Ref sig .tc := ⟨.hbm, 41, rfl⟩
abbrev main_call0_v35 : Ref sig .tc := ⟨.hbm, 42, rfl⟩
abbrev main_call0_v36 : Ref sig .tc := ⟨.hbm, 43, rfl⟩
abbrev main_call0_v37 : Ref sig .tc := ⟨.hbm, 44, rfl⟩
abbrev main_call0_v38 : Ref sig .tc := ⟨.hbm, 45, rfl⟩
abbrev main_call0_v39 : Ref sig .tc := ⟨.hbm, 46, rfl⟩
abbrev main_call0_v40 : Ref sig .tc := ⟨.hbm, 47, rfl⟩
abbrev main_call0_v41 : Ref sig .tc := ⟨.hbm, 48, rfl⟩
abbrev main_call0_v42 : Ref sig .tc := ⟨.hbm, 49, rfl⟩
abbrev main_call0_v43 : Ref sig .tc := ⟨.hbm, 50, rfl⟩
abbrev main_call0_v44 : Ref sig .tc := ⟨.hbm, 51, rfl⟩
abbrev main_call0_v45 : Ref sig .tc := ⟨.hbm, 52, rfl⟩
abbrev main_call0_v46 : Ref sig .tc := ⟨.hbm, 53, rfl⟩
abbrev main_call0_v47 : Ref sig .tc := ⟨.hbm, 54, rfl⟩
abbrev main_call0_v48 : Ref sig .tc := ⟨.hbm, 55, rfl⟩
abbrev main_call0_v49 : Ref sig .tc := ⟨.hbm, 56, rfl⟩
abbrev main_call0_v50 : Ref sig .tc := ⟨.hbm, 57, rfl⟩
abbrev main_call0_cst : Ref sig .tc := ⟨.hbm, 58, rfl⟩
abbrev main_call0_v51 : Ref sig .tc := ⟨.hbm, 59, rfl⟩
abbrev main_call0_v52 : Ref sig .tc := ⟨.hbm, 60, rfl⟩
abbrev main_call0_v53 : Ref sig .tc := ⟨.hbm, 61, rfl⟩
abbrev main_call0_v54 : Ref sig .tc := ⟨.hbm, 62, rfl⟩
abbrev main_call0_v55 : Ref sig .tc := ⟨.hbm, 63, rfl⟩
abbrev main_call0_v56 : Ref sig .tc := ⟨.hbm, 64, rfl⟩
abbrev main_call0_v57 : Ref sig .tc := ⟨.hbm, 65, rfl⟩
abbrev main_call0_v58 : Ref sig .tc := ⟨.hbm, 66, rfl⟩
abbrev main_call0_v59 : Ref sig .tc := ⟨.hbm, 67, rfl⟩
abbrev main_call0_v60 : Ref sig .tc := ⟨.hbm, 68, rfl⟩
abbrev main_call0_v61 : Ref sig .tc := ⟨.hbm, 69, rfl⟩
abbrev main_v0 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S16x32x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S576x6 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S96x6 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x6 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S576x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S96x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x16x784 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x1x32x32 : Shape := ⟨4, ![16, 1, 32, 32]⟩
abbrev S64x36x6 : Shape := ⟨3, ![64, 36, 6]⟩
abbrev S64x6x6 : Shape := ⟨3, ![64, 6, 6]⟩
abbrev S64x1x6 : Shape := ⟨3, ![64, 1, 6]⟩
abbrev S64x36x64 : Shape := ⟨3, ![64, 36, 64]⟩
abbrev S64x6x64 : Shape := ⟨3, ![64, 6, 64]⟩
abbrev S64x1x64 : Shape := ⟨3, ![64, 1, 64]⟩
abbrev S16x1x28x28 : Shape := ⟨4, ![16, 1, 28, 28]⟩
abbrev S16x28x28 : Shape := ⟨3, ![16, 28, 28]⟩
abbrev S16x16x28x28 : Shape := ⟨4, ![16, 16, 28, 28]⟩
abbrev S16x9x28x28 : Shape := ⟨4, ![16, 9, 28, 28]⟩
abbrev S16x25x28x28 : Shape := ⟨4, ![16, 25, 28, 28]⟩
abbrev S16x25x784 : Shape := ⟨3, ![16, 25, 784]⟩
abbrev S16x784x25 : Shape := ⟨3, ![16, 784, 25]⟩
abbrev S12544x25 : Shape := ⟨2, ![12544, 25]⟩
abbrev S_ : Shape := ⟨0, ![]⟩
abbrev S12544x64x36 : Shape := ⟨3, ![12544, 64, 36]⟩
abbrev S64x36x1 : Shape := ⟨3, ![64, 36, 1]⟩
abbrev S64x36 : Shape := ⟨2, ![64, 36]⟩
abbrev S64 : Shape := ⟨1, ![64]⟩
abbrev S1x64x1 : Shape := ⟨3, ![1, 64, 1]⟩
abbrev S36 : Shape := ⟨1, ![36]⟩
abbrev S1x1x36 : Shape := ⟨3, ![1, 1, 36]⟩
abbrev S12544x64x36x1 : Shape := ⟨4, ![12544, 64, 36, 1]⟩
abbrev S12544x64x36x3 : Shape := ⟨4, ![12544, 64, 36, 3]⟩
abbrev S12544 : Shape := ⟨1, ![12544]⟩
abbrev S12544x1x1 : Shape := ⟨3, ![12544, 1, 1]⟩
abbrev S12544x64x6 : Shape := ⟨3, ![12544, 64, 6]⟩
abbrev S64x6x1 : Shape := ⟨3, ![64, 6, 1]⟩
abbrev S64x6 : Shape := ⟨2, ![64, 6]⟩
abbrev S1x64x6 : Shape := ⟨3, ![1, 64, 6]⟩
abbrev S12544x64x6x1 : Shape := ⟨4, ![12544, 64, 6, 1]⟩
abbrev S12544x64x6x3 : Shape := ⟨4, ![12544, 64, 6, 3]⟩
abbrev S6 : Shape := ⟨1, ![6]⟩
abbrev S1x1x6 : Shape := ⟨3, ![1, 1, 6]⟩
abbrev S12544x64x1 : Shape := ⟨3, ![12544, 64, 1]⟩
abbrev S64x1x1 : Shape := ⟨3, ![64, 1, 1]⟩
abbrev S64x1 : Shape := ⟨2, ![64, 1]⟩
abbrev S12544x64x1x1 : Shape := ⟨4, ![12544, 64, 1, 1]⟩
abbrev S12544x64x1x3 : Shape := ⟨4, ![12544, 64, 1, 3]⟩
abbrev S1 : Shape := ⟨1, ![1]⟩
abbrev S1x1x1 : Shape := ⟨3, ![1, 1, 1]⟩
abbrev S12544x64 : Shape := ⟨2, ![12544, 64]⟩
abbrev S16x784x64 : Shape := ⟨3, ![16, 784, 64]⟩
abbrev S16x64x784 : Shape := ⟨3, ![16, 64, 784]⟩
abbrev S16x64x28x28 : Shape := ⟨4, ![16, 64, 28, 28]⟩

abbrev nBuf : Space → Nat
  | .hbm => 732
  | .vmem => 0
  | .smem => 0
  | _ => 0

abbrev hbmTy0_0 (i : Nat) : BufTy := match i % 128 with
  | 0 => ⟨S16x1x32x32, .f32⟩
  | 1 => ⟨S64x36x6, .i32⟩
  | 2 => ⟨S64x6x6, .i32⟩
  | 3 => ⟨S64x1x6, .i32⟩
  | 4 => ⟨S64x36x64, .f32⟩
  | 5 => ⟨S64x6x64, .f32⟩
  | 6 => ⟨S64x1x64, .f32⟩
  | 7 => ⟨S16x1x28x28, .f32⟩
  | 8 => ⟨S16x28x28, .f32⟩
  | 9 => ⟨S16x1x28x28, .f32⟩
  | 10 => ⟨S16x28x28, .f32⟩
  | 11 => ⟨S16x1x28x28, .f32⟩
  | 12 => ⟨S16x28x28, .f32⟩
  | 13 => ⟨S16x1x28x28, .f32⟩
  | 14 => ⟨S16x28x28, .f32⟩
  | 15 => ⟨S16x1x28x28, .f32⟩
  | 16 => ⟨S16x28x28, .f32⟩
  | 17 => ⟨S16x1x28x28, .f32⟩
  | 18 => ⟨S16x28x28, .f32⟩
  | 19 => ⟨S16x1x28x28, .f32⟩
  | 20 => ⟨S16x28x28, .f32⟩
  | 21 => ⟨S16x1x28x28, .f32⟩
  | 22 => ⟨S16x28x28, .f32⟩
  | 23 => ⟨S16x1x28x28, .f32⟩
  | 24 => ⟨S16x28x28, .f32⟩
  | 25 => ⟨S16x1x28x28, .f32⟩
  | 26 => ⟨S16x28x28, .f32⟩
  | 27 => ⟨S16x1x28x28, .f32⟩
  | 28 => ⟨S16x28x28, .f32⟩
  | 29 => ⟨S16x1x28x28, .f32⟩
  | 30 => ⟨S16x28x28, .f32⟩
  | 31 => ⟨S16x1x28x28, .f32⟩
  | 32 => ⟨S16x28x28, .f32⟩
  | 33 => ⟨S16x1x28x28, .f32⟩
  | 34 => ⟨S16x28x28, .f32⟩
  | 35 => ⟨S16x1x28x28, .f32⟩
  | 36 => ⟨S16x28x28, .f32⟩
  | 37 => ⟨S16x1x28x28, .f32⟩
  | 38 => ⟨S16x28x28, .f32⟩
  | 39 => ⟨S16x1x28x28, .f32⟩
  | 40 => ⟨S16x28x28, .f32⟩
  | 41 => ⟨S16x1x28x28, .f32⟩
  | 42 => ⟨S16x28x28, .f32⟩
  | 43 => ⟨S16x1x28x28, .f32⟩
  | 44 => ⟨S16x28x28, .f32⟩
  | 45 => ⟨S16x1x28x28, .f32⟩
  | 46 => ⟨S16x28x28, .f32⟩
  | 47 => ⟨S16x1x28x28, .f32⟩
  | 48 => ⟨S16x28x28, .f32⟩
  | 49 => ⟨S16x1x28x28, .f32⟩
  | 50 => ⟨S16x28x28, .f32⟩
  | 51 => ⟨S16x1x28x28, .f32⟩
  | 52 => ⟨S16x28x28, .f32⟩
  | 53 => ⟨S16x1x28x28, .f32⟩
  | 54 => ⟨S16x28x28, .f32⟩
  | 55 => ⟨S16x1x28x28, .f32⟩
  | 56 => ⟨S16x28x28, .f32⟩
  | 57 => ⟨S16x1x28x28, .f32⟩
  | 58 => ⟨S16x1x28x28, .f32⟩
  | 59 => ⟨S16x1x28x28, .f32⟩
  | 60 => ⟨S16x1x28x28, .f32⟩
  | 61 => ⟨S16x1x28x28, .f32⟩
  | 62 => ⟨S16x1x28x28, .f32⟩
  | 63 => ⟨S16x1x28x28, .f32⟩
  | 64 => ⟨S16x1x28x28, .f32⟩
  | 65 => ⟨S16x1x28x28, .f32⟩
  | 66 => ⟨S16x1x28x28, .f32⟩
  | 67 => ⟨S16x1x28x28, .f32⟩
  | 68 => ⟨S16x1x28x28, .f32⟩
  | 69 => ⟨S16x1x28x28, .f32⟩
  | 70 => ⟨S16x1x28x28, .f32⟩
  | 71 => ⟨S16x1x28x28, .f32⟩
  | 72 => ⟨S16x1x28x28, .f32⟩
  | 73 => ⟨S16x1x28x28, .f32⟩
  | 74 => ⟨S16x1x28x28, .f32⟩
  | 75 => ⟨S16x1x28x28, .f32⟩
  | 76 => ⟨S16x1x28x28, .f32⟩
  | 77 => ⟨S16x1x28x28, .f32⟩
  | 78 => ⟨S16x1x28x28, .f32⟩
  | 79 => ⟨S16x1x28x28, .f32⟩
  | 80 => ⟨S16x1x28x28, .f32⟩
  | 81 => ⟨S16x1x28x28, .f32⟩
  | 82 => ⟨S16x16x28x28, .f32⟩
  | 83 => ⟨S16x9x28x28, .f32⟩
  | 84 => ⟨S16x25x28x28, .f32⟩
  | 85 => ⟨S16x25x784, .f32⟩
  | 86 => ⟨S16x784x25, .f32⟩
  | 87 => ⟨S12544x25, .f32⟩
  | 88 => ⟨S_, .f32⟩
  | 89 => ⟨S12544x25, .f32⟩
  | 90 => ⟨S12544x25, .i1⟩
  | 91 => ⟨S12544x25, .i32⟩
  | 92 => ⟨S_, .i32⟩
  | 93 => ⟨S12544x64x36, .i32⟩
  | 94 => ⟨S64x36x1, .i32⟩
  | 95 => ⟨S64x36, .i32⟩
  | 96 => ⟨S_, .i32⟩
  | 97 => ⟨S64x36, .i32⟩
  | 98 => ⟨S64x36, .i1⟩
  | 99 => ⟨S_, .i32⟩
  | 100 => ⟨S64x36, .i32⟩
  | 101 => ⟨S64x36, .i32⟩
  | 102 => ⟨S64x36, .i32⟩
  | 103 => ⟨S64x36x1, .i32⟩
  | 104 => ⟨S12544x64x36, .i32⟩
  | 105 => ⟨S_, .i32⟩
  | 106 => ⟨S12544x64x36, .i32⟩
  | 107 => ⟨S12544x64x36, .i32⟩
  | 108 => ⟨S12544x64x36, .i32⟩
  | 109 => ⟨S64x36x1, .i32⟩
  | 110 => ⟨S64x36, .i32⟩
  | 111 => ⟨S_, .i32⟩
  | 112 => ⟨S64x36, .i32⟩
  | 113 => ⟨S64x36, .i1⟩
  | 114 => ⟨S_, .i32⟩
  | 115 => ⟨S64x36, .i32⟩
  | 116 => ⟨S64x36, .i32⟩
  | 117 => ⟨S64x36, .i32⟩
  | 118 => ⟨S64x36x1, .i32⟩
  | 119 => ⟨S12544x64x36, .i32⟩
  | 120 => ⟨S_, .i32⟩
  | 121 => ⟨S12544x64x36, .i32⟩
  | 122 => ⟨S12544x64x36, .i32⟩
  | 123 => ⟨S12544x64x36, .i32⟩
  | 124 => ⟨S64x36x1, .i32⟩
  | 125 => ⟨S64x36, .i32⟩
  | 126 => ⟨S_, .i32⟩
  | 127 => ⟨S64x36, .i32⟩
  | _ => ⟨S16x1x32x32, .f32⟩

abbrev hbmTy0_1 (i : Nat) : BufTy := match i % 128 with
  | 0 => ⟨S64x36, .i1⟩
  | 1 => ⟨S_, .i32⟩
  | 2 => ⟨S64x36, .i32⟩
  | 3 => ⟨S64x36, .i32⟩
  | 4 => ⟨S64x36, .i32⟩
  | 5 => ⟨S64x36x1, .i32⟩
  | 6 => ⟨S12544x64x36, .i32⟩
  | 7 => ⟨S_, .i32⟩
  | 8 => ⟨S12544x64x36, .i32⟩
  | 9 => ⟨S12544x64x36, .i32⟩
  | 10 => ⟨S12544x64x36, .i32⟩
  | 11 => ⟨S64x36x1, .i32⟩
  | 12 => ⟨S64x36, .i32⟩
  | 13 => ⟨S_, .i32⟩
  | 14 => ⟨S64x36, .i32⟩
  | 15 => ⟨S64x36, .i1⟩
  | 16 => ⟨S_, .i32⟩
  | 17 => ⟨S64x36, .i32⟩
  | 18 => ⟨S64x36, .i32⟩
  | 19 => ⟨S64x36, .i32⟩
  | 20 => ⟨S64x36x1, .i32⟩
  | 21 => ⟨S12544x64x36, .i32⟩
  | 22 => ⟨S_, .i32⟩
  | 23 => ⟨S12544x64x36, .i32⟩
  | 24 => ⟨S12544x64x36, .i32⟩
  | 25 => ⟨S12544x64x36, .i32⟩
  | 26 => ⟨S64x36x1, .i32⟩
  | 27 => ⟨S64x36, .i32⟩
  | 28 => ⟨S_, .i32⟩
  | 29 => ⟨S64x36, .i32⟩
  | 30 => ⟨S64x36, .i1⟩
  | 31 => ⟨S_, .i32⟩
  | 32 => ⟨S64x36, .i32⟩
  | 33 => ⟨S64x36, .i32⟩
  | 34 => ⟨S64x36, .i32⟩
  | 35 => ⟨S64x36x1, .i32⟩
  | 36 => ⟨S12544x64x36, .i32⟩
  | 37 => ⟨S_, .i32⟩
  | 38 => ⟨S12544x64x36, .i32⟩
  | 39 => ⟨S12544x64x36, .i32⟩
  | 40 => ⟨S12544x64x36, .i32⟩
  | 41 => ⟨S64x36x1, .i32⟩
  | 42 => ⟨S64x36, .i32⟩
  | 43 => ⟨S_, .i32⟩
  | 44 => ⟨S64x36, .i32⟩
  | 45 => ⟨S64x36, .i1⟩
  | 46 => ⟨S_, .i32⟩
  | 47 => ⟨S64x36, .i32⟩
  | 48 => ⟨S64x36, .i32⟩
  | 49 => ⟨S64x36, .i32⟩
  | 50 => ⟨S64x36x1, .i32⟩
  | 51 => ⟨S12544x64x36, .i32⟩
  | 52 => ⟨S_, .i32⟩
  | 53 => ⟨S12544x64x36, .i32⟩
  | 54 => ⟨S12544x64x36, .i32⟩
  | 55 => ⟨S12544x64x36, .i32⟩
  | 56 => ⟨S64, .i32⟩
  | 57 => ⟨S1x64x1, .i32⟩
  | 58 => ⟨S36, .i32⟩
  | 59 => ⟨S1x1x36, .i32⟩
  | 60 => ⟨S_, .i32⟩
  | 61 => ⟨S1x64x1, .i32⟩
  | 62 => ⟨S1x64x1, .i1⟩
  | 63 => ⟨S_, .i32⟩
  | 64 => ⟨S1x64x1, .i32⟩
  | 65 => ⟨S1x64x1, .i32⟩
  | 66 => ⟨S1x64x1, .i32⟩
  | 67 => ⟨S_, .i32⟩
  | 68 => ⟨S1x1x36, .i32⟩
  | 69 => ⟨S1x1x36, .i1⟩
  | 70 => ⟨S_, .i32⟩
  | 71 => ⟨S1x1x36, .i32⟩
  | 72 => ⟨S1x1x36, .i32⟩
  | 73 => ⟨S1x1x36, .i32⟩
  | 74 => ⟨S_, .i32⟩
  | 75 => ⟨S12544x64x36, .i32⟩
  | 76 => ⟨S12544x64x36, .i1⟩
  | 77 => ⟨S_, .i32⟩
  | 78 => ⟨S12544x64x36, .i32⟩
  | 79 => ⟨S12544x64x36, .i32⟩
  | 80 => ⟨S12544x64x36, .i32⟩
  | 81 => ⟨S12544x64x36, .i32⟩
  | 82 => ⟨S12544x64x36, .i32⟩
  | 83 => ⟨S12544x64x36x1, .i32⟩
  | 84 => ⟨S12544x64x36x1, .i32⟩
  | 85 => ⟨S12544x64x36x1, .i32⟩
  | 86 => ⟨S12544x64x36x3, .i32⟩
  | 87 => ⟨S12544x64x36, .f32⟩
  | 88 => ⟨S_, .f32⟩
  | 89 => ⟨S12544x64x36, .f32⟩
  | 90 => ⟨S12544x64x36, .i1⟩
  | 91 => ⟨S12544x64x36, .i32⟩
  | 92 => ⟨S12544, .i32⟩
  | 93 => ⟨S12544x1x1, .i32⟩
  | 94 => ⟨S64, .i32⟩
  | 95 => ⟨S1x64x1, .i32⟩
  | 96 => ⟨S_, .i32⟩
  | 97 => ⟨S12544x64x6, .i32⟩
  | 98 => ⟨S64x6x1, .i32⟩
  | 99 => ⟨S64x6, .i32⟩
  | 100 => ⟨S1x64x6, .i32⟩
  | 101 => ⟨S_, .i32⟩
  | 102 => ⟨S12544x1x1, .i32⟩
  | 103 => ⟨S12544x1x1, .i1⟩
  | 104 => ⟨S_, .i32⟩
  | 105 => ⟨S12544x1x1, .i32⟩
  | 106 => ⟨S12544x1x1, .i32⟩
  | 107 => ⟨S12544x1x1, .i32⟩
  | 108 => ⟨S_, .i32⟩
  | 109 => ⟨S1x64x1, .i32⟩
  | 110 => ⟨S1x64x1, .i1⟩
  | 111 => ⟨S_, .i32⟩
  | 112 => ⟨S1x64x1, .i32⟩
  | 113 => ⟨S1x64x1, .i32⟩
  | 114 => ⟨S1x64x1, .i32⟩
  | 115 => ⟨S_, .i32⟩
  | 116 => ⟨S1x64x6, .i32⟩
  | 117 => ⟨S1x64x6, .i1⟩
  | 118 => ⟨S_, .i32⟩
  | 119 => ⟨S1x64x6, .i32⟩
  | 120 => ⟨S1x64x6, .i32⟩
  | 121 => ⟨S1x64x6, .i32⟩
  | 122 => ⟨S12544x64x6, .i32⟩
  | 123 => ⟨S12544x64x6, .i32⟩
  | 124 => ⟨S12544x64x6, .i32⟩
  | 125 => ⟨S12544x64x6x1, .i32⟩
  | 126 => ⟨S12544x64x6x1, .i32⟩
  | 127 => ⟨S12544x64x6x1, .i32⟩
  | _ => ⟨S16x1x32x32, .f32⟩

abbrev hbmTy0_2 (i : Nat) : BufTy := match i % 128 with
  | 0 => ⟨S12544x64x6x3, .i32⟩
  | 1 => ⟨S12544x64x6, .i32⟩
  | 2 => ⟨S_, .i32⟩
  | 3 => ⟨S12544x64x6, .i32⟩
  | 4 => ⟨S12544x64x6, .i32⟩
  | 5 => ⟨S12544x64x6, .i32⟩
  | 6 => ⟨S64x6x1, .i32⟩
  | 7 => ⟨S64x6, .i32⟩
  | 8 => ⟨S1x64x6, .i32⟩
  | 9 => ⟨S_, .i32⟩
  | 10 => ⟨S12544x1x1, .i32⟩
  | 11 => ⟨S12544x1x1, .i1⟩
  | 12 => ⟨S_, .i32⟩
  | 13 => ⟨S12544x1x1, .i32⟩
  | 14 => ⟨S12544x1x1, .i32⟩
  | 15 => ⟨S12544x1x1, .i32⟩
  | 16 => ⟨S_, .i32⟩
  | 17 => ⟨S1x64x1, .i32⟩
  | 18 => ⟨S1x64x1, .i1⟩
  | 19 => ⟨S_, .i32⟩
  | 20 => ⟨S1x64x1, .i32⟩
  | 21 => ⟨S1x64x1, .i32⟩
  | 22 => ⟨S1x64x1, .i32⟩
  | 23 => ⟨S_, .i32⟩
  | 24 => ⟨S1x64x6, .i32⟩
  | 25 => ⟨S1x64x6, .i1⟩
  | 26 => ⟨S_, .i32⟩
  | 27 => ⟨S1x64x6, .i32⟩
  | 28 => ⟨S1x64x6, .i32⟩
  | 29 => ⟨S1x64x6, .i32⟩
  | 30 => ⟨S12544x64x6, .i32⟩
  | 31 => ⟨S12544x64x6, .i32⟩
  | 32 => ⟨S12544x64x6, .i32⟩
  | 33 => ⟨S12544x64x6x1, .i32⟩
  | 34 => ⟨S12544x64x6x1, .i32⟩
  | 35 => ⟨S12544x64x6x1, .i32⟩
  | 36 => ⟨S12544x64x6x3, .i32⟩
  | 37 => ⟨S12544x64x6, .i32⟩
  | 38 => ⟨S_, .i32⟩
  | 39 => ⟨S12544x64x6, .i32⟩
  | 40 => ⟨S12544x64x6, .i32⟩
  | 41 => ⟨S12544x64x6, .i32⟩
  | 42 => ⟨S64x6x1, .i32⟩
  | 43 => ⟨S64x6, .i32⟩
  | 44 => ⟨S1x64x6, .i32⟩
  | 45 => ⟨S_, .i32⟩
  | 46 => ⟨S12544x1x1, .i32⟩
  | 47 => ⟨S12544x1x1, .i1⟩
  | 48 => ⟨S_, .i32⟩
  | 49 => ⟨S12544x1x1, .i32⟩
  | 50 => ⟨S12544x1x1, .i32⟩
  | 51 => ⟨S12544x1x1, .i32⟩
  | 52 => ⟨S_, .i32⟩
  | 53 => ⟨S1x64x1, .i32⟩
  | 54 => ⟨S1x64x1, .i1⟩
  | 55 => ⟨S_, .i32⟩
  | 56 => ⟨S1x64x1, .i32⟩
  | 57 => ⟨S1x64x1, .i32⟩
  | 58 => ⟨S1x64x1, .i32⟩
  | 59 => ⟨S_, .i32⟩
  | 60 => ⟨S1x64x6, .i32⟩
  | 61 => ⟨S1x64x6, .i1⟩
  | 62 => ⟨S_, .i32⟩
  | 63 => ⟨S1x64x6, .i32⟩
  | 64 => ⟨S1x64x6, .i32⟩
  | 65 => ⟨S1x64x6, .i32⟩
  | 66 => ⟨S12544x64x6, .i32⟩
  | 67 => ⟨S12544x64x6, .i32⟩
  | 68 => ⟨S12544x64x6, .i32⟩
  | 69 => ⟨S12544x64x6x1, .i32⟩
  | 70 => ⟨S12544x64x6x1, .i32⟩
  | 71 => ⟨S12544x64x6x1, .i32⟩
  | 72 => ⟨S12544x64x6x3, .i32⟩
  | 73 => ⟨S12544x64x6, .i32⟩
  | 74 => ⟨S_, .i32⟩
  | 75 => ⟨S12544x64x6, .i32⟩
  | 76 => ⟨S12544x64x6, .i32⟩
  | 77 => ⟨S12544x64x6, .i32⟩
  | 78 => ⟨S64x6x1, .i32⟩
  | 79 => ⟨S64x6, .i32⟩
  | 80 => ⟨S1x64x6, .i32⟩
  | 81 => ⟨S_, .i32⟩
  | 82 => ⟨S12544x1x1, .i32⟩
  | 83 => ⟨S12544x1x1, .i1⟩
  | 84 => ⟨S_, .i32⟩
  | 85 => ⟨S12544x1x1, .i32⟩
  | 86 => ⟨S12544x1x1, .i32⟩
  | 87 => ⟨S12544x1x1, .i32⟩
  | 88 => ⟨S_, .i32⟩
  | 89 => ⟨S1x64x1, .i32⟩
  | 90 => ⟨S1x64x1, .i1⟩
  | 91 => ⟨S_, .i32⟩
  | 92 => ⟨S1x64x1, .i32⟩
  | 93 => ⟨S1x64x1, .i32⟩
  | 94 => ⟨S1x64x1, .i32⟩
  | 95 => ⟨S_, .i32⟩
  | 96 => ⟨S1x64x6, .i32⟩
  | 97 => ⟨S1x64x6, .i1⟩
  | 98 => ⟨S_, .i32⟩
  | 99 => ⟨S1x64x6, .i32⟩
  | 100 => ⟨S1x64x6, .i32⟩
  | 101 => ⟨S1x64x6, .i32⟩
  | 102 => ⟨S12544x64x6, .i32⟩
  | 103 => ⟨S12544x64x6, .i32⟩
  | 104 => ⟨S12544x64x6, .i32⟩
  | 105 => ⟨S12544x64x6x1, .i32⟩
  | 106 => ⟨S12544x64x6x1, .i32⟩
  | 107 => ⟨S12544x64x6x1, .i32⟩
  | 108 => ⟨S12544x64x6x3, .i32⟩
  | 109 => ⟨S12544x64x6, .i32⟩
  | 110 => ⟨S_, .i32⟩
  | 111 => ⟨S12544x64x6, .i32⟩
  | 112 => ⟨S12544x64x6, .i32⟩
  | 113 => ⟨S12544x64x6, .i32⟩
  | 114 => ⟨S64x6x1, .i32⟩
  | 115 => ⟨S64x6, .i32⟩
  | 116 => ⟨S1x64x6, .i32⟩
  | 117 => ⟨S_, .i32⟩
  | 118 => ⟨S12544x1x1, .i32⟩
  | 119 => ⟨S12544x1x1, .i1⟩
  | 120 => ⟨S_, .i32⟩
  | 121 => ⟨S12544x1x1, .i32⟩
  | 122 => ⟨S12544x1x1, .i32⟩
  | 123 => ⟨S12544x1x1, .i32⟩
  | 124 => ⟨S_, .i32⟩
  | 125 => ⟨S1x64x1, .i32⟩
  | 126 => ⟨S1x64x1, .i1⟩
  | 127 => ⟨S_, .i32⟩
  | _ => ⟨S16x1x32x32, .f32⟩

abbrev hbmTy0_3 (i : Nat) : BufTy := match i % 128 with
  | 0 => ⟨S1x64x1, .i32⟩
  | 1 => ⟨S1x64x1, .i32⟩
  | 2 => ⟨S1x64x1, .i32⟩
  | 3 => ⟨S_, .i32⟩
  | 4 => ⟨S1x64x6, .i32⟩
  | 5 => ⟨S1x64x6, .i1⟩
  | 6 => ⟨S_, .i32⟩
  | 7 => ⟨S1x64x6, .i32⟩
  | 8 => ⟨S1x64x6, .i32⟩
  | 9 => ⟨S1x64x6, .i32⟩
  | 10 => ⟨S12544x64x6, .i32⟩
  | 11 => ⟨S12544x64x6, .i32⟩
  | 12 => ⟨S12544x64x6, .i32⟩
  | 13 => ⟨S12544x64x6x1, .i32⟩
  | 14 => ⟨S12544x64x6x1, .i32⟩
  | 15 => ⟨S12544x64x6x1, .i32⟩
  | 16 => ⟨S12544x64x6x3, .i32⟩
  | 17 => ⟨S12544x64x6, .i32⟩
  | 18 => ⟨S_, .i32⟩
  | 19 => ⟨S12544x64x6, .i32⟩
  | 20 => ⟨S12544x64x6, .i32⟩
  | 21 => ⟨S12544x64x6, .i32⟩
  | 22 => ⟨S64x6x1, .i32⟩
  | 23 => ⟨S64x6, .i32⟩
  | 24 => ⟨S1x64x6, .i32⟩
  | 25 => ⟨S_, .i32⟩
  | 26 => ⟨S12544x1x1, .i32⟩
  | 27 => ⟨S12544x1x1, .i1⟩
  | 28 => ⟨S_, .i32⟩
  | 29 => ⟨S12544x1x1, .i32⟩
  | 30 => ⟨S12544x1x1, .i32⟩
  | 31 => ⟨S12544x1x1, .i32⟩
  | 32 => ⟨S_, .i32⟩
  | 33 => ⟨S1x64x1, .i32⟩
  | 34 => ⟨S1x64x1, .i1⟩
  | 35 => ⟨S_, .i32⟩
  | 36 => ⟨S1x64x1, .i32⟩
  | 37 => ⟨S1x64x1, .i32⟩
  | 38 => ⟨S1x64x1, .i32⟩
  | 39 => ⟨S_, .i32⟩
  | 40 => ⟨S1x64x6, .i32⟩
  | 41 => ⟨S1x64x6, .i1⟩
  | 42 => ⟨S_, .i32⟩
  | 43 => ⟨S1x64x6, .i32⟩
  | 44 => ⟨S1x64x6, .i32⟩
  | 45 => ⟨S1x64x6, .i32⟩
  | 46 => ⟨S12544x64x6, .i32⟩
  | 47 => ⟨S12544x64x6, .i32⟩
  | 48 => ⟨S12544x64x6, .i32⟩
  | 49 => ⟨S12544x64x6x1, .i32⟩
  | 50 => ⟨S12544x64x6x1, .i32⟩
  | 51 => ⟨S12544x64x6x1, .i32⟩
  | 52 => ⟨S12544x64x6x3, .i32⟩
  | 53 => ⟨S12544x64x6, .i32⟩
  | 54 => ⟨S_, .i32⟩
  | 55 => ⟨S12544x64x6, .i32⟩
  | 56 => ⟨S12544x64x6, .i32⟩
  | 57 => ⟨S12544x64x6, .i32⟩
  | 58 => ⟨S6, .i32⟩
  | 59 => ⟨S1x1x6, .i32⟩
  | 60 => ⟨S_, .i32⟩
  | 61 => ⟨S1x64x1, .i32⟩
  | 62 => ⟨S1x64x1, .i1⟩
  | 63 => ⟨S_, .i32⟩
  | 64 => ⟨S1x64x1, .i32⟩
  | 65 => ⟨S1x64x1, .i32⟩
  | 66 => ⟨S1x64x1, .i32⟩
  | 67 => ⟨S_, .i32⟩
  | 68 => ⟨S1x1x6, .i32⟩
  | 69 => ⟨S1x1x6, .i1⟩
  | 70 => ⟨S_, .i32⟩
  | 71 => ⟨S1x1x6, .i32⟩
  | 72 => ⟨S1x1x6, .i32⟩
  | 73 => ⟨S1x1x6, .i32⟩
  | 74 => ⟨S_, .i32⟩
  | 75 => ⟨S12544x64x6, .i32⟩
  | 76 => ⟨S12544x64x6, .i1⟩
  | 77 => ⟨S_, .i32⟩
  | 78 => ⟨S12544x64x6, .i32⟩
  | 79 => ⟨S12544x64x6, .i32⟩
  | 80 => ⟨S12544x64x6, .i32⟩
  | 81 => ⟨S12544x64x6, .i32⟩
  | 82 => ⟨S12544x64x6, .i32⟩
  | 83 => ⟨S12544x64x6x1, .i32⟩
  | 84 => ⟨S12544x64x6x1, .i32⟩
  | 85 => ⟨S12544x64x6x1, .i32⟩
  | 86 => ⟨S12544x64x6x3, .i32⟩
  | 87 => ⟨S12544x64x6, .f32⟩
  | 88 => ⟨S_, .f32⟩
  | 89 => ⟨S12544x64x6, .f32⟩
  | 90 => ⟨S12544x64x6, .i1⟩
  | 91 => ⟨S12544x64x6, .i32⟩
  | 92 => ⟨S12544, .i32⟩
  | 93 => ⟨S12544x1x1, .i32⟩
  | 94 => ⟨S64, .i32⟩
  | 95 => ⟨S1x64x1, .i32⟩
  | 96 => ⟨S_, .i32⟩
  | 97 => ⟨S12544x64x1, .i32⟩
  | 98 => ⟨S64x1x1, .i32⟩
  | 99 => ⟨S64x1, .i32⟩
  | 100 => ⟨S1x64x1, .i32⟩
  | 101 => ⟨S_, .i32⟩
  | 102 => ⟨S12544x1x1, .i32⟩
  | 103 => ⟨S12544x1x1, .i1⟩
  | 104 => ⟨S_, .i32⟩
  | 105 => ⟨S12544x1x1, .i32⟩
  | 106 => ⟨S12544x1x1, .i32⟩
  | 107 => ⟨S12544x1x1, .i32⟩
  | 108 => ⟨S_, .i32⟩
  | 109 => ⟨S1x64x1, .i32⟩
  | 110 => ⟨S1x64x1, .i1⟩
  | 111 => ⟨S_, .i32⟩
  | 112 => ⟨S1x64x1, .i32⟩
  | 113 => ⟨S1x64x1, .i32⟩
  | 114 => ⟨S1x64x1, .i32⟩
  | 115 => ⟨S_, .i32⟩
  | 116 => ⟨S1x64x1, .i32⟩
  | 117 => ⟨S1x64x1, .i1⟩
  | 118 => ⟨S_, .i32⟩
  | 119 => ⟨S1x64x1, .i32⟩
  | 120 => ⟨S1x64x1, .i32⟩
  | 121 => ⟨S1x64x1, .i32⟩
  | 122 => ⟨S12544x64x1, .i32⟩
  | 123 => ⟨S12544x64x1, .i32⟩
  | 124 => ⟨S12544x64x1, .i32⟩
  | 125 => ⟨S12544x64x1x1, .i32⟩
  | 126 => ⟨S12544x64x1x1, .i32⟩
  | 127 => ⟨S12544x64x1x1, .i32⟩
  | _ => ⟨S16x1x32x32, .f32⟩

abbrev hbmTy0_4 (i : Nat) : BufTy := match i % 128 with
  | 0 => ⟨S12544x64x1x3, .i32⟩
  | 1 => ⟨S12544x64x1, .i32⟩
  | 2 => ⟨S_, .i32⟩
  | 3 => ⟨S12544x64x1, .i32⟩
  | 4 => ⟨S12544x64x1, .i32⟩
  | 5 => ⟨S12544x64x1, .i32⟩
  | 6 => ⟨S64x1x1, .i32⟩
  | 7 => ⟨S64x1, .i32⟩
  | 8 => ⟨S1x64x1, .i32⟩
  | 9 => ⟨S_, .i32⟩
  | 10 => ⟨S12544x1x1, .i32⟩
  | 11 => ⟨S12544x1x1, .i1⟩
  | 12 => ⟨S_, .i32⟩
  | 13 => ⟨S12544x1x1, .i32⟩
  | 14 => ⟨S12544x1x1, .i32⟩
  | 15 => ⟨S12544x1x1, .i32⟩
  | 16 => ⟨S_, .i32⟩
  | 17 => ⟨S1x64x1, .i32⟩
  | 18 => ⟨S1x64x1, .i1⟩
  | 19 => ⟨S_, .i32⟩
  | 20 => ⟨S1x64x1, .i32⟩
  | 21 => ⟨S1x64x1, .i32⟩
  | 22 => ⟨S1x64x1, .i32⟩
  | 23 => ⟨S_, .i32⟩
  | 24 => ⟨S1x64x1, .i32⟩
  | 25 => ⟨S1x64x1, .i1⟩
  | 26 => ⟨S_, .i32⟩
  | 27 => ⟨S1x64x1, .i32⟩
  | 28 => ⟨S1x64x1, .i32⟩
  | 29 => ⟨S1x64x1, .i32⟩
  | 30 => ⟨S12544x64x1, .i32⟩
  | 31 => ⟨S12544x64x1, .i32⟩
  | 32 => ⟨S12544x64x1, .i32⟩
  | 33 => ⟨S12544x64x1x1, .i32⟩
  | 34 => ⟨S12544x64x1x1, .i32⟩
  | 35 => ⟨S12544x64x1x1, .i32⟩
  | 36 => ⟨S12544x64x1x3, .i32⟩
  | 37 => ⟨S12544x64x1, .i32⟩
  | 38 => ⟨S_, .i32⟩
  | 39 => ⟨S12544x64x1, .i32⟩
  | 40 => ⟨S12544x64x1, .i32⟩
  | 41 => ⟨S12544x64x1, .i32⟩
  | 42 => ⟨S64x1x1, .i32⟩
  | 43 => ⟨S64x1, .i32⟩
  | 44 => ⟨S1x64x1, .i32⟩
  | 45 => ⟨S_, .i32⟩
  | 46 => ⟨S12544x1x1, .i32⟩
  | 47 => ⟨S12544x1x1, .i1⟩
  | 48 => ⟨S_, .i32⟩
  | 49 => ⟨S12544x1x1, .i32⟩
  | 50 => ⟨S12544x1x1, .i32⟩
  | 51 => ⟨S12544x1x1, .i32⟩
  | 52 => ⟨S_, .i32⟩
  | 53 => ⟨S1x64x1, .i32⟩
  | 54 => ⟨S1x64x1, .i1⟩
  | 55 => ⟨S_, .i32⟩
  | 56 => ⟨S1x64x1, .i32⟩
  | 57 => ⟨S1x64x1, .i32⟩
  | 58 => ⟨S1x64x1, .i32⟩
  | 59 => ⟨S_, .i32⟩
  | 60 => ⟨S1x64x1, .i32⟩
  | 61 => ⟨S1x64x1, .i1⟩
  | 62 => ⟨S_, .i32⟩
  | 63 => ⟨S1x64x1, .i32⟩
  | 64 => ⟨S1x64x1, .i32⟩
  | 65 => ⟨S1x64x1, .i32⟩
  | 66 => ⟨S12544x64x1, .i32⟩
  | 67 => ⟨S12544x64x1, .i32⟩
  | 68 => ⟨S12544x64x1, .i32⟩
  | 69 => ⟨S12544x64x1x1, .i32⟩
  | 70 => ⟨S12544x64x1x1, .i32⟩
  | 71 => ⟨S12544x64x1x1, .i32⟩
  | 72 => ⟨S12544x64x1x3, .i32⟩
  | 73 => ⟨S12544x64x1, .i32⟩
  | 74 => ⟨S_, .i32⟩
  | 75 => ⟨S12544x64x1, .i32⟩
  | 76 => ⟨S12544x64x1, .i32⟩
  | 77 => ⟨S12544x64x1, .i32⟩
  | 78 => ⟨S64x1x1, .i32⟩
  | 79 => ⟨S64x1, .i32⟩
  | 80 => ⟨S1x64x1, .i32⟩
  | 81 => ⟨S_, .i32⟩
  | 82 => ⟨S12544x1x1, .i32⟩
  | 83 => ⟨S12544x1x1, .i1⟩
  | 84 => ⟨S_, .i32⟩
  | 85 => ⟨S12544x1x1, .i32⟩
  | 86 => ⟨S12544x1x1, .i32⟩
  | 87 => ⟨S12544x1x1, .i32⟩
  | 88 => ⟨S_, .i32⟩
  | 89 => ⟨S1x64x1, .i32⟩
  | 90 => ⟨S1x64x1, .i1⟩
  | 91 => ⟨S_, .i32⟩
  | 92 => ⟨S1x64x1, .i32⟩
  | 93 => ⟨S1x64x1, .i32⟩
  | 94 => ⟨S1x64x1, .i32⟩
  | 95 => ⟨S_, .i32⟩
  | 96 => ⟨S1x64x1, .i32⟩
  | 97 => ⟨S1x64x1, .i1⟩
  | 98 => ⟨S_, .i32⟩
  | 99 => ⟨S1x64x1, .i32⟩
  | 100 => ⟨S1x64x1, .i32⟩
  | 101 => ⟨S1x64x1, .i32⟩
  | 102 => ⟨S12544x64x1, .i32⟩
  | 103 => ⟨S12544x64x1, .i32⟩
  | 104 => ⟨S12544x64x1, .i32⟩
  | 105 => ⟨S12544x64x1x1, .i32⟩
  | 106 => ⟨S12544x64x1x1, .i32⟩
  | 107 => ⟨S12544x64x1x1, .i32⟩
  | 108 => ⟨S12544x64x1x3, .i32⟩
  | 109 => ⟨S12544x64x1, .i32⟩
  | 110 => ⟨S_, .i32⟩
  | 111 => ⟨S12544x64x1, .i32⟩
  | 112 => ⟨S12544x64x1, .i32⟩
  | 113 => ⟨S12544x64x1, .i32⟩
  | 114 => ⟨S64x1x1, .i32⟩
  | 115 => ⟨S64x1, .i32⟩
  | 116 => ⟨S1x64x1, .i32⟩
  | 117 => ⟨S_, .i32⟩
  | 118 => ⟨S12544x1x1, .i32⟩
  | 119 => ⟨S12544x1x1, .i1⟩
  | 120 => ⟨S_, .i32⟩
  | 121 => ⟨S12544x1x1, .i32⟩
  | 122 => ⟨S12544x1x1, .i32⟩
  | 123 => ⟨S12544x1x1, .i32⟩
  | 124 => ⟨S_, .i32⟩
  | 125 => ⟨S1x64x1, .i32⟩
  | 126 => ⟨S1x64x1, .i1⟩
  | 127 => ⟨S_, .i32⟩
  | _ => ⟨S16x1x32x32, .f32⟩

abbrev hbmTy0_5 (i : Nat) : BufTy := match i % 128 with
  | 0 => ⟨S1x64x1, .i32⟩
  | 1 => ⟨S1x64x1, .i32⟩
  | 2 => ⟨S1x64x1, .i32⟩
  | 3 => ⟨S_, .i32⟩
  | 4 => ⟨S1x64x1, .i32⟩
  | 5 => ⟨S1x64x1, .i1⟩
  | 6 => ⟨S_, .i32⟩
  | 7 => ⟨S1x64x1, .i32⟩
  | 8 => ⟨S1x64x1, .i32⟩
  | 9 => ⟨S1x64x1, .i32⟩
  | 10 => ⟨S12544x64x1, .i32⟩
  | 11 => ⟨S12544x64x1, .i32⟩
  | 12 => ⟨S12544x64x1, .i32⟩
  | 13 => ⟨S12544x64x1x1, .i32⟩
  | 14 => ⟨S12544x64x1x1, .i32⟩
  | 15 => ⟨S12544x64x1x1, .i32⟩
  | 16 => ⟨S12544x64x1x3, .i32⟩
  | 17 => ⟨S12544x64x1, .i32⟩
  | 18 => ⟨S_, .i32⟩
  | 19 => ⟨S12544x64x1, .i32⟩
  | 20 => ⟨S12544x64x1, .i32⟩
  | 21 => ⟨S12544x64x1, .i32⟩
  | 22 => ⟨S64x1x1, .i32⟩
  | 23 => ⟨S64x1, .i32⟩
  | 24 => ⟨S1x64x1, .i32⟩
  | 25 => ⟨S_, .i32⟩
  | 26 => ⟨S12544x1x1, .i32⟩
  | 27 => ⟨S12544x1x1, .i1⟩
  | 28 => ⟨S_, .i32⟩
  | 29 => ⟨S12544x1x1, .i32⟩
  | 30 => ⟨S12544x1x1, .i32⟩
  | 31 => ⟨S12544x1x1, .i32⟩
  | 32 => ⟨S_, .i32⟩
  | 33 => ⟨S1x64x1, .i32⟩
  | 34 => ⟨S1x64x1, .i1⟩
  | 35 => ⟨S_, .i32⟩
  | 36 => ⟨S1x64x1, .i32⟩
  | 37 => ⟨S1x64x1, .i32⟩
  | 38 => ⟨S1x64x1, .i32⟩
  | 39 => ⟨S_, .i32⟩
  | 40 => ⟨S1x64x1, .i32⟩
  | 41 => ⟨S1x64x1, .i1⟩
  | 42 => ⟨S_, .i32⟩
  | 43 => ⟨S1x64x1, .i32⟩
  | 44 => ⟨S1x64x1, .i32⟩
  | 45 => ⟨S1x64x1, .i32⟩
  | 46 => ⟨S12544x64x1, .i32⟩
  | 47 => ⟨S12544x64x1, .i32⟩
  | 48 => ⟨S12544x64x1, .i32⟩
  | 49 => ⟨S12544x64x1x1, .i32⟩
  | 50 => ⟨S12544x64x1x1, .i32⟩
  | 51 => ⟨S12544x64x1x1, .i32⟩
  | 52 => ⟨S12544x64x1x3, .i32⟩
  | 53 => ⟨S12544x64x1, .i32⟩
  | 54 => ⟨S_, .i32⟩
  | 55 => ⟨S12544x64x1, .i32⟩
  | 56 => ⟨S12544x64x1, .i32⟩
  | 57 => ⟨S12544x64x1, .i32⟩
  | 58 => ⟨S1, .i32⟩
  | 59 => ⟨S1x1x1, .i32⟩
  | 60 => ⟨S_, .i32⟩
  | 61 => ⟨S1x64x1, .i32⟩
  | 62 => ⟨S1x64x1, .i1⟩
  | 63 => ⟨S_, .i32⟩
  | 64 => ⟨S1x64x1, .i32⟩
  | 65 => ⟨S1x64x1, .i32⟩
  | 66 => ⟨S1x64x1, .i32⟩
  | 67 => ⟨S_, .i32⟩
  | 68 => ⟨S1x1x1, .i32⟩
  | 69 => ⟨S1x1x1, .i1⟩
  | 70 => ⟨S_, .i32⟩
  | 71 => ⟨S1x1x1, .i32⟩
  | 72 => ⟨S1x1x1, .i32⟩
  | 73 => ⟨S1x1x1, .i32⟩
  | 74 => ⟨S_, .i32⟩
  | 75 => ⟨S12544x64x1, .i32⟩
  | 76 => ⟨S12544x64x1, .i1⟩
  | 77 => ⟨S_, .i32⟩
  | 78 => ⟨S12544x64x1, .i32⟩
  | 79 => ⟨S12544x64x1, .i32⟩
  | 80 => ⟨S12544x64x1, .i32⟩
  | 81 => ⟨S12544x64x1, .i32⟩
  | 82 => ⟨S12544x64x1, .i32⟩
  | 83 => ⟨S12544x64x1x1, .i32⟩
  | 84 => ⟨S12544x64x1x1, .i32⟩
  | 85 => ⟨S12544x64x1x1, .i32⟩
  | 86 => ⟨S12544x64x1x3, .i32⟩
  | 87 => ⟨S12544x64x1, .f32⟩
  | 88 => ⟨S12544x64, .f32⟩
  | 89 => ⟨S16x784x64, .f32⟩
  | 90 => ⟨S16x64x784, .f32⟩
  | 91 => ⟨S16x64x28x28, .f32⟩
  | _ => ⟨S16x1x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x1x32x32, .f32⟩

abbrev bufTy : (tb : Table) → Fin (tcTables nBuf tb) → BufTy
  | .hbm, ⟨i, _⟩ => hbmTy i
  | _, _ => ⟨S16x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_cst : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_c : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_c_0 : Ref sig .tc := ⟨.hbm, 96, rfl⟩
abbrev main_v87 : Ref sig .tc := ⟨.hbm, 97, rfl⟩
abbrev main_v88 : Ref sig .tc := ⟨.hbm, 98, rfl⟩
abbrev main_c_1 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_c_2 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_c_3 : Ref sig .tc := ⟨.hbm, 111, rfl⟩
abbrev main_v99 : Ref sig .tc := ⟨.hbm, 112, rfl⟩
abbrev main_v100 : Ref sig .tc := ⟨.hbm, 113, rfl⟩
abbrev main_c_4 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_c_5 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_c_6 : Ref sig .tc := ⟨.hbm, 126, rfl⟩
abbrev main_v111 : Ref sig .tc := ⟨.hbm, 127, rfl⟩
abbrev main_v112 : Ref sig .tc := ⟨.hbm, 128, rfl⟩
abbrev main_c_7 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_c_8 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_c_9 : Ref sig .tc := ⟨.hbm, 141, rfl⟩
abbrev main_v123 : Ref sig .tc := ⟨.hbm, 142, rfl⟩
abbrev main_v124 : Ref sig .tc := ⟨.hbm, 143, rfl⟩
abbrev main_c_10 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_c_11 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_c_12 : Ref sig .tc := ⟨.hbm, 156, rfl⟩
abbrev main_v135 : Ref sig .tc := ⟨.hbm, 157, rfl⟩
abbrev main_v136 : Ref sig .tc := ⟨.hbm, 158, rfl⟩
abbrev main_c_13 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_c_14 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_c_15 : Ref sig .tc := ⟨.hbm, 171, rfl⟩
abbrev main_v147 : Ref sig .tc := ⟨.hbm, 172, rfl⟩
abbrev main_v148 : Ref sig .tc := ⟨.hbm, 173, rfl⟩
abbrev main_c_16 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_c_17 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_c_18 : Ref sig .tc := ⟨.hbm, 188, rfl⟩
abbrev main_v161 : Ref sig .tc := ⟨.hbm, 189, rfl⟩
abbrev main_v162 : Ref sig .tc := ⟨.hbm, 190, rfl⟩
abbrev main_c_19 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_c_20 : Ref sig .tc := ⟨.hbm, 195, rfl⟩
abbrev main_v166 : Ref sig .tc := ⟨.hbm, 196, rfl⟩
abbrev main_v167 : Ref sig .tc := ⟨.hbm, 197, rfl⟩
abbrev main_c_21 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_c_22 : Ref sig .tc := ⟨.hbm, 202, rfl⟩
abbrev main_v171 : Ref sig .tc := ⟨.hbm, 203, rfl⟩
abbrev main_v172 : Ref sig .tc := ⟨.hbm, 204, rfl⟩
abbrev main_c_23 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_cst_24 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_c_25 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_c_26 : Ref sig .tc := ⟨.hbm, 229, rfl⟩
abbrev main_v194 : Ref sig .tc := ⟨.hbm, 230, rfl⟩
abbrev main_v195 : Ref sig .tc := ⟨.hbm, 231, rfl⟩
abbrev main_c_27 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_c_28 : Ref sig .tc := ⟨.hbm, 236, rfl⟩
abbrev main_v199 : Ref sig .tc := ⟨.hbm, 237, rfl⟩
abbrev main_v200 : Ref sig .tc := ⟨.hbm, 238, rfl⟩
abbrev main_c_29 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_c_30 : Ref sig .tc := ⟨.hbm, 243, rfl⟩
abbrev main_v204 : Ref sig .tc := ⟨.hbm, 244, rfl⟩
abbrev main_v205 : Ref sig .tc := ⟨.hbm, 245, rfl⟩
abbrev main_c_31 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_c_32 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_c_33 : Ref sig .tc := ⟨.hbm, 265, rfl⟩
abbrev main_v223 : Ref sig .tc := ⟨.hbm, 266, rfl⟩
abbrev main_v224 : Ref sig .tc := ⟨.hbm, 267, rfl⟩
abbrev main_c_34 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_c_35 : Ref sig .tc := ⟨.hbm, 272, rfl⟩
abbrev main_v228 : Ref sig .tc := ⟨.hbm, 273, rfl⟩
abbrev main_v229 : Ref sig .tc := ⟨.hbm, 274, rfl⟩
abbrev main_c_36 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_c_37 : Ref sig .tc := ⟨.hbm, 279, rfl⟩
abbrev main_v233 : Ref sig .tc := ⟨.hbm, 280, rfl⟩
abbrev main_v234 : Ref sig .tc := ⟨.hbm, 281, rfl⟩
abbrev main_c_38 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_c_39 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_c_40 : Ref sig .tc := ⟨.hbm, 301, rfl⟩
abbrev main_v252 : Ref sig .tc := ⟨.hbm, 302, rfl⟩
abbrev main_v253 : Ref sig .tc := ⟨.hbm, 303, rfl⟩
abbrev main_c_41 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_c_42 : Ref sig .tc := ⟨.hbm, 308, rfl⟩
abbrev main_v257 : Ref sig .tc := ⟨.hbm, 309, rfl⟩
abbrev main_v258 : Ref sig .tc := ⟨.hbm, 310, rfl⟩
abbrev main_c_43 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_c_44 : Ref sig .tc := ⟨.hbm, 315, rfl⟩
abbrev main_v262 : Ref sig .tc := ⟨.hbm, 316, rfl⟩
abbrev main_v263 : Ref sig .tc := ⟨.hbm, 317, rfl⟩
abbrev main_c_45 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_c_46 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_c_47 : Ref sig .tc := ⟨.hbm, 337, rfl⟩
abbrev main_v281 : Ref sig .tc := ⟨.hbm, 338, rfl⟩
abbrev main_v282 : Ref sig .tc := ⟨.hbm, 339, rfl⟩
abbrev main_c_48 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_c_49 : Ref sig .tc := ⟨.hbm, 344, rfl⟩
abbrev main_v286 : Ref sig .tc := ⟨.hbm, 345, rfl⟩
abbrev main_v287 : Ref sig .tc := ⟨.hbm, 346, rfl⟩
abbrev main_c_50 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_c_51 : Ref sig .tc := ⟨.hbm, 351, rfl⟩
abbrev main_v291 : Ref sig .tc := ⟨.hbm, 352, rfl⟩
abbrev main_v292 : Ref sig .tc := ⟨.hbm, 353, rfl⟩
abbrev main_c_52 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_c_53 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_c_54 : Ref sig .tc := ⟨.hbm, 373, rfl⟩
abbrev main_v310 : Ref sig .tc := ⟨.hbm, 374, rfl⟩
abbrev main_v311 : Ref sig .tc := ⟨.hbm, 375, rfl⟩
abbrev main_c_55 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_c_56 : Ref sig .tc := ⟨.hbm, 380, rfl⟩
abbrev main_v315 : Ref sig .tc := ⟨.hbm, 381, rfl⟩
abbrev main_v316 : Ref sig .tc := ⟨.hbm, 382, rfl⟩
abbrev main_c_57 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_c_58 : Ref sig .tc := ⟨.hbm, 387, rfl⟩
abbrev main_v320 : Ref sig .tc := ⟨.hbm, 388, rfl⟩
abbrev main_v321 : Ref sig .tc := ⟨.hbm, 389, rfl⟩
abbrev main_c_59 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_c_60 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_c_61 : Ref sig .tc := ⟨.hbm, 409, rfl⟩
abbrev main_v339 : Ref sig .tc := ⟨.hbm, 410, rfl⟩
abbrev main_v340 : Ref sig .tc := ⟨.hbm, 411, rfl⟩
abbrev main_c_62 : Ref sig .tc := ⟨.hbm, 412, rfl⟩
abbrev main_v341 : Ref sig .tc := ⟨.hbm, 413, rfl⟩
abbrev main_v342 : Ref sig .tc := ⟨.hbm, 414, rfl⟩
abbrev main_v343 : Ref sig .tc := ⟨.hbm, 415, rfl⟩
abbrev main_c_63 : Ref sig .tc := ⟨.hbm, 416, rfl⟩
abbrev main_v344 : Ref sig .tc := ⟨.hbm, 417, rfl⟩
abbrev main_v345 : Ref sig .tc := ⟨.hbm, 418, rfl⟩
abbrev main_c_64 : Ref sig .tc := ⟨.hbm, 419, rfl⟩
abbrev main_v346 : Ref sig .tc := ⟨.hbm, 420, rfl⟩
abbrev main_v347 : Ref sig .tc := ⟨.hbm, 421, rfl⟩
abbrev main_v348 : Ref sig .tc := ⟨.hbm, 422, rfl⟩
abbrev main_c_65 : Ref sig .tc := ⟨.hbm, 423, rfl⟩
abbrev main_v349 : Ref sig .tc := ⟨.hbm, 424, rfl⟩
abbrev main_v350 : Ref sig .tc := ⟨.hbm, 425, rfl⟩
abbrev main_c_66 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_c_67 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_c_68 : Ref sig .tc := ⟨.hbm, 444, rfl⟩
abbrev main_v367 : Ref sig .tc := ⟨.hbm, 445, rfl⟩
abbrev main_v368 : Ref sig .tc := ⟨.hbm, 446, rfl⟩
abbrev main_c_69 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_c_70 : Ref sig .tc := ⟨.hbm, 451, rfl⟩
abbrev main_v372 : Ref sig .tc := ⟨.hbm, 452, rfl⟩
abbrev main_v373 : Ref sig .tc := ⟨.hbm, 453, rfl⟩
abbrev main_c_71 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_c_72 : Ref sig .tc := ⟨.hbm, 458, rfl⟩
abbrev main_v377 : Ref sig .tc := ⟨.hbm, 459, rfl⟩
abbrev main_v378 : Ref sig .tc := ⟨.hbm, 460, rfl⟩
abbrev main_c_73 : Ref sig .tc := ⟨.hbm, 461, rfl⟩
abbrev main_v379 : Ref sig .tc := ⟨.hbm, 462, rfl⟩
abbrev main_v380 : Ref sig .tc := ⟨.hbm, 463, rfl⟩
abbrev main_v381 : Ref sig .tc := ⟨.hbm, 464, rfl⟩
abbrev main_v382 : Ref sig .tc := ⟨.hbm, 465, rfl⟩
abbrev main_v383 : Ref sig .tc := ⟨.hbm, 466, rfl⟩
abbrev main_v384 : Ref sig .tc := ⟨.hbm, 467, rfl⟩
abbrev main_v385 : Ref sig .tc := ⟨.hbm, 468, rfl⟩
abbrev main_v386 : Ref sig .tc := ⟨.hbm, 469, rfl⟩
abbrev main_v387 : Ref sig .tc := ⟨.hbm, 470, rfl⟩
abbrev main_v388 : Ref sig .tc := ⟨.hbm, 471, rfl⟩
abbrev main_cst_74 : Ref sig .tc := ⟨.hbm, 472, rfl⟩
abbrev main_v389 : Ref sig .tc := ⟨.hbm, 473, rfl⟩
abbrev main_v390 : Ref sig .tc := ⟨.hbm, 474, rfl⟩
abbrev main_v391 : Ref sig .tc := ⟨.hbm, 475, rfl⟩
abbrev main_v392 : Ref sig .tc := ⟨.hbm, 476, rfl⟩
abbrev main_v393 : Ref sig .tc := ⟨.hbm, 477, rfl⟩
abbrev main_v394 : Ref sig .tc := ⟨.hbm, 478, rfl⟩
abbrev main_v395 : Ref sig .tc := ⟨.hbm, 479, rfl⟩
abbrev main_c_75 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_c_76 : Ref sig .tc := ⟨.hbm, 485, rfl⟩
abbrev main_v400 : Ref sig .tc := ⟨.hbm, 486, rfl⟩
abbrev main_v401 : Ref sig .tc := ⟨.hbm, 487, rfl⟩
abbrev main_c_77 : Ref sig .tc := ⟨.hbm, 488, rfl⟩
abbrev main_v402 : Ref sig .tc := ⟨.hbm, 489, rfl⟩
abbrev main_v403 : Ref sig .tc := ⟨.hbm, 490, rfl⟩
abbrev main_v404 : Ref sig .tc := ⟨.hbm, 491, rfl⟩
abbrev main_c_78 : Ref sig .tc := ⟨.hbm, 492, rfl⟩
abbrev main_v405 : Ref sig .tc := ⟨.hbm, 493, rfl⟩
abbrev main_v406 : Ref sig .tc := ⟨.hbm, 494, rfl⟩
abbrev main_c_79 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_c_80 : Ref sig .tc := ⟨.hbm, 499, rfl⟩
abbrev main_v410 : Ref sig .tc := ⟨.hbm, 500, rfl⟩
abbrev main_v411 : Ref sig .tc := ⟨.hbm, 501, rfl⟩
abbrev main_c_81 : Ref sig .tc := ⟨.hbm, 502, rfl⟩
abbrev main_v412 : Ref sig .tc := ⟨.hbm, 503, rfl⟩
abbrev main_v413 : Ref sig .tc := ⟨.hbm, 504, rfl⟩
abbrev main_v414 : Ref sig .tc := ⟨.hbm, 505, rfl⟩
abbrev main_v415 : Ref sig .tc := ⟨.hbm, 506, rfl⟩
abbrev main_v416 : Ref sig .tc := ⟨.hbm, 507, rfl⟩
abbrev main_v417 : Ref sig .tc := ⟨.hbm, 508, rfl⟩
abbrev main_v418 : Ref sig .tc := ⟨.hbm, 509, rfl⟩
abbrev main_v419 : Ref sig .tc := ⟨.hbm, 510, rfl⟩
abbrev main_v420 : Ref sig .tc := ⟨.hbm, 511, rfl⟩
abbrev main_v421 : Ref sig .tc := ⟨.hbm, 512, rfl⟩
abbrev main_v422 : Ref sig .tc := ⟨.hbm, 513, rfl⟩
abbrev main_c_82 : Ref sig .tc := ⟨.hbm, 514, rfl⟩
abbrev main_v423 : Ref sig .tc := ⟨.hbm, 515, rfl⟩
abbrev main_v424 : Ref sig .tc := ⟨.hbm, 516, rfl⟩
abbrev main_v425 : Ref sig .tc := ⟨.hbm, 517, rfl⟩
abbrev main_v426 : Ref sig .tc := ⟨.hbm, 518, rfl⟩
abbrev main_v427 : Ref sig .tc := ⟨.hbm, 519, rfl⟩
abbrev main_v428 : Ref sig .tc := ⟨.hbm, 520, rfl⟩
abbrev main_c_83 : Ref sig .tc := ⟨.hbm, 521, rfl⟩
abbrev main_v429 : Ref sig .tc := ⟨.hbm, 522, rfl⟩
abbrev main_v430 : Ref sig .tc := ⟨.hbm, 523, rfl⟩
abbrev main_c_84 : Ref sig .tc := ⟨.hbm, 524, rfl⟩
abbrev main_v431 : Ref sig .tc := ⟨.hbm, 525, rfl⟩
abbrev main_v432 : Ref sig .tc := ⟨.hbm, 526, rfl⟩
abbrev main_v433 : Ref sig .tc := ⟨.hbm, 527, rfl⟩
abbrev main_c_85 : Ref sig .tc := ⟨.hbm, 528, rfl⟩
abbrev main_v434 : Ref sig .tc := ⟨.hbm, 529, rfl⟩
abbrev main_v435 : Ref sig .tc := ⟨.hbm, 530, rfl⟩
abbrev main_c_86 : Ref sig .tc := ⟨.hbm, 531, rfl⟩
abbrev main_v436 : Ref sig .tc := ⟨.hbm, 532, rfl⟩
abbrev main_v437 : Ref sig .tc := ⟨.hbm, 533, rfl⟩
abbrev main_v438 : Ref sig .tc := ⟨.hbm, 534, rfl⟩
abbrev main_c_87 : Ref sig .tc := ⟨.hbm, 535, rfl⟩
abbrev main_v439 : Ref sig .tc := ⟨.hbm, 536, rfl⟩
abbrev main_v440 : Ref sig .tc := ⟨.hbm, 537, rfl⟩
abbrev main_c_88 : Ref sig .tc := ⟨.hbm, 538, rfl⟩
abbrev main_v441 : Ref sig .tc := ⟨.hbm, 539, rfl⟩
abbrev main_v442 : Ref sig .tc := ⟨.hbm, 540, rfl⟩
abbrev main_v443 : Ref sig .tc := ⟨.hbm, 541, rfl⟩
abbrev main_v444 : Ref sig .tc := ⟨.hbm, 542, rfl⟩
abbrev main_v445 : Ref sig .tc := ⟨.hbm, 543, rfl⟩
abbrev main_v446 : Ref sig .tc := ⟨.hbm, 544, rfl⟩
abbrev main_v447 : Ref sig .tc := ⟨.hbm, 545, rfl⟩
abbrev main_v448 : Ref sig .tc := ⟨.hbm, 546, rfl⟩
abbrev main_v449 : Ref sig .tc := ⟨.hbm, 547, rfl⟩
abbrev main_v450 : Ref sig .tc := ⟨.hbm, 548, rfl⟩
abbrev main_v451 : Ref sig .tc := ⟨.hbm, 549, rfl⟩
abbrev main_c_89 : Ref sig .tc := ⟨.hbm, 550, rfl⟩
abbrev main_v452 : Ref sig .tc := ⟨.hbm, 551, rfl⟩
abbrev main_v453 : Ref sig .tc := ⟨.hbm, 552, rfl⟩
abbrev main_v454 : Ref sig .tc := ⟨.hbm, 553, rfl⟩
abbrev main_v455 : Ref sig .tc := ⟨.hbm, 554, rfl⟩
abbrev main_v456 : Ref sig .tc := ⟨.hbm, 555, rfl⟩
abbrev main_v457 : Ref sig .tc := ⟨.hbm, 556, rfl⟩
abbrev main_c_90 : Ref sig .tc := ⟨.hbm, 557, rfl⟩
abbrev main_v458 : Ref sig .tc := ⟨.hbm, 558, rfl⟩
abbrev main_v459 : Ref sig .tc := ⟨.hbm, 559, rfl⟩
abbrev main_c_91 : Ref sig .tc := ⟨.hbm, 560, rfl⟩
abbrev main_v460 : Ref sig .tc := ⟨.hbm, 561, rfl⟩
abbrev main_v461 : Ref sig .tc := ⟨.hbm, 562, rfl⟩
abbrev main_v462 : Ref sig .tc := ⟨.hbm, 563, rfl⟩
abbrev main_c_92 : Ref sig .tc := ⟨.hbm, 564, rfl⟩
abbrev main_v463 : Ref sig .tc := ⟨.hbm, 565, rfl⟩
abbrev main_v464 : Ref sig .tc := ⟨.hbm, 566, rfl⟩
abbrev main_c_93 : Ref sig .tc := ⟨.hbm, 567, rfl⟩
abbrev main_v465 : Ref sig .tc := ⟨.hbm, 568, rfl⟩
abbrev main_v466 : Ref sig .tc := ⟨.hbm, 569, rfl⟩
abbrev main_v467 : Ref sig .tc := ⟨.hbm, 570, rfl⟩
abbrev main_c_94 : Ref sig .tc := ⟨.hbm, 571, rfl⟩
abbrev main_v468 : Ref sig .tc := ⟨.hbm, 572, rfl⟩
abbrev main_v469 : Ref sig .tc := ⟨.hbm, 573, rfl⟩
abbrev main_c_95 : Ref sig .tc := ⟨.hbm, 574, rfl⟩
abbrev main_v470 : Ref sig .tc := ⟨.hbm, 575, rfl⟩
abbrev main_v471 : Ref sig .tc := ⟨.hbm, 576, rfl⟩
abbrev main_v472 : Ref sig .tc := ⟨.hbm, 577, rfl⟩
abbrev main_v473 : Ref sig .tc := ⟨.hbm, 578, rfl⟩
abbrev main_v474 : Ref sig .tc := ⟨.hbm, 579, rfl⟩
abbrev main_v475 : Ref sig .tc := ⟨.hbm, 580, rfl⟩
abbrev main_v476 : Ref sig .tc := ⟨.hbm, 581, rfl⟩
abbrev main_v477 : Ref sig .tc := ⟨.hbm, 582, rfl⟩
abbrev main_v478 : Ref sig .tc := ⟨.hbm, 583, rfl⟩
abbrev main_v479 : Ref sig .tc := ⟨.hbm, 584, rfl⟩
abbrev main_v480 : Ref sig .tc := ⟨.hbm, 585, rfl⟩
abbrev main_c_96 : Ref sig .tc := ⟨.hbm, 586, rfl⟩
abbrev main_v481 : Ref sig .tc := ⟨.hbm, 587, rfl⟩
abbrev main_v482 : Ref sig .tc := ⟨.hbm, 588, rfl⟩
abbrev main_v483 : Ref sig .tc := ⟨.hbm, 589, rfl⟩
abbrev main_v484 : Ref sig .tc := ⟨.hbm, 590, rfl⟩
abbrev main_v485 : Ref sig .tc := ⟨.hbm, 591, rfl⟩
abbrev main_v486 : Ref sig .tc := ⟨.hbm, 592, rfl⟩
abbrev main_c_97 : Ref sig .tc := ⟨.hbm, 593, rfl⟩
abbrev main_v487 : Ref sig .tc := ⟨.hbm, 594, rfl⟩
abbrev main_v488 : Ref sig .tc := ⟨.hbm, 595, rfl⟩
abbrev main_c_98 : Ref sig .tc := ⟨.hbm, 596, rfl⟩
abbrev main_v489 : Ref sig .tc := ⟨.hbm, 597, rfl⟩
abbrev main_v490 : Ref sig .tc := ⟨.hbm, 598, rfl⟩
abbrev main_v491 : Ref sig .tc := ⟨.hbm, 599, rfl⟩
abbrev main_c_99 : Ref sig .tc := ⟨.hbm, 600, rfl⟩
abbrev main_v492 : Ref sig .tc := ⟨.hbm, 601, rfl⟩
abbrev main_v493 : Ref sig .tc := ⟨.hbm, 602, rfl⟩
abbrev main_c_100 : Ref sig .tc := ⟨.hbm, 603, rfl⟩
abbrev main_v494 : Ref sig .tc := ⟨.hbm, 604, rfl⟩
abbrev main_v495 : Ref sig .tc := ⟨.hbm, 605, rfl⟩
abbrev main_v496 : Ref sig .tc := ⟨.hbm, 606, rfl⟩
abbrev main_c_101 : Ref sig .tc := ⟨.hbm, 607, rfl⟩
abbrev main_v497 : Ref sig .tc := ⟨.hbm, 608, rfl⟩
abbrev main_v498 : Ref sig .tc := ⟨.hbm, 609, rfl⟩
abbrev main_c_102 : Ref sig .tc := ⟨.hbm, 610, rfl⟩
abbrev main_v499 : Ref sig .tc := ⟨.hbm, 611, rfl⟩
abbrev main_v500 : Ref sig .tc := ⟨.hbm, 612, rfl⟩
abbrev main_v501 : Ref sig .tc := ⟨.hbm, 613, rfl⟩
abbrev main_v502 : Ref sig .tc := ⟨.hbm, 614, rfl⟩
abbrev main_v503 : Ref sig .tc := ⟨.hbm, 615, rfl⟩
abbrev main_v504 : Ref sig .tc := ⟨.hbm, 616, rfl⟩
abbrev main_v505 : Ref sig .tc := ⟨.hbm, 617, rfl⟩
abbrev main_v506 : Ref sig .tc := ⟨.hbm, 618, rfl⟩
abbrev main_v507 : Ref sig .tc := ⟨.hbm, 619, rfl⟩
abbrev main_v508 : Ref sig .tc := ⟨.hbm, 620, rfl⟩
abbrev main_v509 : Ref sig .tc := ⟨.hbm, 621, rfl⟩
abbrev main_c_103 : Ref sig .tc := ⟨.hbm, 622, rfl⟩
abbrev main_v510 : Ref sig .tc := ⟨.hbm, 623, rfl⟩
abbrev main_v511 : Ref sig .tc := ⟨.hbm, 624, rfl⟩
abbrev main_v512 : Ref sig .tc := ⟨.hbm, 625, rfl⟩
abbrev main_v513 : Ref sig .tc := ⟨.hbm, 626, rfl⟩
abbrev main_v514 : Ref sig .tc := ⟨.hbm, 627, rfl⟩
abbrev main_v515 : Ref sig .tc := ⟨.hbm, 628, rfl⟩
abbrev main_c_104 : Ref sig .tc := ⟨.hbm, 629, rfl⟩
abbrev main_v516 : Ref sig .tc := ⟨.hbm, 630, rfl⟩
abbrev main_v517 : Ref sig .tc := ⟨.hbm, 631, rfl⟩
abbrev main_c_105 : Ref sig .tc := ⟨.hbm, 632, rfl⟩
abbrev main_v518 : Ref sig .tc := ⟨.hbm, 633, rfl⟩
abbrev main_v519 : Ref sig .tc := ⟨.hbm, 634, rfl⟩
abbrev main_v520 : Ref sig .tc := ⟨.hbm, 635, rfl⟩
abbrev main_c_106 : Ref sig .tc := ⟨.hbm, 636, rfl⟩
abbrev main_v521 : Ref sig .tc := ⟨.hbm, 637, rfl⟩
abbrev main_v522 : Ref sig .tc := ⟨.hbm, 638, rfl⟩
abbrev main_c_107 : Ref sig .tc := ⟨.hbm, 639, rfl⟩
abbrev main_v523 : Ref sig .tc := ⟨.hbm, 640, rfl⟩
abbrev main_v524 : Ref sig .tc := ⟨.hbm, 641, rfl⟩
abbrev main_v525 : Ref sig .tc := ⟨.hbm, 642, rfl⟩
abbrev main_c_108 : Ref sig .tc := ⟨.hbm, 643, rfl⟩
abbrev main_v526 : Ref sig .tc := ⟨.hbm, 644, rfl⟩
abbrev main_v527 : Ref sig .tc := ⟨.hbm, 645, rfl⟩
abbrev main_c_109 : Ref sig .tc := ⟨.hbm, 646, rfl⟩
abbrev main_v528 : Ref sig .tc := ⟨.hbm, 647, rfl⟩
abbrev main_v529 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_v534 : Ref sig .tc := ⟨.hbm, 653, rfl⟩
abbrev main_v535 : Ref sig .tc := ⟨.hbm, 654, rfl⟩
abbrev main_v536 : Ref sig .tc := ⟨.hbm, 655, rfl⟩
abbrev main_v537 : Ref sig .tc := ⟨.hbm, 656, rfl⟩
abbrev main_v538 : Ref sig .tc := ⟨.hbm, 657, rfl⟩
abbrev main_c_110 : Ref sig .tc := ⟨.hbm, 658, rfl⟩
abbrev main_v539 : Ref sig .tc := ⟨.hbm, 659, rfl⟩
abbrev main_v540 : Ref sig .tc := ⟨.hbm, 660, rfl⟩
abbrev main_v541 : Ref sig .tc := ⟨.hbm, 661, rfl⟩
abbrev main_v542 : Ref sig .tc := ⟨.hbm, 662, rfl⟩
abbrev main_v543 : Ref sig .tc := ⟨.hbm, 663, rfl⟩
abbrev main_v544 : Ref sig .tc := ⟨.hbm, 664, rfl⟩
abbrev main_c_111 : Ref sig .tc := ⟨.hbm, 665, rfl⟩
abbrev main_v545 : Ref sig .tc := ⟨.hbm, 666, rfl⟩
abbrev main_v546 : Ref sig .tc := ⟨.hbm, 667, rfl⟩
abbrev main_c_112 : Ref sig .tc := ⟨.hbm, 668, rfl⟩
abbrev main_v547 : Ref sig .tc := ⟨.hbm, 669, rfl⟩
abbrev main_v548 : Ref sig .tc := ⟨.hbm, 670, rfl⟩
abbrev main_v549 : Ref sig .tc := ⟨.hbm, 671, rfl⟩
abbrev main_c_113 : Ref sig .tc := ⟨.hbm, 672, rfl⟩
abbrev main_v550 : Ref sig .tc := ⟨.hbm, 673, rfl⟩
abbrev main_v551 : Ref sig .tc := ⟨.hbm, 674, rfl⟩
abbrev main_c_114 : Ref sig .tc := ⟨.hbm, 675, rfl⟩
abbrev main_v552 : Ref sig .tc := ⟨.hbm, 676, rfl⟩
abbrev main_v553 : Ref sig .tc := ⟨.hbm, 677, rfl⟩
abbrev main_v554 : Ref sig .tc := ⟨.hbm, 678, rfl⟩
abbrev main_c_115 : Ref sig .tc := ⟨.hbm, 679, rfl⟩
abbrev main_v555 : Ref sig .tc := ⟨.hbm, 680, rfl⟩
abbrev main_v556 : Ref sig .tc := ⟨.hbm, 681, rfl⟩
abbrev main_c_116 : Ref sig .tc := ⟨.hbm, 682, rfl⟩
abbrev main_v557 : Ref sig .tc := ⟨.hbm, 683, rfl⟩
abbrev main_v558 : Ref sig .tc := ⟨.hbm, 684, rfl⟩
abbrev main_v559 : Ref sig .tc := ⟨.hbm, 685, rfl⟩
abbrev main_v560 : Ref sig .tc := ⟨.hbm, 686, rfl⟩
abbrev main_v561 : Ref sig .tc := ⟨.hbm, 687, rfl⟩
abbrev main_v562 : Ref sig .tc := ⟨.hbm, 688, rfl⟩
abbrev main_v563 : Ref sig .tc := ⟨.hbm, 689, rfl⟩
abbrev main_v564 : Ref sig .tc := ⟨.hbm, 690, rfl⟩
abbrev main_v565 : Ref sig .tc := ⟨.hbm, 691, rfl⟩
abbrev main_v566 : Ref sig .tc := ⟨.hbm, 692, rfl⟩
abbrev main_v567 : Ref sig .tc := ⟨.hbm, 693, rfl⟩
abbrev main_c_117 : Ref sig .tc := ⟨.hbm, 694, rfl⟩
abbrev main_v568 : Ref sig .tc := ⟨.hbm, 695, rfl⟩
abbrev main_v569 : Ref sig .tc := ⟨.hbm, 696, rfl⟩
abbrev main_v570 : Ref sig .tc := ⟨.hbm, 697, rfl⟩
abbrev main_v571 : Ref sig .tc := ⟨.hbm, 698, rfl⟩
abbrev main_v572 : Ref sig .tc := ⟨.hbm, 699, rfl⟩
abbrev main_c_118 : Ref sig .tc := ⟨.hbm, 700, rfl⟩
abbrev main_v573 : Ref sig .tc := ⟨.hbm, 701, rfl⟩
abbrev main_v574 : Ref sig .tc := ⟨.hbm, 702, rfl⟩
abbrev main_c_119 : Ref sig .tc := ⟨.hbm, 703, rfl⟩
abbrev main_v575 : Ref sig .tc := ⟨.hbm, 704, rfl⟩
abbrev main_v576 : Ref sig .tc := ⟨.hbm, 705, rfl⟩
abbrev main_v577 : Ref sig .tc := ⟨.hbm, 706, rfl⟩
abbrev main_c_120 : Ref sig .tc := ⟨.hbm, 707, rfl⟩
abbrev main_v578 : Ref sig .tc := ⟨.hbm, 708, rfl⟩
abbrev main_v579 : Ref sig .tc := ⟨.hbm, 709, rfl⟩
abbrev main_c_121 : Ref sig .tc := ⟨.hbm, 710, rfl⟩
abbrev main_v580 : Ref sig .tc := ⟨.hbm, 711, rfl⟩
abbrev main_v581 : Ref sig .tc := ⟨.hbm, 712, rfl⟩
abbrev main_v582 : Ref sig .tc := ⟨.hbm, 713, rfl⟩
abbrev main_c_122 : Ref sig .tc := ⟨.hbm, 714, rfl⟩
abbrev main_v583 : Ref sig .tc := ⟨.hbm, 715, rfl⟩
abbrev main_v584 : Ref sig .tc := ⟨.hbm, 716, rfl⟩
abbrev main_c_123 : Ref sig .tc := ⟨.hbm, 717, rfl⟩
abbrev main_v585 : Ref sig .tc := ⟨.hbm, 718, rfl⟩
abbrev main_v586 : Ref sig .tc := ⟨.hbm, 719, rfl⟩
abbrev main_v587 : Ref sig .tc := ⟨.hbm, 720, rfl⟩
abbrev main_v588 : Ref sig .tc := ⟨.hbm, 721, rfl⟩
abbrev main_v589 : Ref sig .tc := ⟨.hbm, 722, rfl⟩
abbrev main_v590 : Ref sig .tc := ⟨.hbm, 723, rfl⟩
abbrev main_v591 : Ref sig .tc := ⟨.hbm, 724, rfl⟩
abbrev main_v592 : Ref sig .tc := ⟨.hbm, 725, rfl⟩
abbrev main_v593 : Ref sig .tc := ⟨.hbm, 726, rfl⟩
abbrev main_v594 : Ref sig .tc := ⟨.hbm, 727, rfl⟩
abbrev main_v595 : Ref sig .tc := ⟨.hbm, 728, rfl⟩
abbrev main_v596 : Ref sig .tc := ⟨.hbm, 729, rfl⟩
abbrev main_v597 : Ref sig .tc := ⟨.hbm, 730, rfl⟩
abbrev main_v598 : Ref sig .tc := ⟨.hbm, 731, rfl⟩

abbrev nD : Nat := 1
abbrev τ : Topo := Topo.v7x

variable {F : FTy → Type} [FloatOps F]
-- ==== Proof.KI.Launch.lean ====
/- The launch facts of `KernelIdeal`, after the generated launch kit. The kit's last theorem (@main as segments) is left out: the
   proof does not use it. -/
module

public import proofs.«01_k».proof.Proof.Gen.KernelIdeal
public import Idealize.ShloMosaic.Lib.Pipeline.Kit
public import Idealize.ShloMosaic.Lib.Pipeline.Regions

@[expose] public section

noncomputable section

namespace Cert.KernelIdeal.Hand

open Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 8, 0 < (spec0 w).block.numel := by decide
/-- The windows' arrays and the staging memrefs are whole buffers. -/
theorem arr_whole0 : ∀ w : Fin 8, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | ⟨_ + 8, h⟩ => absurd h (Nat.not_lt.2 (Nat.le_add_left _ _))
theorem stage_whole0 : ∀ (w : Fin 8) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | ⟨_ + 8, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 4 points. -/
theorem N_0 : grid0.N = 4 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Point 3. -/
def t0_3 : Fin grid0.N := ⟨3, by rw [N_0]; decide⟩
/-- Every point is one of them. -/
theorem fin_N0 (t : Fin grid0.N) : t = t0_0 ∨ t = t0_1 ∨ t = t0_2 ∨ t = t0_3 := by
  obtain ⟨t, ht⟩ := t; have := N_0; simp only [t0_0, t0_1, t0_2, t0_3, Fin.mk.injEq]; omega

/-- The windows conjoined one by one. -/
theorem bigSep_W0 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ
/-- The core's scoped buffers that are no staging buffer of custom_call 0, each whole at some contents:
    `cc0_scratch0`, `cc0_scratch1`, `cc0_scratch2`, `cc0_scratch3`, `cc0_scratch4`, `cc0_scratch5`, `cc0_scratch6`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f) ∗ (∃ f : Buf Val ((c : Thread nD τ).loc cc0_scratch5), ((c : Thread nD τ).loc cc0_scratch5) ↦{fullShare} f) ∗ (∃ f : Buf Val ((c : Thread nD τ).loc cc0_scratch6), ((c : Thread nD τ).loc cc0_scratch6) ↦{fullShare} f)) :=
  Pipeline.scopedRest_eq_of_list spec0 c [cc0_scratch0, cc0_scratch1, cc0_scratch2, cc0_scratch3, cc0_scratch4, cc0_scratch5, cc0_scratch6] (by decide) (by decide)
-- the unscoped rest of custom_call 0 is 63 buffers: not enumerated (routed whole, as `Pipeline.unscopedRest`)

/-! ## @main as segments and as a chain of items (Lib/Pipeline/Regions.lean `θ_run_regions_kit`, `Pipeline.chain`) -/

/-- 62 host operations of @kernel (main_call0), in order. -/
abbrev hostOps0 : List (HloOp τ sig (Elt F)) :=
  ( StableHlo.TRef.reshape (.of main_arg0 : StableHlo.TRef sig ⟨S16x1x32x32, .f32⟩) (.of main_call0_v0 : StableHlo.TRef sig ⟨S16x32x32, .f32⟩) (rfl : (.f32 : EltTy) = .f32) shapeCasts_S16x1x32x32_S16x32x32
  :: StableHlo.TRef.unary (.of main_call0_v0 : StableHlo.TRef sig ⟨S16x32x32, .f32⟩) (.of main_call0_v1 : StableHlo.TRef sig ⟨S16x28x28, .f32⟩) (extractStridedSlice S16x28x28 ![0, 0, 0] · slices_S16x32x32_S16x28x28_0_0_0)
  :: StableHlo.TRef.reshape (.of main_call0_v1 : StableHlo.TRef sig ⟨S16x28x28, .f32⟩) (.of main_call0_v2 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v3 : StableHlo.TRef sig ⟨S16x28x28, .f32⟩) (extractStridedSlice S16x28x28 ![0, 0, 1] · slices_S16x32x32_S16x28x28_0_0_1)
  :: StableHlo.TRef.reshape (.of main_call0_v3 : StableHlo.TRef sig ⟨S16x28x28, .f32⟩) (.of main_call0_v4 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v5 : StableHlo.TRef sig ⟨S16x28x28, .f32⟩) (extractStridedSlice S16x28x28 ![0, 0, 2] · slices_S16x32x32_S16x28x28_0_0_2)
  :: StableHlo.TRef.reshape (.of main_call0_v5 : StableHlo.TRef sig ⟨S16x28x28, .f32⟩) (.of main_call0_v6 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v7 : StableHlo.TRef sig ⟨S16x28x28, .f32⟩) (extractStridedSlice S16x28x28 ![0, 0, 3] · slices_S16x32x32_S16x28x28_0_0_3)
  :: StableHlo.TRef.reshape (.of main_call0_v7 : StableHlo.TRef sig ⟨S16x28x28, .f32⟩) (.of main_call0_v8 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v9 : StableHlo.TRef sig ⟨S16x28x28, .f32⟩) (extractStridedSlice S16x28x28 ![0, 0, 4] · slices_S16x32x32_S16x28x28_0_0_4)
  :: StableHlo.TRef.reshape (.of main_call0_v9 : StableHlo.TRef sig ⟨S16x28x28, .f32⟩) (.of main_call0_v10 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v11 : StableHlo.TRef sig ⟨S16x28x28, .f32⟩) (extractStridedSlice S16x28x28 ![0, 1, 0] · slices_S16x32x32_S16x28x28_0_1_0)
  :: StableHlo.TRef.reshape (.of main_call0_v11 : StableHlo.TRef sig ⟨S16x28x28, .f32⟩) (.of main_call0_v12 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v13 : StableHlo.TRef sig ⟨S16x28x28, .f32⟩) (extractStridedSlice S16x28x28 ![0, 1, 1] · slices_S16x32x32_S16x28x28_0_1_1)
  :: StableHlo.TRef.reshape (.of main_call0_v13 : StableHlo.TRef sig ⟨S16x28x28, .f32⟩) (.of main_call0_v14 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v15 : StableHlo.TRef sig ⟨S16x28x28, .f32⟩) (extractStridedSlice S16x28x28 ![0, 1, 2] · slices_S16x32x32_S16x28x28_0_1_2)
  :: StableHlo.TRef.reshape (.of main_call0_v15 : StableHlo.TRef sig ⟨S16x28x28, .f32⟩) (.of main_call0_v16 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v17 : StableHlo.TRef sig ⟨S16x28x28, .f32⟩) (extractStridedSlice S16x28x28 ![0, 1, 3] · slices_S16x32x32_S16x28x28_0_1_3)
  :: StableHlo.TRef.reshape (.of main_call0_v17 : StableHlo.TRef sig ⟨S16x28x28, .f32⟩) (.of main_call0_v18 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v19 : StableHlo.TRef sig ⟨S16x28x28, .f32⟩) (extractStridedSlice S16x28x28 ![0, 1, 4] · slices_S16x32x32_S16x28x28_0_1_4)
  :: StableHlo.TRef.reshape (.of main_call0_v19 : StableHlo.TRef sig ⟨S16x28x28, .f32⟩) (.of main_call0_v20 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v21 : StableHlo.TRef sig ⟨S16x28x28, .f32⟩) (extractStridedSlice S16x28x28 ![0, 2, 0] · slices_S16x32x32_S16x28x28_0_2_0)
  :: StableHlo.TRef.reshape (.of main_call0_v21 : StableHlo.TRef sig ⟨S16x28x28, .f32⟩) (.of main_call0_v22 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v23 : StableHlo.TRef sig ⟨S16x28x28, .f32⟩) (extractStridedSlice S16x28x28 ![0, 2, 1] · slices_S16x32x32_S16x28x28_0_2_1)
  :: StableHlo.TRef.reshape (.of main_call0_v23 : StableHlo.TRef sig ⟨S16x28x28, .f32⟩) (.of main_call0_v24 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v25 : StableHlo.TRef sig ⟨S16x28x28, .f32⟩) (extractStridedSlice S16x28x28 ![0, 2, 2] · slices_S16x32x32_S16x28x28_0_2_2)
  :: StableHlo.TRef.reshape (.of main_call0_v25 : StableHlo.TRef sig ⟨S16x28x28, .f32⟩) (.of main_call0_v26 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v27 : StableHlo.TRef sig ⟨S16x28x28, .f32⟩) (extractStridedSlice S16x28x28 ![0, 2, 3] · slices_S16x32x32_S16x28x28_0_2_3)
  :: StableHlo.TRef.reshape (.of main_call0_v27 : StableHlo.TRef sig ⟨S16x28x28, .f32⟩) (.of main_call0_v28 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v29 : StableHlo.TRef sig ⟨S16x28x28, .f32⟩) (extractStridedSlice S16x28x28 ![0, 2, 4] · slices_S16x32x32_S16x28x28_0_2_4)
  :: StableHlo.TRef.reshape (.of main_call0_v29 : StableHlo.TRef sig ⟨S16x28x28, .f32⟩) (.of main_call0_v30 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v31 : StableHlo.TRef sig ⟨S16x28x28, .f32⟩) (extractStridedSlice S16x28x28 ![0, 3, 0] · slices_S16x32x32_S16x28x28_0_3_0)
  :: StableHlo.TRef.reshape (.of main_call0_v31 : StableHlo.TRef sig ⟨S16x28x28, .f32⟩) (.of main_call0_v32 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v33 : StableHlo.TRef sig ⟨S16x28x28, .f32⟩) (extractStridedSlice S16x28x28 ![0, 3, 1] · slices_S16x32x32_S16x28x28_0_3_1)
  :: StableHlo.TRef.reshape (.of main_call0_v33 : StableHlo.TRef sig ⟨S16x28x28, .f32⟩) (.of main_call0_v34 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v35 : StableHlo.TRef sig ⟨S16x28x28, .f32⟩) (extractStridedSlice S16x28x28 ![0, 3, 2] · slices_S16x32x32_S16x28x28_0_3_2)
  :: StableHlo.TRef.reshape (.of main_call0_v35 : StableHlo.TRef sig ⟨S16x28x28, .f32⟩) (.of main_call0_v36 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v37 : StableHlo.TRef sig ⟨S16x28x28, .f32⟩) (extractStridedSlice S16x28x28 ![0, 3, 3] · slices_S16x32x32_S16x28x28_0_3_3)
  :: StableHlo.TRef.reshape (.of main_call0_v37 : StableHlo.TRef sig ⟨S16x28x28, .f32⟩) (.of main_call0_v38 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v39 : StableHlo.TRef sig ⟨S16x28x28, .f32⟩) (extractStridedSlice S16x28x28 ![0, 3, 4] · slices_S16x32x32_S16x28x28_0_3_4)
  :: StableHlo.TRef.reshape (.of main_call0_v39 : StableHlo.TRef sig ⟨S16x28x28, .f32⟩) (.of main_call0_v40 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v41 : StableHlo.TRef sig ⟨S16x28x28, .f32⟩) (extractStridedSlice S16x28x28 ![0, 4, 0] · slices_S16x32x32_S16x28x28_0_4_0)
  :: StableHlo.TRef.reshape (.of main_call0_v41 : StableHlo.TRef sig ⟨S16x28x28, .f32⟩) (.of main_call0_v42 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v43 : StableHlo.TRef sig ⟨S16x28x28, .f32⟩) (extractStridedSlice S16x28x28 ![0, 4, 1] · slices_S16x32x32_S16x28x28_0_4_1)
  :: StableHlo.TRef.reshape (.of main_call0_v43 : StableHlo.TRef sig ⟨S16x28x28, .f32⟩) (.of main_call0_v44 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v45 : StableHlo.TRef sig ⟨S16x28x28, .f32⟩) (extractStridedSlice S16x28x28 ![0, 4, 2] · slices_S16x32x32_S16x28x28_0_4_2)
  :: StableHlo.TRef.reshape (.of main_call0_v45 : StableHlo.TRef sig ⟨S16x28x28, .f32⟩) (.of main_call0_v46 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v47 : StableHlo.TRef sig ⟨S16x28x28, .f32⟩) (extractStridedSlice S16x28x28 ![0, 4, 3] · slices_S16x32x32_S16x28x28_0_4_3)
  :: StableHlo.TRef.reshape (.of main_call0_v47 : StableHlo.TRef sig ⟨S16x28x28, .f32⟩) (.of main_call0_v48 : StableHlo.TRef sig ⟨S16x1x784, .f32⟩) (rfl : (.f32 : EltTy) = .f32) shapeCasts_S16x28x28_S16x1x784
  :: StableHlo.TRef.unary (.of main_call0_v0 : StableHlo.TRef sig ⟨S16x32x32, .f32⟩) (.of main_call0_v49 : StableHlo.TRef sig ⟨S16x28x28, .f32⟩) (extractStridedSlice S16x28x28 ![0, 4, 4] · slices_S16x32x32_S16x28x28_0_4_4)
  :: StableHlo.TRef.reshape (.of main_call0_v49 : StableHlo.TRef sig ⟨S16x28x28, .f32⟩) (.of main_call0_v50 : StableHlo.TRef sig ⟨S16x1x784, .f32⟩) (rfl : (.f32 : EltTy) = .f32) shapeCasts_S16x28x28_S16x1x784
  :: StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v51 : StableHlo.TRef sig ⟨S16x7x784, .f32⟩) (broadcastInDim S16x7x784 ![] bcast_S_S16x7x784)
  :: StableHlo.TRef.nary ![(.of main_call0_v2 : StableHlo.TRef sig ⟨S16x1x784, .f32⟩), (.of main_call0_v4 : StableHlo.TRef sig ⟨S16x1x784, .f32⟩), (.of main_call0_v6 : StableHlo.TRef sig ⟨S16x1x784, .f32⟩), (.of main_call0_v8 : StableHlo.TRef sig ⟨S16x1x784, .f32⟩), (.of main_call0_v10 : StableHlo.TRef sig ⟨S16x1x784, .f32⟩), (.of main_call0_v12 : StableHlo.TRef sig ⟨S16x1x784, .f32⟩), (.of main_call0_v14 : StableHlo.TRef sig ⟨S16x1x784, .f32⟩), (.of main_call0_v16 : StableHlo.TRef sig ⟨S16x1x784, .f32⟩), (.of main_call0_v18 : StableHlo.TRef sig ⟨S16x1x784, .f32⟩), (.of main_call0_v20 : StableHlo.TRef sig ⟨S16x1x784, .f32⟩), (.of main_call0_v22 : StableHlo.TRef sig ⟨S16x1x784, .f32⟩), (.of main_call0_v24 : StableHlo.TRef sig ⟨S16x1x784, .f32⟩), (.of main_call0_v26 : StableHlo.TRef sig ⟨S16x1x784, .f32⟩), (.of main_call0_v28 : StableHlo.TRef sig ⟨S16x1x784, .f32⟩), (.of main_call0_v30 : StableHlo.TRef sig ⟨S16x1x784, .f32⟩), (.of main_call0_v32 : StableHlo.TRef sig ⟨S16x1x784, .f32⟩)] (.of main_call0_v52 : StableHlo.TRef sig ⟨S16x16x784, .f32⟩) (fun u => (concatenate S16x16x784 1 [⟨S16x1x784, (u 0 : (⟨S16x1x784, .f32⟩ : BufTy).Contents (Elt F))⟩, ⟨S16x1x784, (u 1 : (⟨S16x1x784, .f32⟩ : BufTy).Contents (Elt F))⟩, ⟨S16x1x784, (u 2 : (⟨S16x1x784, .f32⟩ : BufTy).Contents (Elt F))⟩, ⟨S16x1x784, (u 3 : (⟨S16x1x784, .f32⟩ : BufTy).Contents (Elt F))⟩, ⟨S16x1x784, (u 4 : (⟨S16x1x784, .f32⟩ : BufTy).Contents (Elt F))⟩, ⟨S16x1x784, (u 5 : (⟨S16x1x784, .f32⟩ : BufTy).Contents (Elt F))⟩, ⟨S16x1x784, (u 6 : (⟨S16x1x784, .f32⟩ : BufTy).Contents (Elt F))⟩, ⟨S16x1x784, (u 7 : (⟨S16x1x784, .f32⟩ : BufTy).Contents (Elt F))⟩, ⟨S16x1x784, (u 8 : (⟨S16x1x784, .f32⟩ : BufTy).Contents (Elt F))⟩, ⟨S16x1x784, (u 9 : (⟨S16x1x784, .f32⟩ : BufTy).Contents (Elt F))⟩, ⟨S16x1x784, (u 10 : (⟨S16x1x784, .f32⟩ : BufTy).Contents (Elt F))⟩, ⟨S16x1x784, (u 11 : (⟨S16x1x784, .f32⟩ : BufTy).Contents (Elt F))⟩, ⟨S16x1x784, (u 12 : (⟨S16x1x784, .f32⟩ : BufTy).Contents (Elt F))⟩, ⟨S16x1x784, (u 13 : (⟨S16x1x784, .f32⟩ : BufTy).Contents (Elt F))⟩, ⟨S16x1x784, (u 14 : (⟨S16x1x784, .f32⟩ : BufTy).Contents (Elt F))⟩, ⟨S16x1x784, (u 15 : (⟨S16x1x784, .f32⟩ : BufTy).Contents (Elt F))⟩] concatenates_S16x1x784_S16x1x784_S16x1x784_S16x1x784_S16x1x784_S16x1x784_S16x1x784_S16x1x784_S16x1x784_S16x1x784_S16x1x784_S16x1x784_S16x1x784_S16x1x784_S16x1x784_S16x1x784_S16x16x784_d1 : (⟨S16x16x784, .f32⟩ : BufTy).Contents (Elt F)))
  :: StableHlo.TRef.nary (Ts := ![⟨S16x1x784, .f32⟩, ⟨S16x1x784, .f32⟩, ⟨S16x1x784, .f32⟩, ⟨S16x1x784, .f32⟩, ⟨S16x1x784, .f32⟩, ⟨S16x1x784, .f32⟩, ⟨S16x1x784, .f32⟩, ⟨S16x1x784, .f32⟩, ⟨S16x1x784, .f32⟩, ⟨S16x7x784, .f32⟩]) (Fin.cons (.of main_call0_v34 : StableHlo.TRef sig ⟨S16x1x784, .f32⟩) (Fin.cons (.of main_call0_v36 : StableHlo.TRef sig ⟨S16x1x784, .f32⟩) (Fin.cons (.of main_call0_v38 : StableHlo.TRef sig ⟨S16x1x784, .f32⟩) (Fin.cons (.of main_call0_v40 : StableHlo.TRef sig ⟨S16x1x784, .f32⟩) (Fin.cons (.of main_call0_v42 : StableHlo.TRef sig ⟨S16x1x784, .f32⟩) (Fin.cons (.of main_call0_v44 : StableHlo.TRef sig ⟨S16x1x784, .f32⟩) (Fin.cons (.of main_call0_v46 : StableHlo.TRef sig ⟨S16x1x784, .f32⟩) (Fin.cons (.of main_call0_v48 : StableHlo.TRef sig ⟨S16x1x784, .f32⟩) (Fin.cons (.of main_call0_v50 : StableHlo.TRef sig ⟨S16x1x784, .f32⟩) (Fin.cons (.of main_call0_v51 : StableHlo.TRef sig ⟨S16x7x784, .f32⟩) (fun k => k.elim0))))))))))) (.of main_call0_v53 : StableHlo.TRef sig ⟨S16x16x784, .f32⟩) (fun u => (concatenate S16x16x784 1 [⟨S16x1x784, (u 0 : (⟨S16x1x784, .f32⟩ : BufTy).Contents (Elt F))⟩, ⟨S16x1x784, (u 1 : (⟨S16x1x784, .f32⟩ : BufTy).Contents (Elt F))⟩, ⟨S16x1x784, (u 2 : (⟨S16x1x784, .f32⟩ : BufTy).Contents (Elt F))⟩, ⟨S16x1x784, (u 3 : (⟨S16x1x784, .f32⟩ : BufTy).Contents (Elt F))⟩, ⟨S16x1x784, (u 4 : (⟨S16x1x784, .f32⟩ : BufTy).Contents (Elt F))⟩, ⟨S16x1x784, (u 5 : (⟨S16x1x784, .f32⟩ : BufTy).Contents (Elt F))⟩, ⟨S16x1x784, (u 6 : (⟨S16x1x784, .f32⟩ : BufTy).Contents (Elt F))⟩, ⟨S16x1x784, (u 7 : (⟨S16x1x784, .f32⟩ : BufTy).Contents (Elt F))⟩, ⟨S16x1x784, (u 8 : (⟨S16x1x784, .f32⟩ : BufTy).Contents (Elt F))⟩, ⟨S16x7x784, (u 9 : (⟨S16x7x784, .f32⟩ : BufTy).Contents (Elt F))⟩] concatenates_S16x1x784_S16x1x784_S16x1x784_S16x1x784_S16x1x784_S16x1x784_S16x1x784_S16x1x784_S16x1x784_S16x7x784_S16x16x784_d1 : (⟨S16x16x784, .f32⟩ : BufTy).Contents (Elt F)))
  :: StableHlo.TRef.binary (.of main_call0_v52 : StableHlo.TRef sig ⟨S16x16x784, .f32⟩) (.of main_call0_v53 : StableHlo.TRef sig ⟨S16x16x784, .f32⟩) (.of main_call0_v54 : StableHlo.TRef sig ⟨S16x32x784, .f32⟩) (fun a b => concatenate S16x32x784 1 [⟨S16x16x784, a⟩, ⟨S16x16x784, b⟩] concatenates_S16x16x784_S16x16x784_S16x32x784_d1)
  :: StableHlo.TRef.reshape (.of main_arg1 : StableHlo.TRef sig ⟨S64x36x6, .i32⟩) (.of main_call0_v55 : StableHlo.TRef sig ⟨S2304x6, .i32⟩) (rfl : (.i32 : EltTy) = .i32) shapeCasts_S64x36x6_S2304x6
  :: StableHlo.TRef.reshape (.of main_arg2 : StableHlo.TRef sig ⟨S64x6x6, .i32⟩) (.of main_call0_v56 : StableHlo.TRef sig ⟨S384x6, .i32⟩) (rfl : (.i32 : EltTy) = .i32) shapeCasts_S64x6x6_S384x6
  :: StableHlo.TRef.reshape (.of main_arg3 : StableHlo.TRef sig ⟨S64x1x6, .i32⟩) (.of main_call0_v57 : StableHlo.TRef sig ⟨S64x6, .i32⟩) (rfl : (.i32 : EltTy) = .i32) shapeCasts_S64x1x6_S64x6
  :: StableHlo.TRef.reshape (.of main_arg4 : StableHlo.TRef sig ⟨S64x36x64, .f32⟩) (.of main_call0_v58 : StableHlo.TRef sig ⟨S2304x64, .f32⟩) (rfl : (.f32 : EltTy) = .f32) shapeCasts_S64x36x64_S2304x64
  :: StableHlo.TRef.reshape (.of main_arg5 : StableHlo.TRef sig ⟨S64x6x64, .f32⟩) (.of main_call0_v59 : StableHlo.TRef sig ⟨S384x64, .f32⟩) (rfl : (.f32 : EltTy) = .f32) shapeCasts_S64x6x64_S384x64
  :: StableHlo.TRef.reshape (.of main_arg6 : StableHlo.TRef sig ⟨S64x1x64, .f32⟩) (.of main_call0_v60 : StableHlo.TRef sig ⟨S64x64, .f32⟩) (rfl : (.f32 : EltTy) = .f32) shapeCasts_S64x1x64_S64x64
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.nary_bufs_sub .., StableHlo.nary_bufs_sub .., StableHlo.binary_bufs_sub .., StableHlo.reshape_bufs_sub .., StableHlo.reshape_bufs_sub .., StableHlo.reshape_bufs_sub .., StableHlo.reshape_bufs_sub .., StableHlo.reshape_bufs_sub .., StableHlo.reshape_bufs_sub ..⟩
/-- 1 host operation of @kernel (main_call0), in order. -/
abbrev hostOps1 : List (HloOp τ sig (Elt F)) :=
  [ StableHlo.TRef.reshape (.of main_call0_v61 : StableHlo.TRef sig ⟨S16x64x784, .f32⟩) (.of main_v0 : StableHlo.TRef sig ⟨S16x64x28x28, .f32⟩) (rfl : (.f32 : EltTy) = .f32) shapeCasts_S16x64x784_S16x64x28x28 ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  StableHlo.reshape_bufs_sub ..
/-- This statement, from @kernel (main_call0), is the chain of its own items: each stretch of the function's operations aligned
    one at a time, every other item taken whole, then `chain_rfl`. -/
theorem main_chain_main_call0 : fn_kernel.body (F := F) (.of main_arg0) (.of main_arg1) (.of main_arg2) (.of main_arg3) (.of main_arg4) (.of main_arg5) (.of main_arg6) main_call0 = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [StableHlo.chain_seq_cons, Pipeline.chain_cons, StableHlo.chain_seq_cons]
  chain_rfl

/-- `main_chain` with each call that gives several items as one item, so that every statement has its own item. -/
theorem main_chain_calls (c : Dev nD) : main (F := F) c = (Pipeline.chain
  [ fn_kernel.body (F := F) (.of main_arg0) (.of main_arg1) (.of main_arg2) (.of main_arg3) (.of main_arg4) (.of main_arg5) (.of main_arg6) main_call0 ] : Prog (TpuEff nD τ sig (Elt F) (Pipeline.Sig Λ₀ (Fin 1) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [main_chain_calls, main_chain_main_call0]
  simp only [Pipeline.chain, Pipeline.chainK, bind_assoc, pure_bind, bind_pure_unit]

end Cert.KernelIdeal.Hand

end
-- ==== Proof.KI.Entry.lean ====
/- `KernelIdeal` around its region: what the host lines leave, the windows' blocks, the frame from a run of the region. -/
module

public import proofs.«01_k».proof.Proof.KI.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- a rectangle with long axes needs the deeper recursion
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The argument arrays of @main. -/
abbrev argRefs : List (Ref sig .tc) := [main_arg0, main_arg1, main_arg2, main_arg3, main_arg4, main_arg5, main_arg6]

set_option maxHeartbeats 1600000 in
/-- No host operation before the region writes an argument array. -/
theorem hostOps0_skips : ∀ b ∈ argRefs, (hostOps0 : List (HloOp τ sig (Elt F))).Forall fun op => Proc.devRef .tc b ∉ op.writes := by
  intro b hb
  simp only [argRefs, List.mem_cons, List.mem_nil_iff, or_false] at hb
  simp only [hostOps0, List.Forall, StableHlo.nullary_writes, StableHlo.unary_writes, StableHlo.binary_writes, StableHlo.reshape_writes, StableHlo.nary_writes, Finset.mem_singleton]
  rcases hb with rfl | rfl | rfl | rfl | rfl | rfl | rfl
  all_goals
    repeat' apply And.intro
    all_goals exact StableHlo.devRef_ne_of_ne (by decide)
/-- Nor does the one after it. -/
theorem hostOps1_skips : ∀ b ∈ argRefs, (hostOps1 : List (HloOp τ sig (Elt F))).Forall fun op => Proc.devRef .tc b ∉ op.writes := by
  intro b hb
  simp only [argRefs, List.mem_cons, List.mem_nil_iff, or_false] at hb
  simp only [hostOps1, List.Forall, StableHlo.nullary_writes, StableHlo.unary_writes, StableHlo.binary_writes, StableHlo.reshape_writes, StableHlo.nary_writes, Finset.mem_singleton]
  rcases hb with rfl | rfl | rfl | rfl | rfl | rfl | rfl <;> exact StableHlo.devRef_ne_of_ne (by decide)
/-- No window stages an argument array, and each is unscoped. -/
theorem args_rest : ∀ b ∈ argRefs, b ∈ Pipeline.restRefs sig spec0 := by
  intro b hb
  simp only [argRefs, List.mem_cons, List.mem_nil_iff, or_false] at hb
  rcases hb with rfl | rfl | rfl | rfl | rfl | rfl | rfl <;> exact Pipeline.mem_restRefs_of _ (by decide) (by decide)
theorem args_noArr : ∀ b ∈ argRefs, ∀ w, Pipeline.arrRef spec0 w ≠ b := by decide

/-- The region finds the argument arrays as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [List.flatten_cons, List.flatten_nil, List.append_nil]; exact hostOps0_skips b hb))
/-- And they end as launched. -/
theorem W_arg (dats : (p : Fin _) → (c : Dev nD) → Dat τ (Elt F) Unit ℕ (UR sig nD τ) ℕ (cfgs p) c) (c : Dev nD)
    (b : Ref sig .tc) (hb : b ∈ argRefs) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [List.flatten_cons, List.flatten_nil, List.append_nil]; exact hostOps1_skips b hb)),
    Pipeline.withArrays_of_ne _ c (V0 m c) _ b (args_noArr b hb)]
  exact V_arg m c b hb

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    have key : ∀ b ∈ argRefs, _ := fun b hb => ((h c).2 b (args_rest b hb)).trans (W_arg m dats c b hb)
    exact ⟨key _ (by decide), key _ (by decide), key _ (by decide), key _ (by decide), key _ (by decide), key _ (by decide), key _ (by decide)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at every point — by arithmetic of the point. -/
theorem hcond0_0 : ∀ t : Fin cfg0.N, cond0_0 (grid0.coords t) :=
  (fun t => by
    have ht : t.val < 4 := Nat.lt_of_lt_of_eq t.isLt N_0
    have e0 : (grid0.coords t 0).val = t.val / 1 % 4 := Pipeline.Grid.coords_val t 0 (by decide) rfl
    have e1 : (grid0.coords t 1).val = t.val / 1 % 1 := Pipeline.Grid.coords_val t 1 (by decide) rfl
    simp only [cond0_0, e0, e1]
    word_cmp
   : ∀ t : Fin grid0.N, cond0_0 (grid0.coords t))

/-! ## The kernel body on any staging memrefs: a subtype the run finds -/

/-- One staging buffer of output window 7, through which its contents are stated (`View.read_writes_of_cover`: the
    choice does not matter). -/
abbrev VO0_7 : View sig .tc .vmem S16x16x784 .f32 := (Memref.whole cc0_stg7_0 : Memref sig .tc .vmem S16x16x784 .f32).view
/-- Each window's current staging memref at point `t`, spelled as the pipeline passes it (`bodyAt0`), and its wholeness. -/
abbrev ms0_0 (t : Fin cfg0.N) : Memref sig .tc .vmem S16x32x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S576x6 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x6 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x6 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S576x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x16x784 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S576x25 .i8 := Memref.whole cc0_scratch0
abbrev scM0_1 : Memref sig .tc .vmem S96x576 .i8 := Memref.whole cc0_scratch1
abbrev scM0_2 : Memref sig .tc .vmem S16x96 .i8 := Memref.whole cc0_scratch2
abbrev scM0_3 : Memref sig .tc .vmem S576x1 .i32 := Memref.whole cc0_scratch3
abbrev scM0_4 : Memref sig .tc .vmem S576x1 .i32 := Memref.whole cc0_scratch4
abbrev scM0_5 : Memref sig .tc .vmem S96x1 .i32 := Memref.whole cc0_scratch5
abbrev scM0_6 : Memref sig .tc .vmem S96x1 .i32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Hand

end
-- ==== Proof.KI.Body.lean ====
/- One run of the body of `KernelIdeal`, the pieces it stores. -/
module

public import proofs.«01_k».proof.Proof.KI.Entry

@[expose] public section

-- a rectangle with long axes needs the deeper recursion
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S16x32x784 .f32) (harg2 : arg2.IsWhole) (arg3 : Memref sig .tc .vmem S576x6 .i32) (harg3 : arg3.IsWhole) (arg4 : Memref sig .tc .vmem S96x6 .i32) (harg4 : arg4.IsWhole) (arg5 : Memref sig .tc .vmem S16x6 .i32) (harg5 : arg5.IsWhole) (arg6 : Memref sig .tc .vmem S576x64 .f32) (harg6 : arg6.IsWhole) (arg7 : Memref sig .tc .vmem S96x64 .f32) (harg7 : arg7.IsWhole) (arg8 : Memref sig .tc .vmem S16x64 .f32) (harg8 : arg8.IsWhole) (arg9 : Memref sig .tc .vmem S16x16x784 .f32) (harg9 : arg9.IsWhole) (arg10 : Memref sig .tc .vmem S576x25 .i8) (harg10 : arg10.IsWhole) (arg11 : Memref sig .tc .vmem S96x576 .i8) (harg11 : arg11.IsWhole) (arg12 : Memref sig .tc .vmem S16x96 .i8) (harg12 : arg12.IsWhole) (arg13 : Memref sig .tc .vmem S576x1 .i32) (harg13 : arg13.IsWhole) (arg14 : Memref sig .tc .vmem S576x1 .i32) (harg14 : arg14.IsWhole) (arg15 : Memref sig .tc .vmem S96x1 .i32) (harg15 : arg15.IsWhole) (arg16 : Memref sig .tc .vmem S96x1 .i32) (harg16 : arg16.IsWhole) (hc0 : cond0_0 i)
    (x0 : Vec F S16x32x784 .f32) (x1 : Vec F S576x6 .i32) (x2 : Vec F S96x6 .i32) (x3 : Vec F S16x6 .i32) (x4 : Vec F S576x64 .f32) (x5 : Vec F S96x64 .f32) (x6 : Vec F S16x64 .f32) :
    Σ' (L7 : List (View.Piece (Elt F) S16x16x784 .f32)), Σ' (LT0 : List (View.Piece (Elt F) S576x25 .i8)), Σ' (LT1 : List (View.Piece (Elt F) S96x576 .i8)), Σ' (LT2 : List (View.Piece (Elt F) S16x96 .i8)), Σ' (LT3 : List (View.Piece (Elt F) S576x1 .i32)), Σ' (LT4 : List (View.Piece (Elt F) S576x1 .i32)), Σ' (LT5 : List (View.Piece (Elt F) S96x1 .i32)), { LT6 : List (View.Piece (Elt F) S96x1 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0) ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (∃ f, arg16.view.loc (c : Thread nD τ) ↦[arg16.view.set]{fullShare} arg16.view.writes (Elt F) f LT6)) -∗ K ⟨⟩))
          ⊢ wp frame (wpE (defs₀ (F := F)) Variants.none c none) E (cc0__kernel_body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0__kernel_body_eq_skeleton]; unfold cc0__kernel_body_skel
    simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Hand

end
-- ==== Proof.KI.Frame.lean ====
/- The frame of `KernelIdeal`. -/
module

public import proofs.«01_k».proof.Proof.KI.Body
public import Idealize.ShloMosaic.Lib.Claim

@[expose] public section

-- a rectangle with long axes needs the deeper recursion
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (16 stores of `S1x16x784`, checked by the kernel's evaluation: Lib/Ring.lean `Piece.tiledL`, linear in the pieces, through a loop's `@[irreducible]` trip theorem too), so they cover it. -/
theorem cover0_A_7 (c : Dev nD) (i : grid0.Coords) (arg2 : Memref sig .tc .vmem S16x32x784 .f32) (harg2 : arg2.IsWhole) (arg3 : Memref sig .tc .vmem S576x6 .i32) (harg3 : arg3.IsWhole) (arg4 : Memref sig .tc .vmem S96x6 .i32) (harg4 : arg4.IsWhole) (arg5 : Memref sig .tc .vmem S16x6 .i32) (harg5 : arg5.IsWhole) (arg6 : Memref sig .tc .vmem S576x64 .f32) (harg6 : arg6.IsWhole) (arg7 : Memref sig .tc .vmem S96x64 .f32) (harg7 : arg7.IsWhole) (arg8 : Memref sig .tc .vmem S16x64 .f32) (harg8 : arg8.IsWhole) (arg9 : Memref sig .tc .vmem S16x16x784 .f32) (harg9 : arg9.IsWhole) (arg10 : Memref sig .tc .vmem S576x25 .i8) (harg10 : arg10.IsWhole) (arg11 : Memref sig .tc .vmem S96x576 .i8) (harg11 : arg11.IsWhole) (arg12 : Memref sig .tc .vmem S16x96 .i8) (harg12 : arg12.IsWhole) (arg13 : Memref sig .tc .vmem S576x1 .i32) (harg13 : arg13.IsWhole) (arg14 : Memref sig .tc .vmem S576x1 .i32) (harg14 : arg14.IsWhole) (arg15 : Memref sig .tc .vmem S96x1 .i32) (harg15 : arg15.IsWhole) (arg16 : Memref sig .tc .vmem S96x1 .i32) (harg16 : arg16.IsWhole) (hc0 : cond0_0 i)
    (x0 : Vec F S16x32x784 .f32) (x1 : Vec F S576x6 .i32) (x2 : Vec F S96x6 .i32) (x3 : Vec F S16x6 .i32) (x4 : Vec F S576x64 .f32) (x5 : Vec F S96x64 .f32) (x6 : Vec F S16x64 .f32) (y : S16x16x784.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1 S1x16x784.size (by sl_kernel_rfl) y

/-- What the run leaves in output 7's staging buffer: its pieces read back over junk. -/
def out0_A_7 (c : Dev nD) (i : grid0.Coords) (arg2 : Memref sig .tc .vmem S16x32x784 .f32) (harg2 : arg2.IsWhole) (arg3 : Memref sig .tc .vmem S576x6 .i32) (harg3 : arg3.IsWhole) (arg4 : Memref sig .tc .vmem S96x6 .i32) (harg4 : arg4.IsWhole) (arg5 : Memref sig .tc .vmem S16x6 .i32) (harg5 : arg5.IsWhole) (arg6 : Memref sig .tc .vmem S576x64 .f32) (harg6 : arg6.IsWhole) (arg7 : Memref sig .tc .vmem S96x64 .f32) (harg7 : arg7.IsWhole) (arg8 : Memref sig .tc .vmem S16x64 .f32) (harg8 : arg8.IsWhole) (arg9 : Memref sig .tc .vmem S16x16x784 .f32) (harg9 : arg9.IsWhole) (arg10 : Memref sig .tc .vmem S576x25 .i8) (harg10 : arg10.IsWhole) (arg11 : Memref sig .tc .vmem S96x576 .i8) (harg11 : arg11.IsWhole) (arg12 : Memref sig .tc .vmem S16x96 .i8) (harg12 : arg12.IsWhole) (arg13 : Memref sig .tc .vmem S576x1 .i32) (harg13 : arg13.IsWhole) (arg14 : Memref sig .tc .vmem S576x1 .i32) (harg14 : arg14.IsWhole) (arg15 : Memref sig .tc .vmem S96x1 .i32) (harg15 : arg15.IsWhole) (arg16 : Memref sig .tc .vmem S96x1 .i32) (harg16 : arg16.IsWhole) (hc0 : cond0_0 i)
    (x0 : Vec F S16x32x784 .f32) (x1 : Vec F S576x6 .i32) (x2 : Vec F S96x6 .i32) (x3 : Vec F S16x6 .i32) (x4 : Vec F S576x64 .f32) (x5 : Vec F S96x64 .f32) (x6 : Vec F S16x64 .f32) : Vec F S16x16x784 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1)

/-! ## What the outputs hold after each point -/

/-- What the outputs' staging buffers hold after the body at point `t`: the run's contents at
    the point's memrefs and input blocks. -/
def outsAt0 (c : Dev nD) (t : Fin cfg0.N) : Vec F S16x16x784 .f32 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (hcond0_0 t) (iblk m c 0 t) (iblk m c 1 t) (iblk m c 2 t) (iblk m c 3 t) (iblk m c 4 t) (iblk m c 5 t) (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_7
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, ⟨%e7, H7⟩, ⟨%fT0, HS0⟩, ⟨%fT1, HS1⟩, ⟨%fT2, HS2⟩, ⟨%fT3, HS3⟩, ⟨%fT4, HS4⟩, ⟨%fT5, HS5⟩, ⟨%fT6, HS6⟩⟩
  isplitl [HS0 HS1 HS2 HS3 HS4 HS5 HS6 Hg]
  · isplitl [HS0 HS1 HS2 HS3 HS4 HS5 HS6]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      iexists _; unfold owns; iexists _; isplitr
      swap; · iexact HS6
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.Words.lean ====
/- The words of the network: weights of a selection row, addresses, packed tables, and one tree's value. -/
module

public import Idealize.ShloMosaic.Lib.BitWord
public import Idealize.ShloMosaic.Lib.PointwiseCore
public import Idealize.ShloMosaic.PureOps.Reduce
public import Mathlib.Data.BitVec

@[expose] public section

set_option maxRecDepth 16384

noncomputable section

namespace Cert.Words

open Idealize.ShloMosaic

/-! ### The weights -/

/-- The weight of column `k` in a row that reads the six inputs `q`: `2ʲ` added for every input `j` that is column `k`. -/
def wt (q : Fin 6 → BitVec 32) (k : BitVec 32) : BitVec 32 :=
  IntOp.addi (IntOp.addi (IntOp.addi (IntOp.addi (IntOp.addi (IntOp.addi 0#32
    (Scalar.select (IntOp.cmpi .eq (q 0) k) 1#32 0#32))
    (Scalar.select (IntOp.cmpi .eq (q 1) k) 2#32 0#32))
    (Scalar.select (IntOp.cmpi .eq (q 2) k) 4#32 0#32))
    (Scalar.select (IntOp.cmpi .eq (q 3) k) 8#32 0#32))
    (Scalar.select (IntOp.cmpi .eq (q 4) k) 16#32 0#32))
    (Scalar.select (IntOp.cmpi .eq (q 5) k) 32#32 0#32)

/-- One term of a weight. -/
theorem select_eq (a k w : BitVec 32) : Scalar.select (IntOp.cmpi .eq a k) w 0#32 = if a = k then w else 0#32 := by
  unfold Scalar.select IntOp.cmpi
  by_cases h : a = k
  · simp [h]
  · have : (a == k) = false := by simpa using h
    simp [h, this]

/-- A weight, narrowed to a byte and read signed, is the sum of its powers of two. -/
theorem toInt_wt (q : Fin 6 → BitVec 32) (k : BitVec 32) :
    ((wt q k).setWidth 8).toInt = ∑ j : Fin 6, if q j = k then (2 : ℤ) ^ (j : ℕ) else 0 := by
  unfold wt
  simp only [select_eq, Fin.sum_univ_succ, Fin.sum_univ_zero, IntOp.addi]
  by_cases h0 : q 0 = k <;> by_cases h1 : q 1 = k <;> by_cases h2 : q 2 = k <;> by_cases h3 : q 3 = k <;>
    by_cases h4 : q 4 = k <;> by_cases h5 : q 5 = k <;>
    simp only [h0, h1, h2, h3, h4, h5, if_true, if_false, Fin.succ_zero_eq_one, Fin.isValue] <;>
    simp [h0, h1, h2, h3, h4, h5, show Fin.succ (2 : Fin 5) = 3 from rfl, show Fin.succ (3 : Fin 5) = 4 from rfl, show Fin.succ (4 : Fin 5) = 5 from rfl, show Fin.succ (1 : Fin 5) = 2 from rfl] <;> decide

/-- A row of weights against a column of values: each input's value, at its power of two. -/
theorem sum_onehot {K : ℕ} (n : Fin 6 → Fin K) (b : Fin K → ℤ) :
    ∑ k : Fin K, (∑ j : Fin 6, if n j = k then (2 : ℤ) ^ (j : ℕ) else 0) * b k = ∑ j : Fin 6, (2 : ℤ) ^ (j : ℕ) * b (n j) := by
  simp only [Finset.sum_mul, ite_mul, zero_mul]
  rw [Finset.sum_comm]
  simp

/-- A weight of a block-diagonal matrix: the row of block `a` has a selection row's weights at the columns of block `a`, and
    zero elsewhere. -/
theorem toInt_masked {K : ℕ} (M : ℕ) [NeZero M] (hK : K ≤ 2 ^ 32) (a : ℕ) (ha : a * M + M ≤ K) (q : Fin 6 → BitVec 32)
    (hq : ∀ j, (q j).toNat < M) (k : Fin K) (n : Fin 6 → Fin K) (hn : ∀ j, (n j : ℕ) = a * M + (q j).toNat) :
    ((Scalar.select (IntOp.cmpi .eq (BitVec.ofNat 32 a) (BitVec.ofNat 32 ((k : ℕ) / M)))
      (wt q (BitVec.ofNat 32 ((k : ℕ) % M))) 0#32).setWidth 8).toInt = ∑ j : Fin 6, if n j = k then (2 : ℤ) ^ (j : ℕ) else 0 := by
  have hM : 0 < M := NeZero.pos M
  have hk := k.isLt
  have hdm := Nat.div_add_mod (k : ℕ) M
  have hml := Nat.mod_lt (k : ℕ) hM
  have hdk : (k : ℕ) / M ≤ k := Nat.div_le_self _ _
  have haM : a ≤ a * M := Nat.le_mul_of_pos_right a hM
  rw [select_eq]
  by_cases h : a = (k : ℕ) / M
  · rw [← h, if_pos rfl, toInt_wt]
    refine Finset.sum_congr rfl fun j _ => ?_
    have e : q j = BitVec.ofNat 32 ((k : ℕ) % M) ↔ n j = k := by
      rw [← BitVec.toNat_inj, BitVec.toNat_ofNat, Nat.mod_eq_of_lt (a := (k : ℕ) % M) (by omega), Fin.ext_iff, hn j, h]
      have e2 := Nat.mul_comm M ((k : ℕ) / M)
      omega
    simp only [e]
  · have hne : BitVec.ofNat 32 a ≠ BitVec.ofNat 32 ((k : ℕ) / M) := by
      intro e
      have := congrArg BitVec.toNat e
      rw [BitVec.toNat_ofNat, BitVec.toNat_ofNat, Nat.mod_eq_of_lt (by omega), Nat.mod_eq_of_lt (by omega)] at this
      exact h this
    rw [if_neg hne]
    rw [Finset.sum_eq_zero]
    · rfl
    · intro j _
      rw [if_neg]
      intro e
      apply h
      have h1 : a * M + (q j).toNat = k := by rw [← hn j, e]
      rw [← h1, Nat.mul_comm, Nat.mul_add_div hM, Nat.div_eq_of_lt (hq j), Nat.add_zero]

/-! ### The addresses -/

/-- The address of six input bits, input `j` in place `j`. -/
def adrN (b : Fin 6 → BitVec 1) : ℕ := ∑ j : Fin 6, 2 ^ (j : ℕ) * (b j).toNat

theorem adrN_lt (b : Fin 6 → BitVec 1) : adrN b < 64 := by
  unfold adrN
  simp only [Fin.sum_univ_succ, Fin.sum_univ_zero]
  have h : ∀ j, (b j).toNat < 2 := fun j => (b j).isLt
  have h0 := h 0; have h1 := h 1; have h2 := h 2; have h3 := h 3; have h4 := h 4; have h5 := h 5
  simp [show Fin.succ (2 : Fin 5) = 3 from rfl, show Fin.succ (3 : Fin 5) = 4 from rfl, show Fin.succ (4 : Fin 5) = 5 from rfl, show Fin.succ (1 : Fin 5) = 2 from rfl]
  omega

/-- The same, as an index of a table of 64. -/
def adr (b : Fin 6 → BitVec 1) : Fin 64 := ⟨adrN b, adrN_lt b⟩

theorem toInt_bit (b : BitVec 1) : (b.setWidth 8).toInt = (b.toNat : ℤ) := by
  revert b; decide

theorem toInt_bit_word (b : BitVec 1) : ((b.setWidth 32).setWidth 8).toInt = (b.toNat : ℤ) := by
  revert b; decide

theorem ofInt_adr (b : Fin 6 → BitVec 1) :
    BitVec.ofInt 32 (∑ j : Fin 6, (2 : ℤ) ^ (j : ℕ) * ((b j).toNat : ℤ)) = BitVec.ofNat 32 (adr b : ℕ) := by
  rw [← BitVec.ofInt_natCast]
  congr 1

/-! ### The packed tables -/

/-- The first `n` flags packed, flag `i` in bit `i`. -/
def packN (P : ℕ → BitVec 1) : ℕ → BitVec 32
  | 0 => 0#32
  | n + 1 => packN P n + (P n).setWidth 32 * (1#32 <<< n)

theorem packN_eq (P : ℕ → BitVec 1) : ∀ n, n ≤ 32 → packN P n = Bits.bitWord (fun i => P i == 1#1) n
  | 0, _ => rfl
  | n + 1, h => by
    have ih := packN_eq P n (by omega)
    unfold packN Bits.bitWord
    rw [ih]
    have h2 : BitVec.ofNat 32 (2 ^ n) = 1#32 <<< n := by
      apply BitVec.eq_of_toNat_eq
      simp [BitVec.toNat_shiftLeft, Nat.shiftLeft_eq]
    rcases (show P n = 0#1 ∨ P n = 1#1 by generalize P n = b; revert b; decide) with hb | hb
    · rw [hb]; simp
    · rw [hb, h2]
      simp only [beq_self_eq_true, if_true]
      rw [show (BitVec.setWidth 32 1#1) = 1#32 from rfl, show 1#32 * (1#32 <<< n) = 1#32 <<< n from one_mul _]
      apply BitVec.add_eq_or_of_and_eq_zero
      ext i hi
      rw [← BitVec.getLsbD_eq_getElem, ← BitVec.getLsbD_eq_getElem, BitVec.getLsbD_and, Bits.getLsbD_bitWord _ n (by omega)]
      simp
      intro h1 _ _ _
      omega

theorem getLsbD_packN (P : ℕ → BitVec 1) (i : ℕ) (hi : i < 32) : (packN P 32).getLsbD i = (P i == 1#1) := by
  rw [packN_eq P 32 le_rfl, Bits.getLsbD_bitWord _ 32 le_rfl]
  simp [hi]

/-- The kernel's packing: flags times shifted ones, summed. -/
theorem fold_pack (P : ℕ → BitVec 1) : ∀ n : ℕ, n ≤ 32 →
    Finset.fold IntOp.addi 0#32 (fun x : Fin n => IntOp.muli ((P x).setWidth 32) (IntOp.shli .vector 1#32 (BitVec.ofNat 32 (x : ℕ)))) Finset.univ
      = packN P n
  | 0, _ => rfl
  | n + 1, h => by
    have ih := fold_pack P n (by omega)
    rw [Fin.univ_castSuccEmb, Finset.fold_cons, Finset.fold_map]
    have hs : IntOp.shli .vector 1#32 (BitVec.ofNat 32 n) = 1#32 <<< n := by
      unfold IntOp.shli
      have : (BitVec.ofNat 32 n).toNat = n := by rw [BitVec.toNat_ofNat]; omega
      rw [if_pos (by omega)]
      rw [BitVec.shiftLeft_eq', this]
    have e : packN P (n + 1) = IntOp.addi (IntOp.muli ((P n).setWidth 32) (IntOp.shli .vector 1#32 (BitVec.ofNat 32 n))) (packN P n) := by
      rw [hs]
      exact BitVec.add_comm _ _
    rw [e, ← ih]
    rfl

/-- The flags of a table row past its end count as zero. -/
def row (t : Fin 64 → BitVec 1) (i : ℕ) : BitVec 1 := if h : i < 64 then t ⟨i, h⟩ else 0#1

theorem row_fin (t : Fin 64 → BitVec 1) (i : Fin 64) : row t i = t i := dif_pos i.isLt

/-- The kernel's table read: the high or the low word of a table by the address's bit 5, then that word's bit at the low five. -/
def look (hi lo a : BitVec 32) : BitVec 32 :=
  IntOp.andi (IntOp.shrsi .vector (Scalar.select (IntOp.cmpi .sge a 32#32) hi lo) (IntOp.andi a 31#32)) 1#32

theorem bit_of_word (w : BitVec 32) (i : ℕ) (hi : i < 32) (b : BitVec 1) (h : w.getLsbD i = (b == 1#1)) :
    IntOp.andi (IntOp.shrsi .vector w (BitVec.ofNat 32 i)) 1#32 = b.setWidth 32 := by
  have hs : IntOp.shrsi .vector w (BitVec.ofNat 32 i) = w.sshiftRight i := by
    unfold IntOp.shrsi
    have : (BitVec.ofNat 32 i).toNat = i := by simp; omega
    rw [if_pos (by omega)]
    rw [BitVec.sshiftRight', this]
  rw [hs]
  unfold IntOp.andi
  have hw : w.sshiftRight i &&& 1#32 = BitVec.setWidth 32 (BitVec.ofBool (w.getLsbD i)) := by
    ext k hk
    simp only [BitVec.getElem_and, BitVec.getElem_sshiftRight, BitVec.getElem_setWidth]
    rcases Nat.eq_zero_or_pos k with rfl | hk0
    · simp [hi, BitVec.getLsbD_eq_getElem]
    · have : k ≠ 0 := by omega
      simp [BitVec.getElem_one, this, BitVec.getLsbD_ofBool]
  rw [hw, h]
  clear h hw hs
  revert b
  decide

theorem look_pack (Q : ℕ → BitVec 1) (a : Fin 64) :
    look (packN (fun i => Q (32 + i)) 32) (packN Q 32) (BitVec.ofNat 32 (a : ℕ)) = (Q a).setWidth 32 := by
  unfold look
  have hm : ∀ a : Fin 64, IntOp.andi (BitVec.ofNat 32 (a : ℕ)) 31#32 = BitVec.ofNat 32 ((a : ℕ) % 32) := by decide
  have hc : ∀ a : Fin 64, IntOp.cmpi .sge (BitVec.ofNat 32 (a : ℕ)) 32#32 = BitVec.ofBool (decide (32 ≤ (a : ℕ))) := by decide
  rw [hm, hc]
  have ha := a.isLt
  by_cases h : 32 ≤ (a : ℕ)
  · rw [show Scalar.select (BitVec.ofBool (decide (32 ≤ (a : ℕ)))) (packN (fun i => Q (32 + i)) 32) (packN Q 32) = packN (fun i => Q (32 + i)) 32 by
      simp [h, Scalar.select]]
    refine bit_of_word _ _ (by omega) _ ?_
    rw [getLsbD_packN _ _ (by omega)]
    simp only [show 32 + (a : ℕ) % 32 = a by omega]
  · rw [show Scalar.select (BitVec.ofBool (decide (32 ≤ (a : ℕ)))) (packN (fun i => Q (32 + i)) 32) (packN Q 32) = packN Q 32 by
      simp [h, Scalar.select]]
    refine bit_of_word _ _ (by omega) _ ?_
    rw [getLsbD_packN _ _ (by omega)]
    simp only [show (a : ℕ) % 32 = a by omega]

/-! ### One tree -/

/-- A word as an index below `K`. -/
def ixOf (K : ℕ) [NeZero K] (w : BitVec 32) : Fin K := ⟨w.toNat % K, Nat.mod_lt _ (NeZero.pos K)⟩

theorem ofNat_ixOf (K : ℕ) [NeZero K] (w : BitVec 32) (h : w.toNat < K) : BitVec.ofNat 32 (ixOf K w : ℕ) = w := by
  unfold ixOf
  apply BitVec.eq_of_toNat_eq
  simp only [BitVec.toNat_ofNat]
  rw [Nat.mod_eq_of_lt h, Nat.mod_eq_of_lt w.isLt]

/-- Equality with a column's number, for a word in range. -/
theorem eq_ofNat_iff (K : ℕ) [NeZero K] (hK : K ≤ 2 ^ 32) (w : BitVec 32) (h : w.toNat < K) (k : Fin K) :
    w = BitVec.ofNat 32 (k : ℕ) ↔ ixOf K w = k := by
  constructor
  · intro e
    apply Fin.ext
    unfold ixOf
    simp only
    rw [e, BitVec.toNat_ofNat, Nat.mod_eq_of_lt (a := (k : ℕ)) (by have := k.isLt; omega), Nat.mod_eq_of_lt k.isLt]
  · rintro rfl
    exact (ofNat_ixOf K w h).symm

/-- One node: its table's flag at the address of its inputs' flags. -/
def node {K : ℕ} [NeZero K] (b : Fin K → BitVec 1) (q : Fin 6 → BitVec 32) : Fin 64 := adr fun j => b (ixOf K (q j))

/-- One tree on one patch: the last node's address. -/
def tree (b : Fin 25 → BitVec 1) (q0 : Fin 36 → Fin 6 → BitVec 32) (t0 : Fin 36 → Fin 64 → BitVec 1)
    (q1 : Fin 6 → Fin 6 → BitVec 32) (t1 : Fin 6 → Fin 64 → BitVec 1) (q2 : Fin 6 → BitVec 32) : Fin 64 :=
  node (fun n : Fin 6 => t1 n (node (fun n : Fin 36 => t0 n (node b (q0 n))) (q1 n))) q2

end Cert.Words
end
end
-- ==== Proof.KI.Pays.lean ====
/- The payloads of the kernel, read at an index: the bits of a block, the three selections, the two table reads. -/
module

public import proofs.«01_k».proof.Proof.Gen.KernelIdeal.Skeleton
public import proofs.«01_k».proof.Proof.Words
public import Idealize.ShloMosaic.Lib.IntMxu
public import Idealize.ShloMosaic.Lib.Pointwise

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Words

/-- The column of image `im`, position `l`. -/
def col (im : Fin 16) (l : Fin 784) : Fin 12544 := ⟨784 * (im : ℕ) + l, by have := im.isLt; have := l.isLt; omega⟩

/-- The flag of an input element. -/
def gt (x : F .f32) : BitVec 1 := FloatOps.cmpf .ogt x (Scalar.ofBits .f32 0x00000000#32)

/-- The product of a selection matrix with the columns, at an index. -/
theorem dot0_at (a : IVec S576x25 8) (b : IVec S25x12544 8) (r : Fin 576) (p : Fin 12544) :
    matmulI8 IntMxuNumerics.v7x dot_S576x25_S25x12544_S576x12544_1_0_0_1_n_n a b (constantI S576x12544 32 0#32) (ix2 r p)
      = BitVec.ofInt 32 (∑ k : Fin 25, (a (ix2 r k)).toInt * (b (ix2 k p)).toInt) := by
  rw [matmulI8_exact_of_numel _ _ a b _ _ rfl (by decide)]
  unfold dotI8
  rw [dot_S576x25_S25x12544_S576x12544_1_0_0_1_n_n.sum_contr₁ (a := 1) rfl (K := 25) rfl]
  refine congrArg _ (Finset.sum_congr rfl fun k _ => ?_)
  congr 2
  · congr 1
    funext x; fin_cases x <;> rfl
  · congr 1
    funext x; fin_cases x <;> rfl

/-- The same where the matrix selects six columns a row and the columns hold flags: the addresses. -/
theorem sel0_at (a : IVec S576x25 8) (b : IVec S25x12544 8) (r : Fin 576) (p : Fin 12544) (n : Fin 6 → Fin 25) (f : Fin 25 → BitVec 1)
    (ha : ∀ k, (a (ix2 r k)).toInt = ∑ j : Fin 6, if n j = k then (2 : ℤ) ^ (j : ℕ) else 0)
    (hb : ∀ k, (b (ix2 k p)).toInt = ((f k).toNat : ℤ)) :
    matmulI8 IntMxuNumerics.v7x dot_S576x25_S25x12544_S576x12544_1_0_0_1_n_n a b (constantI S576x12544 32 0#32) (ix2 r p)
      = BitVec.ofNat 32 (adr fun j => f (n j) : ℕ) := by
  rw [dot0_at, ← ofInt_adr, ← sum_onehot n fun k => ((f k).toNat : ℤ)]
  simp only [ha, hb]

/-- The product of a selection matrix with the columns, at an index. -/
theorem dot1_at (a : IVec S96x576 8) (b : IVec S576x12544 8) (r : Fin 96) (p : Fin 12544) :
    matmulI8 IntMxuNumerics.v7x dot_S96x576_S576x12544_S96x12544_1_0_0_1_n_n a b (constantI S96x12544 32 0#32) (ix2 r p)
      = BitVec.ofInt 32 (∑ k : Fin 576, (a (ix2 r k)).toInt * (b (ix2 k p)).toInt) := by
  rw [matmulI8_exact_of_numel _ _ a b _ _ rfl (by decide)]
  unfold dotI8
  rw [dot_S96x576_S576x12544_S96x12544_1_0_0_1_n_n.sum_contr₁ (a := 1) rfl (K := 576) rfl]
  refine congrArg _ (Finset.sum_congr rfl fun k _ => ?_)
  congr 2
  · congr 1
    funext x; fin_cases x <;> rfl
  · congr 1
    funext x; fin_cases x <;> rfl

/-- The same where the matrix selects six columns a row and the columns hold flags: the addresses. -/
theorem sel1_at (a : IVec S96x576 8) (b : IVec S576x12544 8) (r : Fin 96) (p : Fin 12544) (n : Fin 6 → Fin 576) (f : Fin 576 → BitVec 1)
    (ha : ∀ k, (a (ix2 r k)).toInt = ∑ j : Fin 6, if n j = k then (2 : ℤ) ^ (j : ℕ) else 0)
    (hb : ∀ k, (b (ix2 k p)).toInt = ((f k).toNat : ℤ)) :
    matmulI8 IntMxuNumerics.v7x dot_S96x576_S576x12544_S96x12544_1_0_0_1_n_n a b (constantI S96x12544 32 0#32) (ix2 r p)
      = BitVec.ofNat 32 (adr fun j => f (n j) : ℕ) := by
  rw [dot1_at, ← ofInt_adr, ← sum_onehot n fun k => ((f k).toNat : ℤ)]
  simp only [ha, hb]

/-- The product of a selection matrix with the columns, at an index. -/
theorem dot2_at (a : IVec S16x96 8) (b : IVec S96x12544 8) (r : Fin 16) (p : Fin 12544) :
    matmulI8 IntMxuNumerics.v7x dot_S16x96_S96x12544_S16x12544_1_0_0_1_n_n a b (constantI S16x12544 32 0#32) (ix2 r p)
      = BitVec.ofInt 32 (∑ k : Fin 96, (a (ix2 r k)).toInt * (b (ix2 k p)).toInt) := by
  rw [matmulI8_exact_of_numel _ _ a b _ _ rfl (by decide)]
  unfold dotI8
  rw [dot_S16x96_S96x12544_S16x12544_1_0_0_1_n_n.sum_contr₁ (a := 1) rfl (K := 96) rfl]
  refine congrArg _ (Finset.sum_congr rfl fun k _ => ?_)
  congr 2
  · congr 1
    funext x; fin_cases x <;> rfl
  · congr 1
    funext x; fin_cases x <;> rfl

/-- The same where the matrix selects six columns a row and the columns hold flags: the addresses. -/
theorem sel2_at (a : IVec S16x96 8) (b : IVec S96x12544 8) (r : Fin 16) (p : Fin 12544) (n : Fin 6 → Fin 96) (f : Fin 96 → BitVec 1)
    (ha : ∀ k, (a (ix2 r k)).toInt = ∑ j : Fin 6, if n j = k then (2 : ℤ) ^ (j : ℕ) else 0)
    (hb : ∀ k, (b (ix2 k p)).toInt = ((f k).toNat : ℤ)) :
    matmulI8 IntMxuNumerics.v7x dot_S16x96_S96x12544_S16x12544_1_0_0_1_n_n a b (constantI S16x12544 32 0#32) (ix2 r p)
      = BitVec.ofNat 32 (adr fun j => f (n j) : ℕ) := by
  rw [dot2_at, ← ofInt_adr, ← sum_onehot n fun k => ((f k).toNat : ℤ)]
  simp only [ha, hb]

/-- The first 25 rows of the columns. -/
theorem rows25_at (x : IVec S32x12544 8) (k : Fin 25) (p : Fin 12544) :
    extractStridedSlice S25x12544 ![0, 0] x slices_S32x12544_o0_0_S25x12544 (ix2 k p) = x (ix2 (k.castLE (by decide)) p) := by
  pointwise
  rfl

set_option maxHeartbeats 2000000 in
/-- The sixteen images side by side, read at a column. -/
theorem cat_at (a0 a1 a2 a3 a4 a5 a6 a7 a8 a9 a10 a11 a12 a13 a14 a15 : IVec S32x784 8) (h) (f : Fin 16 → Fin 32 → Fin 784 → BitVec 8)
    (h0 : ∀ k l, a0 (ix2 k l) = f 0 k l)
    (h1 : ∀ k l, a1 (ix2 k l) = f 1 k l)
    (h2 : ∀ k l, a2 (ix2 k l) = f 2 k l)
    (h3 : ∀ k l, a3 (ix2 k l) = f 3 k l)
    (h4 : ∀ k l, a4 (ix2 k l) = f 4 k l)
    (h5 : ∀ k l, a5 (ix2 k l) = f 5 k l)
    (h6 : ∀ k l, a6 (ix2 k l) = f 6 k l)
    (h7 : ∀ k l, a7 (ix2 k l) = f 7 k l)
    (h8 : ∀ k l, a8 (ix2 k l) = f 8 k l)
    (h9 : ∀ k l, a9 (ix2 k l) = f 9 k l)
    (h10 : ∀ k l, a10 (ix2 k l) = f 10 k l)
    (h11 : ∀ k l, a11 (ix2 k l) = f 11 k l)
    (h12 : ∀ k l, a12 (ix2 k l) = f 12 k l)
    (h13 : ∀ k l, a13 (ix2 k l) = f 13 k l)
    (h14 : ∀ k l, a14 (ix2 k l) = f 14 k l)
    (h15 : ∀ k l, a15 (ix2 k l) = f 15 k l)
    (im : Fin 16) (k : Fin 32) (l : Fin 784) :
    concatenate S32x12544 1 [⟨S32x784, a0⟩, ⟨S32x784, a1⟩, ⟨S32x784, a2⟩, ⟨S32x784, a3⟩, ⟨S32x784, a4⟩, ⟨S32x784, a5⟩, ⟨S32x784, a6⟩, ⟨S32x784, a7⟩, ⟨S32x784, a8⟩, ⟨S32x784, a9⟩, ⟨S32x784, a10⟩, ⟨S32x784, a11⟩, ⟨S32x784, a12⟩, ⟨S32x784, a13⟩, ⟨S32x784, a14⟩, ⟨S32x784, a15⟩] h (ix2 k (col im l)) = f im k l := by
  have e := concatenate_ofFn_apply (t := S32x12544) (s₁ := S32x784) 1 (fun n : Fin 16 => (![a0, a1, a2, a3, a4, a5, a6, a7, a8, a9, a10, a11, a12, a13, a14, a15] : Fin 16 → S32x784.Idx → BitVec 8) n) h rfl 784 rfl (ix2 k (col im l)) im
    (by show (784 * (im : ℕ) + l) / 784 = im
        have := l.isLt; omega) (ix2 k l)
    (by show (l : ℕ) = (784 * (im : ℕ) + l) % 784
        have := l.isLt; omega)
    (by intro b hb; fin_cases b
        · rfl
        · exact absurd rfl hb)
  refine Eq.trans e ?_
  clear e
  fin_cases im
  · exact h0 k l
  · exact h1 k l
  · exact h2 k l
  · exact h3 k l
  · exact h4 k l
  · exact h5 k l
  · exact h6 k l
  · exact h7 k l
  · exact h8 k l
  · exact h9 k l
  · exact h10 k l
  · exact h11 k l
  · exact h12 k l
  · exact h13 k l
  · exact h14 k l
  · exact h15 k l

/-- The first layer: its flags, as words. -/
theorem pay46_at (v7 v12 v17 v22 v27 v32 v37 v42 v47 v52 v57 v62 : IVec S32x784 8) (v63 v68 v73 v78 : Vec F S1x32x784 .f32)
    (v84 : Vec F S576x25 .i8) (v87 v88 : Vec F S576x1 .i32) (bit : Fin 16 → Fin 32 → Fin 784 → BitVec 1)
    (h0 : ∀ k l, v7 (ix2 k l) = (bit 0 k l).setWidth 8)
    (h1 : ∀ k l, v12 (ix2 k l) = (bit 1 k l).setWidth 8)
    (h2 : ∀ k l, v17 (ix2 k l) = (bit 2 k l).setWidth 8)
    (h3 : ∀ k l, v22 (ix2 k l) = (bit 3 k l).setWidth 8)
    (h4 : ∀ k l, v27 (ix2 k l) = (bit 4 k l).setWidth 8)
    (h5 : ∀ k l, v32 (ix2 k l) = (bit 5 k l).setWidth 8)
    (h6 : ∀ k l, v37 (ix2 k l) = (bit 6 k l).setWidth 8)
    (h7 : ∀ k l, v42 (ix2 k l) = (bit 7 k l).setWidth 8)
    (h8 : ∀ k l, v47 (ix2 k l) = (bit 8 k l).setWidth 8)
    (h9 : ∀ k l, v52 (ix2 k l) = (bit 9 k l).setWidth 8)
    (h10 : ∀ k l, v57 (ix2 k l) = (bit 10 k l).setWidth 8)
    (h11 : ∀ k l, v62 (ix2 k l) = (bit 11 k l).setWidth 8)
    (h12 : ∀ k l, gt (v63 (ix3 0 k l)) = bit 12 k l)
    (h13 : ∀ k l, gt (v68 (ix3 0 k l)) = bit 13 k l)
    (h14 : ∀ k l, gt (v73 (ix3 0 k l)) = bit 14 k l)
    (h15 : ∀ k l, gt (v78 (ix3 0 k l)) = bit 15 k l)
    (n : Fin 576 → Fin 6 → Fin 25) (Q : Fin 576 → ℕ → BitVec 1)
    (hw : ∀ r k, (v84 (ix2 r k)).toInt = ∑ j : Fin 6, if n r j = k then (2 : ℤ) ^ (j : ℕ) else 0)
    (hlo : ∀ r, v87 (ix2 r 0) = packN (Q r) 32) (hhi : ∀ r, v88 (ix2 r 0) = packN (fun i => Q r (32 + i)) 32)
    (r : Fin 576) (im : Fin 16) (l : Fin 784) :
    k0_pay46 (F := F) v7 v12 v17 v22 v27 v32 v37 v42 v47 v52 v57 v62 v63 v68 v73 v78 v84 v87 v88 (ix2 r (col im l))
      = (Q r (adr fun j => bit im ((n r j).castLE (by decide)) l)).setWidth 32 := by
  unfold k0_pay46
  pointwise
  rw [sel0_at _ _ r _ (n r) (fun k => bit im (k.castLE (by decide)) l) (hw r) ?_]
  · rw [hlo, hhi]
    exact look_pack (Q r) _
  · intro k
    rw [rows25_at, cat_at _ _ _ _ _ _ _ _ _ _ _ _ _ _ _ _ _ (fun im k l => (bit im k l).setWidth 8) h0 h1 h2 h3 h4 h5 h6 h7 h8 h9 h10 h11
      ?_ ?_ ?_ ?_ im]
    · exact toInt_bit _
    all_goals
      intro k l
      pointwise
    · exact congrArg (BitVec.setWidth 8) (h12 k l)
    · exact congrArg (BitVec.setWidth 8) (h13 k l)
    · exact congrArg (BitVec.setWidth 8) (h14 k l)
    · exact congrArg (BitVec.setWidth 8) (h15 k l)

/-- The two further layers' addresses. -/
theorem pay47_at (v100 : IVec S576x12544 32) (v102 : Vec F S96x576 .i8) (v104 v105 : Vec F S96x1 .i32) (v119 : Vec F S16x96 .i8) (p : Fin 12544)
    (f : Fin 576 → BitVec 1) (hf : ∀ k, v100 (ix2 k p) = (f k).setWidth 32)
    (n1 : Fin 96 → Fin 6 → Fin 576) (Q : Fin 96 → ℕ → BitVec 1) (n2 : Fin 16 → Fin 6 → Fin 96)
    (hw1 : ∀ r k, (v102 (ix2 r k)).toInt = ∑ j : Fin 6, if n1 r j = k then (2 : ℤ) ^ (j : ℕ) else 0)
    (hlo : ∀ r, v104 (ix2 r 0) = packN (Q r) 32) (hhi : ∀ r, v105 (ix2 r 0) = packN (fun i => Q r (32 + i)) 32)
    (hw2 : ∀ r k, (v119 (ix2 r k)).toInt = ∑ j : Fin 6, if n2 r j = k then (2 : ℤ) ^ (j : ℕ) else 0) (r : Fin 16) :
    k0_pay47 (F := F) v100 v102 v104 v105 v119 (ix2 r p)
      = BitVec.ofNat 32 (adr fun j => Q (n2 r j) (adr fun i => f (n1 (n2 r j) i)) : ℕ) := by
  unfold k0_pay47
  rw [sel2_at _ _ r p (n2 r) (fun k => Q k (adr fun i => f (n1 k i))) (hw2 r) ?_]
  intro k
  pointwise
  rw [sel1_at _ _ k p (n1 k) f (hw1 k) ?_]
  · rw [hlo, hhi]
    exact (congrArg (fun w => (BitVec.setWidth 8 w).toInt) (look_pack (Q k) _)).trans (toInt_bit_word _)
  · intro i
    pointwise
    rw [hf]
    exact toInt_bit_word _

/-- The select tree over the 64 columns of the last table, on the six bits of the address. -/
def treeOf (c1 c2 c4 c8 c16 c32 : IVec S16x12544 1) (L : Fin 64 → Vec F S16x1 .f32) : FVec F S16x12544 .f32 :=
  k0_pay85 c1 c2 c4 c8 c16 c32
    (k0_pay60 c1 c2 c4 (k0_pay55 c1 (L 0) (L 1)) (k0_pay56 c1 (L 2) (L 3)) (k0_pay57 c1 (L 4) (L 5)) (k0_pay58 (L 7)) (k0_pay59 (L 6)))
    (k0_pay61 c1 c2 c4 (L 8) (L 9) (L 10) (L 11) (L 12) (L 13) (L 14) (L 15))
    (k0_pay62 c1 c2 c4 (L 16) (L 17) (L 18) (L 19) (L 20) (L 21) (L 22) (L 23))
    (k0_pay64 c1 c2 c4 (k0_pay63 (L 24)) (L 25) (L 26) (L 27) (L 28) (L 29) (L 30) (L 31))
    (k0_pay67 c1 c2 c4 (k0_pay65 (L 32)) (k0_pay66 (L 33)) (L 34) (L 35) (L 36) (L 37) (L 38) (L 39))
    (k0_pay72 c1 c2 c4 (k0_pay68 (L 40)) (k0_pay69 (L 41)) (k0_pay70 (L 42)) (k0_pay71 (L 43)) (L 44) (L 45) (L 46) (L 47))
    (k0_pay78 c1 c2 c4 (k0_pay73 (L 48)) (k0_pay74 (L 49)) (k0_pay75 (L 50)) (k0_pay76 (L 51)) (k0_pay77 (L 52)) (L 53) (L 54) (L 55))
    (k0_pay79 (L 56)) (k0_pay80 (L 57)) (k0_pay81 (L 58)) (k0_pay82 (L 59)) (k0_pay83 (L 60)) (k0_pay84 (L 61)) (L 62) (L 63)

/-- The conditions of the tree: a bit of the address is set. -/
def bitSet (a : IVec S16x12544 32) (w : BitVec 32) : IVec S16x12544 1 :=
  cmpi .ne (andi a (broadcast S16x12544 w)) (broadcast S16x12544 0#32)

set_option maxHeartbeats 4000000 in
/-- The tree reads the column the address names. -/
theorem treeOf_at (a : IVec S16x12544 32) (L : Fin 64 → Vec F S16x1 .f32) (t : Fin 16) (p : Fin 12544) (A : Fin 64)
    (hA : a (ix2 t p) = BitVec.ofNat 32 (A : ℕ)) :
    treeOf (bitSet a 1#32) (bitSet a 2#32) (bitSet a 4#32) (bitSet a 8#32) (bitSet a 16#32) (bitSet a 32#32) L (ix2 t p) = L A (ix2 t 0) := by
  unfold treeOf bitSet k0_pay85 k0_pay60 k0_pay55 k0_pay56 k0_pay57 k0_pay58 k0_pay59 k0_pay61 k0_pay62 k0_pay63 k0_pay64 k0_pay65 k0_pay66
    k0_pay67 k0_pay68 k0_pay69 k0_pay70 k0_pay71 k0_pay72 k0_pay73 k0_pay74 k0_pay75 k0_pay76 k0_pay77 k0_pay78 k0_pay79 k0_pay80 k0_pay81
    k0_pay82 k0_pay83 k0_pay84
  pointwise
  rw [hA]
  fin_cases A <;> rfl

/-- A table's flags. -/
def flags {R : ℕ} (v : (Shape.Idx ⟨2, ![R, 64]⟩) → F .f32) (r : Fin R) : ℕ → BitVec 1 := row fun i => gt (v (ix2 r i))

/-- A table's lower half packed. -/
theorem pay24_at (v : Vec F S576x64 .f32) (r : Fin 576) : k0_pay24 v (ix2 r 0) = packN (flags v r) 32 := by
  unfold k0_pay24 k0_pay23 k0_pay22
  pointwise
  rw [← fold_pack _ 32 le_rfl]
  refine congrArg (fun g => Finset.fold IntOp.addi 0#32 g Finset.univ) (funext fun x => ?_)
  have h : (x : ℕ) < 64 := by have := x.isLt; omega
  show _ = IntOp.muli ((row (fun i => gt (v (ix2 r i))) ((x : ℕ))).setWidth 32) _
  rw [show row (fun i => gt (v (ix2 r i))) ((x : ℕ)) = gt (v (ix2 r ⟨(x : ℕ), h⟩)) from dif_pos h]
  rfl

/-- A table's upper half packed. -/
theorem pay25_at (v : Vec F S576x64 .f32) (r : Fin 576) : k0_pay25 v (ix2 r 0) = packN (fun i => flags v r (32 + i)) 32 := by
  unfold k0_pay25 k0_pay23 k0_pay22
  pointwise
  rw [← fold_pack _ 32 le_rfl]
  refine congrArg (fun g => Finset.fold IntOp.addi 0#32 g Finset.univ) (funext fun x => ?_)
  have h : 32 + (x : ℕ) < 64 := by have := x.isLt; omega
  show _ = IntOp.muli ((row (fun i => gt (v (ix2 r i))) (32 + (x : ℕ))).setWidth 32) _
  rw [show row (fun i => gt (v (ix2 r i))) (32 + (x : ℕ)) = gt (v (ix2 r ⟨32 + (x : ℕ), h⟩)) from dif_pos h]
  rfl

/-- A table's lower half packed. -/
theorem pay28_at (v : Vec F S96x64 .f32) (r : Fin 96) : k0_pay28 v (ix2 r 0) = packN (flags v r) 32 := by
  unfold k0_pay28 k0_pay27 k0_pay26
  pointwise
  rw [← fold_pack _ 32 le_rfl]
  refine congrArg (fun g => Finset.fold IntOp.addi 0#32 g Finset.univ) (funext fun x => ?_)
  have h : (x : ℕ) < 64 := by have := x.isLt; omega
  show _ = IntOp.muli ((row (fun i => gt (v (ix2 r i))) ((x : ℕ))).setWidth 32) _
  rw [show row (fun i => gt (v (ix2 r i))) ((x : ℕ)) = gt (v (ix2 r ⟨(x : ℕ), h⟩)) from dif_pos h]
  rfl

/-- A table's upper half packed. -/
theorem pay29_at (v : Vec F S96x64 .f32) (r : Fin 96) : k0_pay29 v (ix2 r 0) = packN (fun i => flags v r (32 + i)) 32 := by
  unfold k0_pay29 k0_pay27 k0_pay26
  pointwise
  rw [← fold_pack _ 32 le_rfl]
  refine congrArg (fun g => Finset.fold IntOp.addi 0#32 g Finset.univ) (funext fun x => ?_)
  have h : 32 + (x : ℕ) < 64 := by have := x.isLt; omega
  show _ = IntOp.muli ((row (fun i => gt (v (ix2 r i))) (32 + (x : ℕ))).setWidth 32) _
  rw [show row (fun i => gt (v (ix2 r i))) (32 + (x : ℕ)) = gt (v (ix2 r ⟨32 + (x : ℕ), h⟩)) from dif_pos h]
  rfl

end Cert.KernelIdeal.Hand
end
end
-- ==== Proof.KI.Block.lean ====
/- What one grid point of the kernel computes, element by element: the patches turned into bits, the three
   layers of table look-ups for a block of sixteen trees, and the sixteen stores of the block. -/
module

public import proofs.«01_k».proof.Proof.KI.Frame
public import Idealize.ShloMosaic.Lib.Claim
public import Idealize.ShloMosaic.Lib.WordSum
public import proofs.«01_k».proof.Proof.KI.Pays

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Words

/-! ### The scratch matrices -/

theorem v607_at (r : Fin 96) (k : Fin 576) : kernelRun0_A.sl.v607 (ix2 r k) = BitVec.ofNat 32 ((k : ℕ) / 36) := by
  sl_unfold_words
  pointwise
  revert k
  decide +kernel

theorem v610_at (r : Fin 96) (k : Fin 576) : kernelRun0_A.sl.v610 (ix2 r k) = BitVec.ofNat 32 ((k : ℕ) % 36) := by
  unfold kernelRun0_A.sl.v610
  show IntOp.subi (kernelRun0_A.sl.v582 (ix2 r k)) (IntOp.muli (kernelRun0_A.sl.v607 (ix2 r k)) (kernelRun0_A.sl.v584 (ix2 r k))) = _
  rw [v607_at]
  sl_unfold_words
  pointwise
  revert k
  decide +kernel

theorem v634_at (r : Fin 96) (k : Fin 576) : kernelRun0_A.sl.v634 (ix2 r k) = BitVec.ofNat 32 ((r : ℕ) / 6) := by
  sl_unfold_words
  pointwise
  revert r
  decide +kernel

theorem v716_at (r : Fin 16) (k : Fin 96) : kernelRun0_A.sl.v716 (ix2 r k) = BitVec.ofNat 32 ((k : ℕ) / 6) := by
  sl_unfold_words
  pointwise
  revert k
  decide +kernel

theorem v719_at (r : Fin 16) (k : Fin 96) : kernelRun0_A.sl.v719 (ix2 r k) = BitVec.ofNat 32 ((k : ℕ) % 6) := by
  sl_unfold_words
  pointwise
  revert k
  decide +kernel

theorem v581_at (c : Dev nD) (arg3 : Memref sig .tc .vmem S576x6 .i32) (harg3 : arg3.IsWhole) (x1 : Vec F S576x6 .i32) (r : Fin 576) (k : Fin 25) :
    kernelRun0_A.sl.v581 c arg3 harg3 x1 (ix2 r k) = (wt (fun j => x1 (ix2 r j)) (BitVec.ofNat 32 k)).setWidth 8 := by
  sl_unfold_words
  simp only [View.readAt_eq_ld, harg3.read_unread]
  pointwise
  rfl

theorem v683_at (c : Dev nD) (arg4 : Memref sig .tc .vmem S96x6 .i32) (harg4 : arg4.IsWhole) (x2 : Vec F S96x6 .i32) (r : Fin 96) (k : Fin 576) :
    kernelRun0_A.sl.v683 c arg4 harg4 x2 (ix2 r k) = wt (fun j => x2 (ix2 r j)) (kernelRun0_A.sl.v610 (ix2 r k)) := by
  sl_unfold_words
  simp only [View.readAt_eq_ld, harg4.read_unread]
  pointwise
  rfl

theorem v690_at (c : Dev nD) (arg4 : Memref sig .tc .vmem S96x6 .i32) (harg4 : arg4.IsWhole) (x2 : Vec F S96x6 .i32) (r : Fin 96) (k : Fin 576) :
    kernelRun0_A.sl.v690 c arg4 harg4 x2 (ix2 r k)
      = (Scalar.select (IntOp.cmpi .eq (BitVec.ofNat 32 ((r : ℕ) / 6)) (BitVec.ofNat 32 ((k : ℕ) / 36)))
          (wt (fun j => x2 (ix2 r j)) (BitVec.ofNat 32 ((k : ℕ) % 36))) 0#32).setWidth 8 := by
  rw [← v610_at r k, ← v607_at r k, ← v634_at r k, ← v683_at c arg4 harg4 x2]
  unfold kernelRun0_A.sl.v690 kernelRun0_A.sl.v687 kernelRun0_A.sl.v686 kernelRun0_A.sl.v586
  pointwise

theorem v768_at (c : Dev nD) (arg5 : Memref sig .tc .vmem S16x6 .i32) (harg5 : arg5.IsWhole) (x3 : Vec F S16x6 .i32) (r : Fin 16) (k : Fin 96) :
    kernelRun0_A.sl.v768 c arg5 harg5 x3 (ix2 r k) = wt (fun j => x3 (ix2 r j)) (kernelRun0_A.sl.v719 (ix2 r k)) := by
  sl_unfold_words
  simp only [View.readAt_eq_ld, harg5.read_unread]
  pointwise
  rfl

theorem v775_at (c : Dev nD) (arg5 : Memref sig .tc .vmem S16x6 .i32) (harg5 : arg5.IsWhole) (x3 : Vec F S16x6 .i32) (r : Fin 16) (k : Fin 96) :
    kernelRun0_A.sl.v775 c arg5 harg5 x3 (ix2 r k)
      = (Scalar.select (IntOp.cmpi .eq (BitVec.ofNat 32 (r : ℕ)) (BitVec.ofNat 32 ((k : ℕ) / 6)))
          (wt (fun j => x3 (ix2 r j)) (BitVec.ofNat 32 ((k : ℕ) % 6))) 0#32).setWidth 8 := by
  rw [← v719_at r k, ← v716_at r k, ← v768_at c arg5 harg5 x3]
  unfold kernelRun0_A.sl.v775 kernelRun0_A.sl.v772 kernelRun0_A.sl.v771 kernelRun0_A.sl.v695 kernelRun0_A.sl.v692
  pointwise

/-! ### The scratch buffers as they are read back -/

theorem zero2 : (![0, 0] : Fin 2 → ℕ) = fun _ => 0 := by
  funext i
  fin_cases i <;> rfl

theorem v84_eq (c : Dev nD) (arg3 : Memref sig .tc .vmem S576x6 .i32) (harg3 : arg3.IsWhole) (arg10 : Memref sig .tc .vmem S576x25 .i8) (x1 : Vec F S576x6 .i32) :
    kernelRun0_A.sl.v84 c arg3 harg3 arg10 x1 = kernelRun0_A.sl.v581 c arg3 harg3 x1 := by
  unfold kernelRun0_A.sl.v84 kernelRun0_A.sl.HS0_1
  exact View.readCov_unit_zero _ (show (![0, 0] : Fin (Shape.rank S576x25) → ℕ) = fun _ => 0 from zero2) _ _

theorem v102_eq (c : Dev nD) (arg4 : Memref sig .tc .vmem S96x6 .i32) (harg4 : arg4.IsWhole) (arg11 : Memref sig .tc .vmem S96x576 .i8) (x2 : Vec F S96x6 .i32) :
    kernelRun0_A.sl.v102 c arg4 harg4 arg11 x2 = kernelRun0_A.sl.v690 c arg4 harg4 x2 := by
  unfold kernelRun0_A.sl.v102 kernelRun0_A.sl.HS1_1
  exact View.readCov_unit_zero _ (show (![0, 0] : Fin (Shape.rank S96x576) → ℕ) = fun _ => 0 from zero2) _ _

theorem v119_eq (c : Dev nD) (arg5 : Memref sig .tc .vmem S16x6 .i32) (harg5 : arg5.IsWhole) (arg12 : Memref sig .tc .vmem S16x96 .i8) (x3 : Vec F S16x6 .i32) :
    kernelRun0_A.sl.v119 c arg5 harg5 arg12 x3 = kernelRun0_A.sl.v775 c arg5 harg5 x3 := by
  unfold kernelRun0_A.sl.v119 kernelRun0_A.sl.HS2_1
  exact View.readCov_unit_zero _ (show (![0, 0] : Fin (Shape.rank S16x96) → ℕ) = fun _ => 0 from zero2) _ _

theorem v87_at (c : Dev nD) (arg6 : Memref sig .tc .vmem S576x64 .f32) (harg6 : arg6.IsWhole) (arg13 : Memref sig .tc .vmem S576x1 .i32) (x4 : Vec F S576x64 .f32)
    (r : Fin 576) : kernelRun0_A.sl.v87 c arg6 harg6 arg13 x4 (ix2 r 0) = packN (flags x4 r) 32 := by
  unfold kernelRun0_A.sl.v87 kernelRun0_A.sl.HS3_1
  rw [View.readCov_unit_zero _ (show (![0, 0] : Fin (Shape.rank S576x1) → ℕ) = fun _ => 0 from zero2) _ _]
  unfold kernelRun0_A.sl.r
  simp only [View.readAt_eq_ld, harg6.read_unread]
  rw [View.ld_unit_zero (show (![0, 0] : Fin (Shape.rank S576x64) → ℕ) = fun _ => 0 from zero2)]
  exact pay24_at _ r

theorem v88_at (c : Dev nD) (arg6 : Memref sig .tc .vmem S576x64 .f32) (harg6 : arg6.IsWhole) (arg14 : Memref sig .tc .vmem S576x1 .i32) (x4 : Vec F S576x64 .f32)
    (r : Fin 576) : kernelRun0_A.sl.v88 c arg6 harg6 arg14 x4 (ix2 r 0) = packN (fun i => flags x4 r (32 + i)) 32 := by
  unfold kernelRun0_A.sl.v88 kernelRun0_A.sl.HS4_1
  rw [View.readCov_unit_zero _ (show (![0, 0] : Fin (Shape.rank S576x1) → ℕ) = fun _ => 0 from zero2) _ _]
  unfold kernelRun0_A.sl.r
  simp only [View.readAt_eq_ld, harg6.read_unread]
  rw [View.ld_unit_zero (show (![0, 0] : Fin (Shape.rank S576x64) → ℕ) = fun _ => 0 from zero2)]
  exact pay25_at _ r

theorem v104_at (c : Dev nD) (arg7 : Memref sig .tc .vmem S96x64 .f32) (harg7 : arg7.IsWhole) (arg15 : Memref sig .tc .vmem S96x1 .i32) (x5 : Vec F S96x64 .f32)
    (r : Fin 96) : kernelRun0_A.sl.v104 c arg7 harg7 arg15 x5 (ix2 r 0) = packN (flags x5 r) 32 := by
  unfold kernelRun0_A.sl.v104 kernelRun0_A.sl.HS5_1
  rw [View.readCov_unit_zero _ (show (![0, 0] : Fin (Shape.rank S96x1) → ℕ) = fun _ => 0 from zero2) _ _]
  unfold kernelRun0_A.sl.r_1 k0_pay30
  simp only [View.readAt_eq_ld, harg7.read_unread]
  rw [View.ld_unit_zero (show (![0, 0] : Fin (Shape.rank S96x64) → ℕ) = fun _ => 0 from zero2)]
  rw [shapeCast_self]
  exact pay28_at _ r

theorem v105_at (c : Dev nD) (arg7 : Memref sig .tc .vmem S96x64 .f32) (harg7 : arg7.IsWhole) (arg16 : Memref sig .tc .vmem S96x1 .i32) (x5 : Vec F S96x64 .f32)
    (r : Fin 96) : kernelRun0_A.sl.v105 c arg7 harg7 arg16 x5 (ix2 r 0) = packN (fun i => flags x5 r (32 + i)) 32 := by
  unfold kernelRun0_A.sl.v105 kernelRun0_A.sl.HS6_1
  rw [View.readCov_unit_zero _ (show (![0, 0] : Fin (Shape.rank S96x1) → ℕ) = fun _ => 0 from zero2) _ _]
  unfold kernelRun0_A.sl.r_2 k0_pay31
  simp only [View.readAt_eq_ld, harg7.read_unread]
  rw [View.ld_unit_zero (show (![0, 0] : Fin (Shape.rank S96x64) → ℕ) = fun _ => 0 from zero2)]
  rw [shapeCast_self]
  exact pay29_at _ r

theorem r_4_at (c : Dev nD) (arg2 : Memref sig .tc .vmem S16x32x784 .f32) (harg2 : arg2.IsWhole) (x0 : Vec F S16x32x784 .f32) (k : Fin 32) (l : Fin 784) :
    kernelRun0_A.sl.r_4 c arg2 harg2 x0 (ix2 k l) = (gt (x0 (ix3 0 k l))).setWidth 8 := by
  sl_unfold_words
  simp only [View.readAt_eq_ld, harg2.read_unread]
  unfold k0_pay32
  pointwise
  rfl

theorem r_5_at (c : Dev nD) (arg2 : Memref sig .tc .vmem S16x32x784 .f32) (harg2 : arg2.IsWhole) (x0 : Vec F S16x32x784 .f32) (k : Fin 32) (l : Fin 784) :
    kernelRun0_A.sl.r_5 c arg2 harg2 x0 (ix2 k l) = (gt (x0 (ix3 1 k l))).setWidth 8 := by
  sl_unfold_words
  simp only [View.readAt_eq_ld, harg2.read_unread]
  unfold k0_pay33
  pointwise
  rfl

theorem r_6_at (c : Dev nD) (arg2 : Memref sig .tc .vmem S16x32x784 .f32) (harg2 : arg2.IsWhole) (x0 : Vec F S16x32x784 .f32) (k : Fin 32) (l : Fin 784) :
    kernelRun0_A.sl.r_6 c arg2 harg2 x0 (ix2 k l) = (gt (x0 (ix3 2 k l))).setWidth 8 := by
  sl_unfold_words
  simp only [View.readAt_eq_ld, harg2.read_unread]
  unfold k0_pay34
  pointwise
  rfl

theorem r_7_at (c : Dev nD) (arg2 : Memref sig .tc .vmem S16x32x784 .f32) (harg2 : arg2.IsWhole) (x0 : Vec F S16x32x784 .f32) (k : Fin 32) (l : Fin 784) :
    kernelRun0_A.sl.r_7 c arg2 harg2 x0 (ix2 k l) = (gt (x0 (ix3 3 k l))).setWidth 8 := by
  sl_unfold_words
  simp only [View.readAt_eq_ld, harg2.read_unread]
  unfold k0_pay35
  pointwise
  rfl

theorem r_8_at (c : Dev nD) (arg2 : Memref sig .tc .vmem S16x32x784 .f32) (harg2 : arg2.IsWhole) (x0 : Vec F S16x32x784 .f32) (k : Fin 32) (l : Fin 784) :
    kernelRun0_A.sl.r_8 c arg2 harg2 x0 (ix2 k l) = (gt (x0 (ix3 4 k l))).setWidth 8 := by
  sl_unfold_words
  simp only [View.readAt_eq_ld, harg2.read_unread]
  unfold k0_pay36
  pointwise
  rfl

theorem r_10_at (c : Dev nD) (arg2 : Memref sig .tc .vmem S16x32x784 .f32) (harg2 : arg2.IsWhole) (x0 : Vec F S16x32x784 .f32) (k : Fin 32) (l : Fin 784) :
    kernelRun0_A.sl.r_10 c arg2 harg2 x0 (ix2 k l) = (gt (x0 (ix3 5 k l))).setWidth 8 := by
  sl_unfold_words
  simp only [View.readAt_eq_ld, harg2.read_unread]
  unfold k0_pay39 k0_pay37 k0_pay38
  pointwise
  rfl

theorem r_11_at (c : Dev nD) (arg2 : Memref sig .tc .vmem S16x32x784 .f32) (harg2 : arg2.IsWhole) (x0 : Vec F S16x32x784 .f32) (k : Fin 32) (l : Fin 784) :
    kernelRun0_A.sl.r_11 c arg2 harg2 x0 (ix2 k l) = (gt (x0 (ix3 6 k l))).setWidth 8 := by
  sl_unfold_words
  simp only [View.readAt_eq_ld, harg2.read_unread]
  unfold k0_pay40
  pointwise
  rfl

theorem r_12_at (c : Dev nD) (arg2 : Memref sig .tc .vmem S16x32x784 .f32) (harg2 : arg2.IsWhole) (x0 : Vec F S16x32x784 .f32) (k : Fin 32) (l : Fin 784) :
    kernelRun0_A.sl.r_12 c arg2 harg2 x0 (ix2 k l) = (gt (x0 (ix3 7 k l))).setWidth 8 := by
  sl_unfold_words
  simp only [View.readAt_eq_ld, harg2.read_unread]
  unfold k0_pay41
  pointwise
  rfl

theorem r_13_at (c : Dev nD) (arg2 : Memref sig .tc .vmem S16x32x784 .f32) (harg2 : arg2.IsWhole) (x0 : Vec F S16x32x784 .f32) (k : Fin 32) (l : Fin 784) :
    kernelRun0_A.sl.r_13 c arg2 harg2 x0 (ix2 k l) = (gt (x0 (ix3 8 k l))).setWidth 8 := by
  sl_unfold_words
  simp only [View.readAt_eq_ld, harg2.read_unread]
  unfold k0_pay42
  pointwise
  rfl

theorem r_14_at (c : Dev nD) (arg2 : Memref sig .tc .vmem S16x32x784 .f32) (harg2 : arg2.IsWhole) (x0 : Vec F S16x32x784 .f32) (k : Fin 32) (l : Fin 784) :
    kernelRun0_A.sl.r_14 c arg2 harg2 x0 (ix2 k l) = (gt (x0 (ix3 9 k l))).setWidth 8 := by
  sl_unfold_words
  simp only [View.readAt_eq_ld, harg2.read_unread]
  unfold k0_pay43
  pointwise
  rfl

theorem r_15_at (c : Dev nD) (arg2 : Memref sig .tc .vmem S16x32x784 .f32) (harg2 : arg2.IsWhole) (x0 : Vec F S16x32x784 .f32) (k : Fin 32) (l : Fin 784) :
    kernelRun0_A.sl.r_15 c arg2 harg2 x0 (ix2 k l) = (gt (x0 (ix3 10 k l))).setWidth 8 := by
  sl_unfold_words
  simp only [View.readAt_eq_ld, harg2.read_unread]
  unfold k0_pay44
  pointwise
  rfl

theorem r_16_at (c : Dev nD) (arg2 : Memref sig .tc .vmem S16x32x784 .f32) (harg2 : arg2.IsWhole) (x0 : Vec F S16x32x784 .f32) (k : Fin 32) (l : Fin 784) :
    kernelRun0_A.sl.r_16 c arg2 harg2 x0 (ix2 k l) = (gt (x0 (ix3 11 k l))).setWidth 8 := by
  sl_unfold_words
  simp only [View.readAt_eq_ld, harg2.read_unread]
  unfold k0_pay45
  pointwise
  rfl

/-! ### The three layers on a block -/

/-- An index below `25` from a word. -/
abbrev q0 (x1 : Vec F S576x6 .i32) (r : Fin 576) (j : Fin 6) : Fin 25 := ixOf 25 (x1 (ix2 r j))

/-- The node of the first layer that input `j` of a node of the second reads. -/
def q1 (x2 : Vec F S96x6 .i32) (r : Fin 96) (j : Fin 6) : Fin 576 :=
  ⟨(r : ℕ) / 6 * 36 + ixOf 36 (x2 (ix2 r j)), by have := r.isLt; have := (ixOf 36 (x2 (ix2 r j))).isLt; omega⟩

/-- The node of the second layer that input `j` of the last node reads. -/
def q2 (x3 : Vec F S16x6 .i32) (r : Fin 16) (j : Fin 6) : Fin 96 :=
  ⟨(r : ℕ) * 6 + ixOf 6 (x3 (ix2 r j)), by have := r.isLt; have := (ixOf 6 (x3 (ix2 r j))).isLt; omega⟩

/-- The flag of a node of the first layer. -/
def n0 (x0 : Vec F S16x32x784 .f32) (x1 : Vec F S576x6 .i32) (x4 : Vec F S576x64 .f32) (im : Fin 16) (l : Fin 784) (r : Fin 576) : BitVec 1 :=
  flags x4 r (adr fun j => gt (x0 (ix3 im ((q0 x1 r j).castLE (by decide)) l)))

theorem r_18_at (c : Dev nD) (arg2 : Memref sig .tc .vmem S16x32x784 .f32) (harg2 : arg2.IsWhole) (arg3 : Memref sig .tc .vmem S576x6 .i32) (harg3 : arg3.IsWhole) (arg6 : Memref sig .tc .vmem S576x64 .f32) (harg6 : arg6.IsWhole) (arg10 : Memref sig .tc .vmem S576x25 .i8) (arg13 : Memref sig .tc .vmem S576x1 .i32) (arg14 : Memref sig .tc .vmem S576x1 .i32) (x0 : Vec F S16x32x784 .f32) (x1 : Vec F S576x6 .i32) (x4 : Vec F S576x64 .f32)
    (h1 : ∀ r j, (x1 (ix2 r j)).toNat < 25) (r : Fin 576) (im : Fin 16) (l : Fin 784) :
    (kernelRun0_A.sl.r_18 c arg2 harg2 arg3 harg3 arg6 harg6 arg10 arg13 arg14 x0 x1 x4) (ix2 r (col im l)) = (n0 x0 x1 x4 im l r).setWidth 32 := by
  unfold kernelRun0_A.sl.r_18
  refine pay46_at _ _ _ _ _ _ _ _ _ _ _ _ _ _ _ _ _ _ _ (fun im k l => gt (x0 (ix3 im k l)))
    (r_4_at c arg2 harg2 x0) (r_5_at c arg2 harg2 x0) (r_6_at c arg2 harg2 x0) (r_7_at c arg2 harg2 x0) (r_8_at c arg2 harg2 x0) (r_10_at c arg2 harg2 x0) (r_11_at c arg2 harg2 x0) (r_12_at c arg2 harg2 x0) (r_13_at c arg2 harg2 x0) (r_14_at c arg2 harg2 x0) (r_15_at c arg2 harg2 x0) (r_16_at c arg2 harg2 x0) ?_ ?_ ?_ ?_
    (q0 x1) (flags x4) ?_ (v87_at c arg6 harg6 arg13 x4) (v88_at c arg6 harg6 arg14 x4) r im l
  · intro k l
    unfold kernelRun0_A.sl.r_17
    simp only [View.readAt_eq_ld, harg2.read_unread]
    pointwise
  · intro k l
    simp only [View.readAt_eq_ld, harg2.read_unread]
    pointwise
  · intro k l
    simp only [View.readAt_eq_ld, harg2.read_unread]
    pointwise
  · intro k l
    simp only [View.readAt_eq_ld, harg2.read_unread]
    pointwise
  · intro r k
    rw [v84_eq, v581_at, toInt_wt]
    refine Finset.sum_congr rfl fun j _ => ?_
    simp only [eq_ofNat_iff 25 (by norm_num) _ (h1 r j) k]

/-- The address of the last node of tree `t` of a block. -/
def a2 (x0 : Vec F S16x32x784 .f32) (x1 : Vec F S576x6 .i32) (x2 : Vec F S96x6 .i32) (x3 : Vec F S16x6 .i32) (x4 : Vec F S576x64 .f32)
    (x5 : Vec F S96x64 .f32) (im : Fin 16) (t : Fin 16) (l : Fin 784) : Fin 64 :=
  adr fun j => flags x5 (q2 x3 t j) (adr fun i => n0 x0 x1 x4 im l (q1 x2 (q2 x3 t j) i))

theorem r_19_at (c : Dev nD) (arg2 : Memref sig .tc .vmem S16x32x784 .f32) (harg2 : arg2.IsWhole) (arg3 : Memref sig .tc .vmem S576x6 .i32) (harg3 : arg3.IsWhole) (arg4 : Memref sig .tc .vmem S96x6 .i32) (harg4 : arg4.IsWhole) (arg5 : Memref sig .tc .vmem S16x6 .i32) (harg5 : arg5.IsWhole) (arg6 : Memref sig .tc .vmem S576x64 .f32) (harg6 : arg6.IsWhole) (arg7 : Memref sig .tc .vmem S96x64 .f32) (harg7 : arg7.IsWhole) (arg10 : Memref sig .tc .vmem S576x25 .i8) (arg11 : Memref sig .tc .vmem S96x576 .i8) (arg12 : Memref sig .tc .vmem S16x96 .i8) (arg13 : Memref sig .tc .vmem S576x1 .i32) (arg14 : Memref sig .tc .vmem S576x1 .i32) (arg15 : Memref sig .tc .vmem S96x1 .i32) (arg16 : Memref sig .tc .vmem S96x1 .i32) (x0 : Vec F S16x32x784 .f32) (x1 : Vec F S576x6 .i32) (x2 : Vec F S96x6 .i32) (x3 : Vec F S16x6 .i32) (x4 : Vec F S576x64 .f32) (x5 : Vec F S96x64 .f32)
    (h1 : ∀ r j, (x1 (ix2 r j)).toNat < 25) (h2 : ∀ r j, (x2 (ix2 r j)).toNat < 36) (h3 : ∀ r j, (x3 (ix2 r j)).toNat < 6)
    (t : Fin 16) (im : Fin 16) (l : Fin 784) :
    (kernelRun0_A.sl.r_19 c arg2 harg2 arg3 harg3 arg4 harg4 arg5 harg5 arg6 harg6 arg7 harg7 arg10 arg11 arg12 arg13 arg14 arg15 arg16 x0 x1 x2 x3 x4 x5) (ix2 t (col im l)) = BitVec.ofNat 32 (a2 x0 x1 x2 x3 x4 x5 im t l : ℕ) := by
  unfold kernelRun0_A.sl.r_19
  refine pay47_at _ _ _ _ _ (col im l) (n0 x0 x1 x4 im l) (fun k => r_18_at (F := F) _ _ _ _ _ _ _ _ _ _ _ _ _  h1 k im l)
    (q1 x2) (flags x5) (q2 x3) ?_ (v104_at c arg7 harg7 arg15 x5) (v105_at c arg7 harg7 arg16 x5) ?_ t
  · intro r k
    rw [v102_eq, v690_at]
    refine toInt_masked 36 (by norm_num) ((r : ℕ) / 6) (by have := r.isLt; omega) _ (h2 r) k (q1 x2 r) fun j => ?_
    show (r : ℕ) / 6 * 36 + (x2 (ix2 r j)).toNat % 36 = _
    rw [Nat.mod_eq_of_lt (h2 r j)]
  · intro r k
    rw [v119_eq, v775_at]
    refine toInt_masked 6 (by norm_num) (r : ℕ) (by have := r.isLt; omega) _ (h3 r) k (q2 x3 r) fun j => ?_
    show (r : ℕ) * 6 + (x3 (ix2 r j)).toNat % 6 = _
    rw [Nat.mod_eq_of_lt (h3 r j)]

/-! ### The block's result -/

/-- The last node's value: the table column the address names. -/
theorem r_58_at (c : Dev nD) (arg2 : Memref sig .tc .vmem S16x32x784 .f32) (harg2 : arg2.IsWhole) (arg3 : Memref sig .tc .vmem S576x6 .i32) (harg3 : arg3.IsWhole) (arg4 : Memref sig .tc .vmem S96x6 .i32) (harg4 : arg4.IsWhole) (arg5 : Memref sig .tc .vmem S16x6 .i32) (harg5 : arg5.IsWhole) (arg6 : Memref sig .tc .vmem S576x64 .f32) (harg6 : arg6.IsWhole) (arg7 : Memref sig .tc .vmem S96x64 .f32) (harg7 : arg7.IsWhole) (arg8 : Memref sig .tc .vmem S16x64 .f32) (harg8 : arg8.IsWhole) (arg10 : Memref sig .tc .vmem S576x25 .i8) (arg11 : Memref sig .tc .vmem S96x576 .i8) (arg12 : Memref sig .tc .vmem S16x96 .i8) (arg13 : Memref sig .tc .vmem S576x1 .i32) (arg14 : Memref sig .tc .vmem S576x1 .i32) (arg15 : Memref sig .tc .vmem S96x1 .i32) (arg16 : Memref sig .tc .vmem S96x1 .i32) (x0 : Vec F S16x32x784 .f32) (x1 : Vec F S576x6 .i32) (x2 : Vec F S96x6 .i32) (x3 : Vec F S16x6 .i32) (x4 : Vec F S576x64 .f32) (x5 : Vec F S96x64 .f32) (x6 : Vec F S16x64 .f32)
    (h1 : ∀ r j, (x1 (ix2 r j)).toNat < 25) (h2 : ∀ r j, (x2 (ix2 r j)).toNat < 36) (h3 : ∀ r j, (x3 (ix2 r j)).toNat < 6)
    (t : Fin 16) (im : Fin 16) (l : Fin 784) :
    (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col im l)) = x6 (ix2 t (a2 x0 x1 x2 x3 x4 x5 im t l)) := by
  have hL : ∀ k : Fin 64, ∀ a : Fin 2, (![0, (k : ℕ)] : Fin 2 → ℕ) a + S16x1.size a ≤ S16x64.size a := by
    intro k a
    have := k.isLt
    fin_cases a
    · show 0 + 16 ≤ 16
      omega
    · show (k : ℕ) + 1 ≤ 64
      omega
  have e : (kernelRun0_A.sl.r_58 c arg2 harg2 arg3 harg3 arg4 harg4 arg5 harg5 arg6 harg6 arg7 harg7 arg8 harg8 arg10 arg11 arg12 arg13 arg14 arg15 arg16 x0 x1 x2 x3 x4 x5 x6) = treeOf (bitSet (kernelRun0_A.sl.r_19 c arg2 harg2 arg3 harg3 arg4 harg4 arg5 harg5 arg6 harg6 arg7 harg7 arg10 arg11 arg12 arg13 arg14 arg15 arg16 x0 x1 x2 x3 x4 x5) 1#32) (bitSet (kernelRun0_A.sl.r_19 c arg2 harg2 arg3 harg3 arg4 harg4 arg5 harg5 arg6 harg6 arg7 harg7 arg10 arg11 arg12 arg13 arg14 arg15 arg16 x0 x1 x2 x3 x4 x5) 2#32) (bitSet (kernelRun0_A.sl.r_19 c arg2 harg2 arg3 harg3 arg4 harg4 arg5 harg5 arg6 harg6 arg7 harg7 arg10 arg11 arg12 arg13 arg14 arg15 arg16 x0 x1 x2 x3 x4 x5) 4#32) (bitSet (kernelRun0_A.sl.r_19 c arg2 harg2 arg3 harg3 arg4 harg4 arg5 harg5 arg6 harg6 arg7 harg7 arg10 arg11 arg12 arg13 arg14 arg15 arg16 x0 x1 x2 x3 x4 x5) 8#32) (bitSet (kernelRun0_A.sl.r_19 c arg2 harg2 arg3 harg3 arg4 harg4 arg5 harg5 arg6 harg6 arg7 harg7 arg10 arg11 arg12 arg13 arg14 arg15 arg16 x0 x1 x2 x3 x4 x5) 16#32) (bitSet (kernelRun0_A.sl.r_19 c arg2 harg2 arg3 harg3 arg4 harg4 arg5 harg5 arg6 harg6 arg7 harg7 arg10 arg11 arg12 arg13 arg14 arg15 arg16 x0 x1 x2 x3 x4 x5) 32#32)
      (fun k => View.readAt (Elt F) arg8.view (Rect.unit (s := S16x64) ![0, (k : ℕ)] S16x1.size (hL k)).toLoadRect (harg8.unread x6)) := rfl
  rw [e, treeOf_at _ _ t (col im l) _ (r_19_at (F := F) _ _ _ _ _ _ _ _ _ _ _ _ _ _ _ _ _ _ _ _ _ _ _ _ _ _  h1 h2 h3 t im l)]
  simp only [View.readAt_eq_ld, harg8.read_unread]
  generalize a2 x0 x1 x2 x3 x4 x5 im t l = A
  pointwise

theorem slice0_at (V : FVec F S16x12544 .f32) (t : Fin 16) (l : Fin 784) :
    shapeCast S1x16x784 (extractStridedSlice S16x784 ![0, 0] V slices_S16x12544_o0_0_S16x784) shapeCasts_S16x784_S1x16x784 (ix3 0 t l)
      = V (ix2 t (col 0 l)) := by
  pointwise
  exact congrArg V (congrArg (ix2 t) (Fin.ext (show (l : ℕ) = 784 * 0 + l by omega)))

theorem emb0_at (h) (t : Fin 16) (l : Fin 784) :
    (Rect.unit (s := S16x16x784) ![0, 0, 0] S1x16x784.size h).emb (ix3 (0 : Fin 1) t l) = (ix3 (0 : Fin 16) t l : S16x16x784.Idx) := by
  funext a
  apply Fin.ext
  fin_cases a
  · show 0 + 1 * 0 = 0
    omega
  · show 0 + 1 * (t : ℕ) = t
    omega
  · show 0 + 1 * (l : ℕ) = l
    omega

theorem slice1_at (V : FVec F S16x12544 .f32) (t : Fin 16) (l : Fin 784) :
    shapeCast S1x16x784 (extractStridedSlice S16x784 ![0, 784] V slices_S16x12544_o0_784_S16x784) shapeCasts_S16x784_S1x16x784 (ix3 0 t l)
      = V (ix2 t (col 1 l)) := by
  pointwise
  rfl

theorem emb1_at (h) (t : Fin 16) (l : Fin 784) :
    (Rect.unit (s := S16x16x784) ![1, 0, 0] S1x16x784.size h).emb (ix3 (0 : Fin 1) t l) = (ix3 (1 : Fin 16) t l : S16x16x784.Idx) := by
  funext a
  apply Fin.ext
  fin_cases a
  · show 1 + 1 * 0 = 1
    omega
  · show 0 + 1 * (t : ℕ) = t
    omega
  · show 0 + 1 * (l : ℕ) = l
    omega

theorem slice2_at (V : FVec F S16x12544 .f32) (t : Fin 16) (l : Fin 784) :
    shapeCast S1x16x784 (extractStridedSlice S16x784 ![0, 1568] V slices_S16x12544_o0_1568_S16x784) shapeCasts_S16x784_S1x16x784 (ix3 0 t l)
      = V (ix2 t (col 2 l)) := by
  pointwise
  rfl

theorem emb2_at (h) (t : Fin 16) (l : Fin 784) :
    (Rect.unit (s := S16x16x784) ![2, 0, 0] S1x16x784.size h).emb (ix3 (0 : Fin 1) t l) = (ix3 (2 : Fin 16) t l : S16x16x784.Idx) := by
  funext a
  apply Fin.ext
  fin_cases a
  · show 2 + 1 * 0 = 2
    omega
  · show 0 + 1 * (t : ℕ) = t
    omega
  · show 0 + 1 * (l : ℕ) = l
    omega

theorem slice3_at (V : FVec F S16x12544 .f32) (t : Fin 16) (l : Fin 784) :
    shapeCast S1x16x784 (extractStridedSlice S16x784 ![0, 2352] V slices_S16x12544_o0_2352_S16x784) shapeCasts_S16x784_S1x16x784 (ix3 0 t l)
      = V (ix2 t (col 3 l)) := by
  pointwise
  rfl

theorem emb3_at (h) (t : Fin 16) (l : Fin 784) :
    (Rect.unit (s := S16x16x784) ![3, 0, 0] S1x16x784.size h).emb (ix3 (0 : Fin 1) t l) = (ix3 (3 : Fin 16) t l : S16x16x784.Idx) := by
  funext a
  apply Fin.ext
  fin_cases a
  · show 3 + 1 * 0 = 3
    omega
  · show 0 + 1 * (t : ℕ) = t
    omega
  · show 0 + 1 * (l : ℕ) = l
    omega

theorem slice4_at (V : FVec F S16x12544 .f32) (t : Fin 16) (l : Fin 784) :
    shapeCast S1x16x784 (extractStridedSlice S16x784 ![0, 3136] V slices_S16x12544_o0_3136_S16x784) shapeCasts_S16x784_S1x16x784 (ix3 0 t l)
      = V (ix2 t (col 4 l)) := by
  pointwise
  rfl

theorem emb4_at (h) (t : Fin 16) (l : Fin 784) :
    (Rect.unit (s := S16x16x784) ![4, 0, 0] S1x16x784.size h).emb (ix3 (0 : Fin 1) t l) = (ix3 (4 : Fin 16) t l : S16x16x784.Idx) := by
  funext a
  apply Fin.ext
  fin_cases a
  · show 4 + 1 * 0 = 4
    omega
  · show 0 + 1 * (t : ℕ) = t
    omega
  · show 0 + 1 * (l : ℕ) = l
    omega

theorem slice5_at (V : FVec F S16x12544 .f32) (t : Fin 16) (l : Fin 784) :
    shapeCast S1x16x784 (extractStridedSlice S16x784 ![0, 3920] V slices_S16x12544_o0_3920_S16x784) shapeCasts_S16x784_S1x16x784 (ix3 0 t l)
      = V (ix2 t (col 5 l)) := by
  pointwise
  rfl

theorem emb5_at (h) (t : Fin 16) (l : Fin 784) :
    (Rect.unit (s := S16x16x784) ![5, 0, 0] S1x16x784.size h).emb (ix3 (0 : Fin 1) t l) = (ix3 (5 : Fin 16) t l : S16x16x784.Idx) := by
  funext a
  apply Fin.ext
  fin_cases a
  · show 5 + 1 * 0 = 5
    omega
  · show 0 + 1 * (t : ℕ) = t
    omega
  · show 0 + 1 * (l : ℕ) = l
    omega

theorem slice6_at (V : FVec F S16x12544 .f32) (t : Fin 16) (l : Fin 784) :
    shapeCast S1x16x784 (extractStridedSlice S16x784 ![0, 4704] V slices_S16x12544_o0_4704_S16x784) shapeCasts_S16x784_S1x16x784 (ix3 0 t l)
      = V (ix2 t (col 6 l)) := by
  pointwise
  rfl

theorem emb6_at (h) (t : Fin 16) (l : Fin 784) :
    (Rect.unit (s := S16x16x784) ![6, 0, 0] S1x16x784.size h).emb (ix3 (0 : Fin 1) t l) = (ix3 (6 : Fin 16) t l : S16x16x784.Idx) := by
  funext a
  apply Fin.ext
  fin_cases a
  · show 6 + 1 * 0 = 6
    omega
  · show 0 + 1 * (t : ℕ) = t
    omega
  · show 0 + 1 * (l : ℕ) = l
    omega

theorem slice7_at (V : FVec F S16x12544 .f32) (t : Fin 16) (l : Fin 784) :
    shapeCast S1x16x784 (extractStridedSlice S16x784 ![0, 5488] V slices_S16x12544_o0_5488_S16x784) shapeCasts_S16x784_S1x16x784 (ix3 0 t l)
      = V (ix2 t (col 7 l)) := by
  pointwise
  rfl

theorem emb7_at (h) (t : Fin 16) (l : Fin 784) :
    (Rect.unit (s := S16x16x784) ![7, 0, 0] S1x16x784.size h).emb (ix3 (0 : Fin 1) t l) = (ix3 (7 : Fin 16) t l : S16x16x784.Idx) := by
  funext a
  apply Fin.ext
  fin_cases a
  · show 7 + 1 * 0 = 7
    omega
  · show 0 + 1 * (t : ℕ) = t
    omega
  · show 0 + 1 * (l : ℕ) = l
    omega

theorem slice8_at (V : FVec F S16x12544 .f32) (t : Fin 16) (l : Fin 784) :
    shapeCast S1x16x784 (extractStridedSlice S16x784 ![0, 6272] V slices_S16x12544_o0_6272_S16x784) shapeCasts_S16x784_S1x16x784 (ix3 0 t l)
      = V (ix2 t (col 8 l)) := by
  pointwise
  rfl

theorem emb8_at (h) (t : Fin 16) (l : Fin 784) :
    (Rect.unit (s := S16x16x784) ![8, 0, 0] S1x16x784.size h).emb (ix3 (0 : Fin 1) t l) = (ix3 (8 : Fin 16) t l : S16x16x784.Idx) := by
  funext a
  apply Fin.ext
  fin_cases a
  · show 8 + 1 * 0 = 8
    omega
  · show 0 + 1 * (t : ℕ) = t
    omega
  · show 0 + 1 * (l : ℕ) = l
    omega

theorem slice9_at (V : FVec F S16x12544 .f32) (t : Fin 16) (l : Fin 784) :
    shapeCast S1x16x784 (extractStridedSlice S16x784 ![0, 7056] V slices_S16x12544_o0_7056_S16x784) shapeCasts_S16x784_S1x16x784 (ix3 0 t l)
      = V (ix2 t (col 9 l)) := by
  pointwise
  rfl

theorem emb9_at (h) (t : Fin 16) (l : Fin 784) :
    (Rect.unit (s := S16x16x784) ![9, 0, 0] S1x16x784.size h).emb (ix3 (0 : Fin 1) t l) = (ix3 (9 : Fin 16) t l : S16x16x784.Idx) := by
  funext a
  apply Fin.ext
  fin_cases a
  · show 9 + 1 * 0 = 9
    omega
  · show 0 + 1 * (t : ℕ) = t
    omega
  · show 0 + 1 * (l : ℕ) = l
    omega

theorem slice10_at (V : FVec F S16x12544 .f32) (t : Fin 16) (l : Fin 784) :
    shapeCast S1x16x784 (extractStridedSlice S16x784 ![0, 7840] V slices_S16x12544_o0_7840_S16x784) shapeCasts_S16x784_S1x16x784 (ix3 0 t l)
      = V (ix2 t (col 10 l)) := by
  pointwise
  rfl

theorem emb10_at (h) (t : Fin 16) (l : Fin 784) :
    (Rect.unit (s := S16x16x784) ![10, 0, 0] S1x16x784.size h).emb (ix3 (0 : Fin 1) t l) = (ix3 (10 : Fin 16) t l : S16x16x784.Idx) := by
  funext a
  apply Fin.ext
  fin_cases a
  · show 10 + 1 * 0 = 10
    omega
  · show 0 + 1 * (t : ℕ) = t
    omega
  · show 0 + 1 * (l : ℕ) = l
    omega

theorem slice11_at (V : FVec F S16x12544 .f32) (t : Fin 16) (l : Fin 784) :
    shapeCast S1x16x784 (extractStridedSlice S16x784 ![0, 8624] V slices_S16x12544_o0_8624_S16x784) shapeCasts_S16x784_S1x16x784 (ix3 0 t l)
      = V (ix2 t (col 11 l)) := by
  pointwise
  rfl

theorem emb11_at (h) (t : Fin 16) (l : Fin 784) :
    (Rect.unit (s := S16x16x784) ![11, 0, 0] S1x16x784.size h).emb (ix3 (0 : Fin 1) t l) = (ix3 (11 : Fin 16) t l : S16x16x784.Idx) := by
  funext a
  apply Fin.ext
  fin_cases a
  · show 11 + 1 * 0 = 11
    omega
  · show 0 + 1 * (t : ℕ) = t
    omega
  · show 0 + 1 * (l : ℕ) = l
    omega

theorem slice12_at (V : FVec F S16x12544 .f32) (t : Fin 16) (l : Fin 784) :
    shapeCast S1x16x784 (extractStridedSlice S16x784 ![0, 9408] V slices_S16x12544_o0_9408_S16x784) shapeCasts_S16x784_S1x16x784 (ix3 0 t l)
      = V (ix2 t (col 12 l)) := by
  pointwise
  rfl

theorem emb12_at (h) (t : Fin 16) (l : Fin 784) :
    (Rect.unit (s := S16x16x784) ![12, 0, 0] S1x16x784.size h).emb (ix3 (0 : Fin 1) t l) = (ix3 (12 : Fin 16) t l : S16x16x784.Idx) := by
  funext a
  apply Fin.ext
  fin_cases a
  · show 12 + 1 * 0 = 12
    omega
  · show 0 + 1 * (t : ℕ) = t
    omega
  · show 0 + 1 * (l : ℕ) = l
    omega

theorem slice13_at (V : FVec F S16x12544 .f32) (t : Fin 16) (l : Fin 784) :
    shapeCast S1x16x784 (extractStridedSlice S16x784 ![0, 10192] V slices_S16x12544_o0_10192_S16x784) shapeCasts_S16x784_S1x16x784 (ix3 0 t l)
      = V (ix2 t (col 13 l)) := by
  pointwise
  rfl

theorem emb13_at (h) (t : Fin 16) (l : Fin 784) :
    (Rect.unit (s := S16x16x784) ![13, 0, 0] S1x16x784.size h).emb (ix3 (0 : Fin 1) t l) = (ix3 (13 : Fin 16) t l : S16x16x784.Idx) := by
  funext a
  apply Fin.ext
  fin_cases a
  · show 13 + 1 * 0 = 13
    omega
  · show 0 + 1 * (t : ℕ) = t
    omega
  · show 0 + 1 * (l : ℕ) = l
    omega

theorem slice14_at (V : FVec F S16x12544 .f32) (t : Fin 16) (l : Fin 784) :
    shapeCast S1x16x784 (extractStridedSlice S16x784 ![0, 10976] V slices_S16x12544_o0_10976_S16x784) shapeCasts_S16x784_S1x16x784 (ix3 0 t l)
      = V (ix2 t (col 14 l)) := by
  pointwise
  rfl

theorem emb14_at (h) (t : Fin 16) (l : Fin 784) :
    (Rect.unit (s := S16x16x784) ![14, 0, 0] S1x16x784.size h).emb (ix3 (0 : Fin 1) t l) = (ix3 (14 : Fin 16) t l : S16x16x784.Idx) := by
  funext a
  apply Fin.ext
  fin_cases a
  · show 14 + 1 * 0 = 14
    omega
  · show 0 + 1 * (t : ℕ) = t
    omega
  · show 0 + 1 * (l : ℕ) = l
    omega

theorem slice15_at (V : FVec F S16x12544 .f32) (t : Fin 16) (l : Fin 784) :
    shapeCast S1x16x784 (extractStridedSlice S16x784 ![0, 11760] V slices_S16x12544_o0_11760_S16x784) shapeCasts_S16x784_S1x16x784 (ix3 0 t l)
      = V (ix2 t (col 15 l)) := by
  pointwise
  rfl

theorem emb15_at (h) (t : Fin 16) (l : Fin 784) :
    (Rect.unit (s := S16x16x784) ![15, 0, 0] S1x16x784.size h).emb (ix3 (0 : Fin 1) t l) = (ix3 (15 : Fin 16) t l : S16x16x784.Idx) := by
  funext a
  apply Fin.ext
  fin_cases a
  · show 15 + 1 * 0 = 15
    omega
  · show 0 + 1 * (t : ℕ) = t
    omega
  · show 0 + 1 * (l : ℕ) = l
    omega

/-- The block's result, element by element. -/
def blk (x0 : Vec F S16x32x784 .f32) (x1 : Vec F S576x6 .i32) (x2 : Vec F S96x6 .i32) (x3 : Vec F S16x6 .i32) (x4 : Vec F S576x64 .f32)
    (x5 : Vec F S96x64 .f32) (x6 : Vec F S16x64 .f32) : Vec F S16x16x784 .f32 := fun y =>
  x6 (ix2 (y 1) (a2 x0 x1 x2 x3 x4 x5 (y 0) (y 1) (y 2)))

/-- Every store of a block's run leaves the block's result there. -/
theorem stores_at (c : Dev nD) (i : grid0.Coords) (arg2 : Memref sig .tc .vmem S16x32x784 .f32) (harg2 : arg2.IsWhole) (arg3 : Memref sig .tc .vmem S576x6 .i32) (harg3 : arg3.IsWhole) (arg4 : Memref sig .tc .vmem S96x6 .i32) (harg4 : arg4.IsWhole) (arg5 : Memref sig .tc .vmem S16x6 .i32) (harg5 : arg5.IsWhole) (arg6 : Memref sig .tc .vmem S576x64 .f32) (harg6 : arg6.IsWhole) (arg7 : Memref sig .tc .vmem S96x64 .f32) (harg7 : arg7.IsWhole) (arg8 : Memref sig .tc .vmem S16x64 .f32) (harg8 : arg8.IsWhole) (arg9 : Memref sig .tc .vmem S16x16x784 .f32) (harg9 : arg9.IsWhole) (arg10 : Memref sig .tc .vmem S576x25 .i8) (harg10 : arg10.IsWhole) (arg11 : Memref sig .tc .vmem S96x576 .i8) (harg11 : arg11.IsWhole) (arg12 : Memref sig .tc .vmem S16x96 .i8) (harg12 : arg12.IsWhole) (arg13 : Memref sig .tc .vmem S576x1 .i32) (harg13 : arg13.IsWhole) (arg14 : Memref sig .tc .vmem S576x1 .i32) (harg14 : arg14.IsWhole) (arg15 : Memref sig .tc .vmem S96x1 .i32) (harg15 : arg15.IsWhole) (arg16 : Memref sig .tc .vmem S96x1 .i32) (harg16 : arg16.IsWhole) (hc0 : cond0_0 i)
    (x0 : Vec F S16x32x784 .f32) (x1 : Vec F S576x6 .i32) (x2 : Vec F S96x6 .i32) (x3 : Vec F S16x6 .i32) (x4 : Vec F S576x64 .f32) (x5 : Vec F S96x64 .f32) (x6 : Vec F S16x64 .f32)
    (h1 : ∀ r j, (x1 (ix2 r j)).toNat < 25) (h2 : ∀ r j, (x2 (ix2 r j)).toNat < 36) (h3 : ∀ r j, (x3 (ix2 r j)).toNat < 6)
    (p) (hp : p ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1) (x : p.1.shape.Idx) : p.2 x = blk x0 x1 x2 x3 x4 x5 x6 (p.1.emb x) := by
  have hr : ∀ (im t : Fin 16) (l : Fin 784), (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col im l)) = x6 (ix2 t (a2 x0 x1 x2 x3 x4 x5 im t l)) := by
    intro im t l
    apply r_58_at <;> assumption
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 15 l))) ?_ ((hr 15 t l).trans ?_)
    · exact slice15_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb15_at inb_S16x16x784_S1x16x784_15_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 14 l))) ?_ ((hr 14 t l).trans ?_)
    · exact slice14_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb14_at inb_S16x16x784_S1x16x784_14_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 13 l))) ?_ ((hr 13 t l).trans ?_)
    · exact slice13_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb13_at inb_S16x16x784_S1x16x784_13_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 12 l))) ?_ ((hr 12 t l).trans ?_)
    · exact slice12_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb12_at inb_S16x16x784_S1x16x784_12_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 11 l))) ?_ ((hr 11 t l).trans ?_)
    · exact slice11_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb11_at inb_S16x16x784_S1x16x784_11_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 10 l))) ?_ ((hr 10 t l).trans ?_)
    · exact slice10_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb10_at inb_S16x16x784_S1x16x784_10_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 9 l))) ?_ ((hr 9 t l).trans ?_)
    · exact slice9_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb9_at inb_S16x16x784_S1x16x784_9_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 8 l))) ?_ ((hr 8 t l).trans ?_)
    · exact slice8_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb8_at inb_S16x16x784_S1x16x784_8_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 7 l))) ?_ ((hr 7 t l).trans ?_)
    · exact slice7_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb7_at inb_S16x16x784_S1x16x784_7_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 6 l))) ?_ ((hr 6 t l).trans ?_)
    · exact slice6_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb6_at inb_S16x16x784_S1x16x784_6_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 5 l))) ?_ ((hr 5 t l).trans ?_)
    · exact slice5_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb5_at inb_S16x16x784_S1x16x784_5_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 4 l))) ?_ ((hr 4 t l).trans ?_)
    · exact slice4_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb4_at inb_S16x16x784_S1x16x784_4_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 3 l))) ?_ ((hr 3 t l).trans ?_)
    · exact slice3_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb3_at inb_S16x16x784_S1x16x784_3_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 2 l))) ?_ ((hr 2 t l).trans ?_)
    · exact slice2_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb2_at inb_S16x16x784_S1x16x784_2_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 1 l))) ?_ ((hr 1 t l).trans ?_)
    · exact slice1_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb1_at inb_S16x16x784_S1x16x784_1_0_0 t l)).symm
  · obtain ⟨z, t, l, rfl⟩ : ∃ (z : Fin 1) (t : Fin 16) (l : Fin 784), x = ix3 z t l := ⟨x 0, x 1, x 2, (eq_ix3 x)⟩
    obtain rfl : z = 0 := Subsingleton.elim _ _
    refine Eq.trans (b := (kernelRun0_A.sl.r_58 c arg2 harg2 arg3 harg3 arg4 harg4 arg5 harg5 arg6 harg6 arg7 harg7 arg8 harg8 arg10 arg11 arg12 arg13 arg14 arg15 arg16 x0 x1 x2 x3 x4 x5 x6) (ix2 t (col 0 l))) ?_ ((hr 0 t l).trans ?_)
    · exact slice0_at (kernelRun0_A.sl.r_58 c arg2 harg2 arg3 harg3 arg4 harg4 arg5 harg5 arg6 harg6 arg7 harg7 arg8 harg8 arg10 arg11 arg12 arg13 arg14 arg15 arg16 x0 x1 x2 x3 x4 x5 x6) t l
    · exact (congrArg (blk x0 x1 x2 x3 x4 x5 x6) (emb0_at inb_S16x16x784_S1x16x784_0_0_0 t l)).symm

/-- The block of the output a grid point leaves, element by element. -/
theorem out_at (c : Dev nD) (i : grid0.Coords) (arg2 : Memref sig .tc .vmem S16x32x784 .f32) (harg2 : arg2.IsWhole) (arg3 : Memref sig .tc .vmem S576x6 .i32) (harg3 : arg3.IsWhole) (arg4 : Memref sig .tc .vmem S96x6 .i32) (harg4 : arg4.IsWhole) (arg5 : Memref sig .tc .vmem S16x6 .i32) (harg5 : arg5.IsWhole) (arg6 : Memref sig .tc .vmem S576x64 .f32) (harg6 : arg6.IsWhole) (arg7 : Memref sig .tc .vmem S96x64 .f32) (harg7 : arg7.IsWhole) (arg8 : Memref sig .tc .vmem S16x64 .f32) (harg8 : arg8.IsWhole) (arg9 : Memref sig .tc .vmem S16x16x784 .f32) (harg9 : arg9.IsWhole) (arg10 : Memref sig .tc .vmem S576x25 .i8) (harg10 : arg10.IsWhole) (arg11 : Memref sig .tc .vmem S96x576 .i8) (harg11 : arg11.IsWhole) (arg12 : Memref sig .tc .vmem S16x96 .i8) (harg12 : arg12.IsWhole) (arg13 : Memref sig .tc .vmem S576x1 .i32) (harg13 : arg13.IsWhole) (arg14 : Memref sig .tc .vmem S576x1 .i32) (harg14 : arg14.IsWhole) (arg15 : Memref sig .tc .vmem S96x1 .i32) (harg15 : arg15.IsWhole) (arg16 : Memref sig .tc .vmem S96x1 .i32) (harg16 : arg16.IsWhole) (hc0 : cond0_0 i)
    (x0 : Vec F S16x32x784 .f32) (x1 : Vec F S576x6 .i32) (x2 : Vec F S96x6 .i32) (x3 : Vec F S16x6 .i32) (x4 : Vec F S576x64 .f32) (x5 : Vec F S96x64 .f32) (x6 : Vec F S16x64 .f32)
    (h1 : ∀ r j, (x1 (ix2 r j)).toNat < 25) (h2 : ∀ r j, (x2 (ix2 r j)).toNat < 36) (h3 : ∀ r j, (x3 (ix2 r j)).toNat < 6)
    : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 = blk x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6)]
  funext y
  refine View.canon_apply_of_pieces (blk x0 x1 x2 x3 x4 x5 x6) _ ?_ y ?_
  · intro p hp x
    exact stores_at (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 h1 h2 h3 p hp x
  · exact cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y

end Cert.KernelIdeal.Hand
end
end
-- ==== Proof.KI.Arrays.lean ====
/- What the host lines before the region leave in the arrays the region reads. -/
module

public import proofs.«01_k».proof.Proof.KI.Frame
public import Idealize.ShloMosaic.Lib.Claim
public import Idealize.ShloMosaic.Lib.WordSum
public import proofs.«01_k».proof.Proof.KI.Block
public import proofs.«01_k».proof.Proof.KI.Pays

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Words

variable (m : (ℓ : Loc nD τ sig) → Buf (Elt F) ℓ)

/-- The argument arrays of core `c`, at their shapes. -/
abbrev ax (c : Dev nD) : Vec F S16x1x32x32 .f32 := m ((c : Thread nD τ).loc main_arg0)
abbrev ai0 (c : Dev nD) : Vec F S64x36x6 .i32 := m ((c : Thread nD τ).loc main_arg1)
abbrev ai1 (c : Dev nD) : Vec F S64x6x6 .i32 := m ((c : Thread nD τ).loc main_arg2)
abbrev ai2 (c : Dev nD) : Vec F S64x1x6 .i32 := m ((c : Thread nD τ).loc main_arg3)
abbrev al0 (c : Dev nD) : Vec F S64x36x64 .f32 := m ((c : Thread nD τ).loc main_arg4)
abbrev al1 (c : Dev nD) : Vec F S64x6x64 .f32 := m ((c : Thread nD τ).loc main_arg5)
abbrev al2 (c : Dev nD) : Vec F S64x1x64 .f32 := m ((c : Thread nD τ).loc main_arg6)

theorem V_idx0 (c : Dev nD) : V m c main_call0_v55 = shapeCast S2304x6 (ai0 m c) shapeCasts_S64x36x6_S2304x6 := by
  show StableHlo.after (List.flatten [hostOps0]) _ _ = _
  simp only [List.flatten_cons, List.flatten_nil, List.append_nil]
  after_results_simp
  rfl

theorem V_idx1 (c : Dev nD) : V m c main_call0_v56 = shapeCast S384x6 (ai1 m c) shapeCasts_S64x6x6_S384x6 := by
  show StableHlo.after (List.flatten [hostOps0]) _ _ = _
  simp only [List.flatten_cons, List.flatten_nil, List.append_nil]
  after_results_simp
  rfl

theorem V_idx2 (c : Dev nD) : V m c main_call0_v57 = shapeCast S64x6 (ai2 m c) shapeCasts_S64x1x6_S64x6 := by
  show StableHlo.after (List.flatten [hostOps0]) _ _ = _
  simp only [List.flatten_cons, List.flatten_nil, List.append_nil]
  after_results_simp
  rfl

theorem V_lut0 (c : Dev nD) : V m c main_call0_v58 = shapeCast S2304x64 (al0 m c) shapeCasts_S64x36x64_S2304x64 := by
  show StableHlo.after (List.flatten [hostOps0]) _ _ = _
  simp only [List.flatten_cons, List.flatten_nil, List.append_nil]
  after_results_simp
  rfl

theorem V_lut1 (c : Dev nD) : V m c main_call0_v59 = shapeCast S384x64 (al1 m c) shapeCasts_S64x6x64_S384x64 := by
  show StableHlo.after (List.flatten [hostOps0]) _ _ = _
  simp only [List.flatten_cons, List.flatten_nil, List.append_nil]
  after_results_simp
  rfl

theorem V_lut2 (c : Dev nD) : V m c main_call0_v60 = shapeCast S64x64 (al2 m c) shapeCasts_S64x1x64_S64x64 := by
  show StableHlo.after (List.flatten [hostOps0]) _ _ = _
  simp only [List.flatten_cons, List.flatten_nil, List.append_nil]
  after_results_simp
  rfl

theorem V_idx0_at (c : Dev nD) (t : Fin 64) (n : Fin 36) (j : Fin 6) :
    V m c main_call0_v55 (ix2 (⟨36 * (t : ℕ) + n, by omega⟩ : Fin 2304) j) = ai0 m c (ix3 t n j) := by
  rw [V_idx0]
  refine shapeCast_apply (ai0 m c) _ (ix2 _ j) (ix3 t n j) ?_
  rw [Shape.rowMajor_val_two, Shape.rowMajor_val_three]
  show ((t : ℕ) * 36 + n) * 6 + j = (36 * (t : ℕ) + n) * 6 + j
  ring

theorem V_idx1_at (c : Dev nD) (t : Fin 64) (n : Fin 6) (j : Fin 6) :
    V m c main_call0_v56 (ix2 (⟨6 * (t : ℕ) + n, by omega⟩ : Fin 384) j) = ai1 m c (ix3 t n j) := by
  rw [V_idx1]
  refine shapeCast_apply (ai1 m c) _ (ix2 _ j) (ix3 t n j) ?_
  rw [Shape.rowMajor_val_two, Shape.rowMajor_val_three]
  show ((t : ℕ) * 6 + n) * 6 + j = (6 * (t : ℕ) + n) * 6 + j
  ring

theorem V_idx2_at (c : Dev nD) (t : Fin 64) (j : Fin 6) :
    V m c main_call0_v57 (ix2 t j) = ai2 m c (ix3 t 0 j) := by
  rw [V_idx2]
  pointwise

theorem V_lut0_at (c : Dev nD) (t : Fin 64) (n : Fin 36) (j : Fin 64) :
    V m c main_call0_v58 (ix2 (⟨36 * (t : ℕ) + n, by omega⟩ : Fin 2304) j) = al0 m c (ix3 t n j) := by
  rw [V_lut0]
  refine shapeCast_apply (al0 m c) _ (ix2 _ j) (ix3 t n j) ?_
  rw [Shape.rowMajor_val_two, Shape.rowMajor_val_three]
  show ((t : ℕ) * 36 + n) * 64 + j = (36 * (t : ℕ) + n) * 64 + j
  ring

theorem V_lut1_at (c : Dev nD) (t : Fin 64) (n : Fin 6) (j : Fin 64) :
    V m c main_call0_v59 (ix2 (⟨6 * (t : ℕ) + n, by omega⟩ : Fin 384) j) = al1 m c (ix3 t n j) := by
  rw [V_lut1]
  refine shapeCast_apply (al1 m c) _ (ix2 _ j) (ix3 t n j) ?_
  rw [Shape.rowMajor_val_two, Shape.rowMajor_val_three]
  show ((t : ℕ) * 6 + n) * 64 + j = (6 * (t : ℕ) + n) * 64 + j
  ring

theorem V_lut2_at (c : Dev nD) (t : Fin 64) (j : Fin 64) :
    V m c main_call0_v60 (ix2 t j) = al2 m c (ix3 t 0 j) := by
  rw [V_lut2]
  pointwise

/-- The array as the region finds it is what the last nine operations leave over what the first fifty-three leave. -/
theorem V_split (c : Dev nD) (b : Ref sig .tc) :
    V m c b = StableHlo.after (hostOps0.drop 53) (StableHlo.after (hostOps0.take 53) (fun b => m (c, b))) (Proc.devRef .tc b) := by
  show StableHlo.after (List.flatten [hostOps0]) _ _ = _
  rw [← StableHlo.after_append, List.take_append_drop]
  simp only [List.flatten_cons, List.flatten_nil, List.append_nil]

set_option maxHeartbeats 3200000 in
theorem tail_x (U : Valuation τ sig (Elt F)) :
    StableHlo.after (hostOps0.drop 53) U (Proc.devRef .tc main_call0_v54)
      = concatenate S16x32x784 1 [⟨S16x16x784, concatenate S16x16x784 1 [⟨S16x1x784, (U (Proc.devRef .tc main_call0_v2) : Vec F S16x1x784 .f32)⟩, ⟨S16x1x784, (U (Proc.devRef .tc main_call0_v4) : Vec F S16x1x784 .f32)⟩, ⟨S16x1x784, (U (Proc.devRef .tc main_call0_v6) : Vec F S16x1x784 .f32)⟩, ⟨S16x1x784, (U (Proc.devRef .tc main_call0_v8) : Vec F S16x1x784 .f32)⟩, ⟨S16x1x784, (U (Proc.devRef .tc main_call0_v10) : Vec F S16x1x784 .f32)⟩, ⟨S16x1x784, (U (Proc.devRef .tc main_call0_v12) : Vec F S16x1x784 .f32)⟩, ⟨S16x1x784, (U (Proc.devRef .tc main_call0_v14) : Vec F S16x1x784 .f32)⟩, ⟨S16x1x784, (U (Proc.devRef .tc main_call0_v16) : Vec F S16x1x784 .f32)⟩, ⟨S16x1x784, (U (Proc.devRef .tc main_call0_v18) : Vec F S16x1x784 .f32)⟩, ⟨S16x1x784, (U (Proc.devRef .tc main_call0_v20) : Vec F S16x1x784 .f32)⟩, ⟨S16x1x784, (U (Proc.devRef .tc main_call0_v22) : Vec F S16x1x784 .f32)⟩, ⟨S16x1x784, (U (Proc.devRef .tc main_call0_v24) : Vec F S16x1x784 .f32)⟩, ⟨S16x1x784, (U (Proc.devRef .tc main_call0_v26) : Vec F S16x1x784 .f32)⟩, ⟨S16x1x784, (U (Proc.devRef .tc main_call0_v28) : Vec F S16x1x784 .f32)⟩, ⟨S16x1x784, (U (Proc.devRef .tc main_call0_v30) : Vec F S16x1x784 .f32)⟩, ⟨S16x1x784, (U (Proc.devRef .tc main_call0_v32) : Vec F S16x1x784 .f32)⟩] concatenates_S16x1x784_S16x1x784_S16x1x784_S16x1x784_S16x1x784_S16x1x784_S16x1x784_S16x1x784_S16x1x784_S16x1x784_S16x1x784_S16x1x784_S16x1x784_S16x1x784_S16x1x784_S16x1x784_S16x16x784_d1⟩,
          ⟨S16x16x784, concatenate S16x16x784 1 [⟨S16x1x784, (U (Proc.devRef .tc main_call0_v34) : Vec F S16x1x784 .f32)⟩, ⟨S16x1x784, (U (Proc.devRef .tc main_call0_v36) : Vec F S16x1x784 .f32)⟩, ⟨S16x1x784, (U (Proc.devRef .tc main_call0_v38) : Vec F S16x1x784 .f32)⟩, ⟨S16x1x784, (U (Proc.devRef .tc main_call0_v40) : Vec F S16x1x784 .f32)⟩, ⟨S16x1x784, (U (Proc.devRef .tc main_call0_v42) : Vec F S16x1x784 .f32)⟩, ⟨S16x1x784, (U (Proc.devRef .tc main_call0_v44) : Vec F S16x1x784 .f32)⟩, ⟨S16x1x784, (U (Proc.devRef .tc main_call0_v46) : Vec F S16x1x784 .f32)⟩, ⟨S16x1x784, (U (Proc.devRef .tc main_call0_v48) : Vec F S16x1x784 .f32)⟩, ⟨S16x1x784, (U (Proc.devRef .tc main_call0_v50) : Vec F S16x1x784 .f32)⟩, ⟨S16x7x784, (U (Proc.devRef .tc main_call0_v51) : Vec F S16x7x784 .f32)⟩] concatenates_S16x1x784_S16x1x784_S16x1x784_S16x1x784_S16x1x784_S16x1x784_S16x1x784_S16x1x784_S16x1x784_S16x7x784_S16x16x784_d1⟩]
          concatenates_S16x16x784_S16x16x784_S16x32x784_d1 := by
  simp only [hostOps0, List.drop_succ_cons, List.drop_zero]
  after_results_simp
  after_results_loop
  rfl

theorem cat16_at (a0 a1 a2 a3 a4 a5 a6 a7 a8 a9 a10 a11 a12 a13 a14 a15 : Vec F S16x1x784 .f32) (h) (im : Fin 16) (k : Fin 16) (l : Fin 784) :
    concatenate S16x16x784 1 [⟨S16x1x784, a0⟩, ⟨S16x1x784, a1⟩, ⟨S16x1x784, a2⟩, ⟨S16x1x784, a3⟩, ⟨S16x1x784, a4⟩, ⟨S16x1x784, a5⟩, ⟨S16x1x784, a6⟩, ⟨S16x1x784, a7⟩, ⟨S16x1x784, a8⟩, ⟨S16x1x784, a9⟩, ⟨S16x1x784, a10⟩, ⟨S16x1x784, a11⟩, ⟨S16x1x784, a12⟩, ⟨S16x1x784, a13⟩, ⟨S16x1x784, a14⟩, ⟨S16x1x784, a15⟩] h (ix3 im k l)
      = (![a0, a1, a2, a3, a4, a5, a6, a7, a8, a9, a10, a11, a12, a13, a14, a15] : Fin 16 → Vec F S16x1x784 .f32) k (ix3 im 0 l) := by
  fin_cases k <;> pointwise <;> rfl

theorem cat9_at (a0 a1 a2 a3 a4 a5 a6 a7 a8 : Vec F S16x1x784 .f32) (b : Vec F S16x7x784 .f32) (h) (im : Fin 16) (k : Fin 9) (l : Fin 784) :
    concatenate S16x16x784 1 [⟨S16x1x784, a0⟩, ⟨S16x1x784, a1⟩, ⟨S16x1x784, a2⟩, ⟨S16x1x784, a3⟩, ⟨S16x1x784, a4⟩, ⟨S16x1x784, a5⟩, ⟨S16x1x784, a6⟩, ⟨S16x1x784, a7⟩, ⟨S16x1x784, a8⟩, ⟨S16x7x784, b⟩] h (ix3 im (k.castLE (by decide) : Fin 16) l)
      = (![a0, a1, a2, a3, a4, a5, a6, a7, a8] : Fin 9 → Vec F S16x1x784 .f32) k (ix3 im 0 l) := by
  fin_cases k
  · show concatenate S16x16x784 1 _ h (ix3 im (0 : Fin 16) l) = a0 (ix3 im 0 l)
    pointwise
    try rfl
  · show concatenate S16x16x784 1 _ h (ix3 im (1 : Fin 16) l) = a1 (ix3 im 0 l)
    pointwise
    try rfl
  · show concatenate S16x16x784 1 _ h (ix3 im (2 : Fin 16) l) = a2 (ix3 im 0 l)
    pointwise
    try rfl
  · show concatenate S16x16x784 1 _ h (ix3 im (3 : Fin 16) l) = a3 (ix3 im 0 l)
    pointwise
    try rfl
  · show concatenate S16x16x784 1 _ h (ix3 im (4 : Fin 16) l) = a4 (ix3 im 0 l)
    pointwise
    try rfl
  · show concatenate S16x16x784 1 _ h (ix3 im (5 : Fin 16) l) = a5 (ix3 im 0 l)
    pointwise
    try rfl
  · show concatenate S16x16x784 1 _ h (ix3 im (6 : Fin 16) l) = a6 (ix3 im 0 l)
    pointwise
    try rfl
  · show concatenate S16x16x784 1 _ h (ix3 im (7 : Fin 16) l) = a7 (ix3 im 0 l)
    pointwise
    try rfl
  · show concatenate S16x16x784 1 _ h (ix3 im (8 : Fin 16) l) = a8 (ix3 im 0 l)
    pointwise
    try rfl

/-- One row of the patches: the image shifted by the row's place in the window. -/
theorem piece_at (x : Vec F S16x1x32x32 .f32) (i j : ℕ) (hi : i < 5) (hj : j < 5) (h1) (h2) (h3) (im : Fin 16) (l : Fin 784) :
    (shapeCast S16x1x784 (extractStridedSlice S16x28x28 ![0, i, j] (shapeCast S16x32x32 x h1) h2) h3 : Vec F S16x1x784 .f32) (ix3 im 0 l)
      = x (ix4 im 0 ⟨(l : ℕ) / 28 + i, by omega⟩ ⟨(l : ℕ) % 28 + j, by omega⟩) := by
  refine Eq.trans (b := (extractStridedSlice S16x28x28 ![0, i, j] (shapeCast S16x32x32 x h1) h2 : Vec F S16x28x28 .f32) (ix3 im ⟨(l : ℕ) / 28, by omega⟩ ⟨(l : ℕ) % 28, by omega⟩)) ?_ ?_
  · refine shapeCast_apply _ _ _ _ ?_
    rw [Shape.rowMajor_val_three, Shape.rowMajor_val_three]
    show ((im : ℕ) * 28 + (l : ℕ) / 28) * 28 + (l : ℕ) % 28 = ((im : ℕ) * 1 + 0) * 784 + l
    omega
  · refine Eq.trans (b := (shapeCast S16x32x32 x h1 : Vec F S16x32x32 .f32) (ix3 im ⟨(l : ℕ) / 28 + i, by omega⟩ ⟨(l : ℕ) % 28 + j, by omega⟩)) ?_ ?_
    · refine extractStridedSlice_apply _ _ _ _ _ ?_
      intro a
      fin_cases a
      · show (im : ℕ) = 0 + im
        omega
      · show (l : ℕ) / 28 + i = i + (l : ℕ) / 28
        omega
      · show (l : ℕ) % 28 + j = j + (l : ℕ) % 28
        omega
    · refine shapeCast_apply _ _ _ _ ?_
      rw [Shape.rowMajor_val_three, Shape.rowMajor_val_four]
      show (((im : ℕ) * 1 + 0) * 32 + ((l : ℕ) / 28 + i)) * 32 + ((l : ℕ) % 28 + j) = ((im : ℕ) * 32 + ((l : ℕ) / 28 + i)) * 32 + ((l : ℕ) % 28 + j)
      omega

theorem head_x0 (V : Valuation τ sig (Elt F)) (im : Fin 16) (l : Fin 784) :
    (StableHlo.after (hostOps0.take 53) V (Proc.devRef .tc main_call0_v2) : Vec F S16x1x784 .f32) (ix3 im 0 l)
      = (V (Proc.devRef .tc main_arg0) : Vec F S16x1x32x32 .f32) (ix4 im 0 ⟨(l : ℕ) / 28 + 0, by omega⟩ ⟨(l : ℕ) % 28 + 0, by omega⟩) := by
  have e : (StableHlo.after (hostOps0.take 53) V (Proc.devRef .tc main_call0_v2) : Vec F S16x1x784 .f32)
      = shapeCast S16x1x784 (extractStridedSlice S16x28x28 ![0, 0, 0] (shapeCast S16x32x32 (V (Proc.devRef .tc main_arg0) : Vec F S16x1x32x32 .f32) shapeCasts_S16x1x32x32_S16x32x32) slices_S16x32x32_S16x28x28_0_0_0) shapeCasts_S16x28x28_S16x1x784 := by
    simp only [hostOps0, List.take_succ_cons, List.take_zero]
    after_results_simp
    rfl
  rw [e]
  exact piece_at _ 0 0 (by decide) (by decide) _ _ _ im l

theorem head_x1 (V : Valuation τ sig (Elt F)) (im : Fin 16) (l : Fin 784) :
    (StableHlo.after (hostOps0.take 53) V (Proc.devRef .tc main_call0_v4) : Vec F S16x1x784 .f32) (ix3 im 0 l)
      = (V (Proc.devRef .tc main_arg0) : Vec F S16x1x32x32 .f32) (ix4 im 0 ⟨(l : ℕ) / 28 + 0, by omega⟩ ⟨(l : ℕ) % 28 + 1, by omega⟩) := by
  have e : (StableHlo.after (hostOps0.take 53) V (Proc.devRef .tc main_call0_v4) : Vec F S16x1x784 .f32)
      = shapeCast S16x1x784 (extractStridedSlice S16x28x28 ![0, 0, 1] (shapeCast S16x32x32 (V (Proc.devRef .tc main_arg0) : Vec F S16x1x32x32 .f32) shapeCasts_S16x1x32x32_S16x32x32) slices_S16x32x32_S16x28x28_0_0_1) shapeCasts_S16x28x28_S16x1x784 := by
    simp only [hostOps0, List.take_succ_cons, List.take_zero]
    after_results_simp
    rfl
  rw [e]
  exact piece_at _ 0 1 (by decide) (by decide) _ _ _ im l

theorem head_x2 (V : Valuation τ sig (Elt F)) (im : Fin 16) (l : Fin 784) :
    (StableHlo.after (hostOps0.take 53) V (Proc.devRef .tc main_call0_v6) : Vec F S16x1x784 .f32) (ix3 im 0 l)
      = (V (Proc.devRef .tc main_arg0) : Vec F S16x1x32x32 .f32) (ix4 im 0 ⟨(l : ℕ) / 28 + 0, by omega⟩ ⟨(l : ℕ) % 28 + 2, by omega⟩) := by
  have e : (StableHlo.after (hostOps0.take 53) V (Proc.devRef .tc main_call0_v6) : Vec F S16x1x784 .f32)
      = shapeCast S16x1x784 (extractStridedSlice S16x28x28 ![0, 0, 2] (shapeCast S16x32x32 (V (Proc.devRef .tc main_arg0) : Vec F S16x1x32x32 .f32) shapeCasts_S16x1x32x32_S16x32x32) slices_S16x32x32_S16x28x28_0_0_2) shapeCasts_S16x28x28_S16x1x784 := by
    simp only [hostOps0, List.take_succ_cons, List.take_zero]
    after_results_simp
    rfl
  rw [e]
  exact piece_at _ 0 2 (by decide) (by decide) _ _ _ im l

theorem head_x3 (V : Valuation τ sig (Elt F)) (im : Fin 16) (l : Fin 784) :
    (StableHlo.after (hostOps0.take 53) V (Proc.devRef .tc main_call0_v8) : Vec F S16x1x784 .f32) (ix3 im 0 l)
      = (V (Proc.devRef .tc main_arg0) : Vec F S16x1x32x32 .f32) (ix4 im 0 ⟨(l : ℕ) / 28 + 0, by omega⟩ ⟨(l : ℕ) % 28 + 3, by omega⟩) := by
  have e : (StableHlo.after (hostOps0.take 53) V (Proc.devRef .tc main_call0_v8) : Vec F S16x1x784 .f32)
      = shapeCast S16x1x784 (extractStridedSlice S16x28x28 ![0, 0, 3] (shapeCast S16x32x32 (V (Proc.devRef .tc main_arg0) : Vec F S16x1x32x32 .f32) shapeCasts_S16x1x32x32_S16x32x32) slices_S16x32x32_S16x28x28_0_0_3) shapeCasts_S16x28x28_S16x1x784 := by
    simp only [hostOps0, List.take_succ_cons, List.take_zero]
    after_results_simp
    rfl
  rw [e]
  exact piece_at _ 0 3 (by decide) (by decide) _ _ _ im l

theorem head_x4 (V : Valuation τ sig (Elt F)) (im : Fin 16) (l : Fin 784) :
    (StableHlo.after (hostOps0.take 53) V (Proc.devRef .tc main_call0_v10) : Vec F S16x1x784 .f32) (ix3 im 0 l)
      = (V (Proc.devRef .tc main_arg0) : Vec F S16x1x32x32 .f32) (ix4 im 0 ⟨(l : ℕ) / 28 + 0, by omega⟩ ⟨(l : ℕ) % 28 + 4, by omega⟩) := by
  have e : (StableHlo.after (hostOps0.take 53) V (Proc.devRef .tc main_call0_v10) : Vec F S16x1x784 .f32)
      = shapeCast S16x1x784 (extractStridedSlice S16x28x28 ![0, 0, 4] (shapeCast S16x32x32 (V (Proc.devRef .tc main_arg0) : Vec F S16x1x32x32 .f32) shapeCasts_S16x1x32x32_S16x32x32) slices_S16x32x32_S16x28x28_0_0_4) shapeCasts_S16x28x28_S16x1x784 := by
    simp only [hostOps0, List.take_succ_cons, List.take_zero]
    after_results_simp
    rfl
  rw [e]
  exact piece_at _ 0 4 (by decide) (by decide) _ _ _ im l

theorem head_x5 (V : Valuation τ sig (Elt F)) (im : Fin 16) (l : Fin 784) :
    (StableHlo.after (hostOps0.take 53) V (Proc.devRef .tc main_call0_v12) : Vec F S16x1x784 .f32) (ix3 im 0 l)
      = (V (Proc.devRef .tc main_arg0) : Vec F S16x1x32x32 .f32) (ix4 im 0 ⟨(l : ℕ) / 28 + 1, by omega⟩ ⟨(l : ℕ) % 28 + 0, by omega⟩) := by
  have e : (StableHlo.after (hostOps0.take 53) V (Proc.devRef .tc main_call0_v12) : Vec F S16x1x784 .f32)
      = shapeCast S16x1x784 (extractStridedSlice S16x28x28 ![0, 1, 0] (shapeCast S16x32x32 (V (Proc.devRef .tc main_arg0) : Vec F S16x1x32x32 .f32) shapeCasts_S16x1x32x32_S16x32x32) slices_S16x32x32_S16x28x28_0_1_0) shapeCasts_S16x28x28_S16x1x784 := by
    simp only [hostOps0, List.take_succ_cons, List.take_zero]
    after_results_simp
    rfl
  rw [e]
  exact piece_at _ 1 0 (by decide) (by decide) _ _ _ im l

theorem head_x6 (V : Valuation τ sig (Elt F)) (im : Fin 16) (l : Fin 784) :
    (StableHlo.after (hostOps0.take 53) V (Proc.devRef .tc main_call0_v14) : Vec F S16x1x784 .f32) (ix3 im 0 l)
      = (V (Proc.devRef .tc main_arg0) : Vec F S16x1x32x32 .f32) (ix4 im 0 ⟨(l : ℕ) / 28 + 1, by omega⟩ ⟨(l : ℕ) % 28 + 1, by omega⟩) := by
  have e : (StableHlo.after (hostOps0.take 53) V (Proc.devRef .tc main_call0_v14) : Vec F S16x1x784 .f32)
      = shapeCast S16x1x784 (extractStridedSlice S16x28x28 ![0, 1, 1] (shapeCast S16x32x32 (V (Proc.devRef .tc main_arg0) : Vec F S16x1x32x32 .f32) shapeCasts_S16x1x32x32_S16x32x32) slices_S16x32x32_S16x28x28_0_1_1) shapeCasts_S16x28x28_S16x1x784 := by
    simp only [hostOps0, List.take_succ_cons, List.take_zero]
    after_results_simp
    rfl
  rw [e]
  exact piece_at _ 1 1 (by decide) (by decide) _ _ _ im l

theorem head_x7 (V : Valuation τ sig (Elt F)) (im : Fin 16) (l : Fin 784) :
    (StableHlo.after (hostOps0.take 53) V (Proc.devRef .tc main_call0_v16) : Vec F S16x1x784 .f32) (ix3 im 0 l)
      = (V (Proc.devRef .tc main_arg0) : Vec F S16x1x32x32 .f32) (ix4 im 0 ⟨(l : ℕ) / 28 + 1, by omega⟩ ⟨(l : ℕ) % 28 + 2, by omega⟩) := by
  have e : (StableHlo.after (hostOps0.take 53) V (Proc.devRef .tc main_call0_v16) : Vec F S16x1x784 .f32)
      = shapeCast S16x1x784 (extractStridedSlice S16x28x28 ![0, 1, 2] (shapeCast S16x32x32 (V (Proc.devRef .tc main_arg0) : Vec F S16x1x32x32 .f32) shapeCasts_S16x1x32x32_S16x32x32) slices_S16x32x32_S16x28x28_0_1_2) shapeCasts_S16x28x28_S16x1x784 := by
    simp only [hostOps0, List.take_succ_cons, List.take_zero]
    after_results_simp
    rfl
  rw [e]
  exact piece_at _ 1 2 (by decide) (by decide) _ _ _ im l

theorem head_x8 (V : Valuation τ sig (Elt F)) (im : Fin 16) (l : Fin 784) :
    (StableHlo.after (hostOps0.take 53) V (Proc.devRef .tc main_call0_v18) : Vec F S16x1x784 .f32) (ix3 im 0 l)
      = (V (Proc.devRef .tc main_arg0) : Vec F S16x1x32x32 .f32) (ix4 im 0 ⟨(l : ℕ) / 28 + 1, by omega⟩ ⟨(l : ℕ) % 28 + 3, by omega⟩) := by
  have e : (StableHlo.after (hostOps0.take 53) V (Proc.devRef .tc main_call0_v18) : Vec F S16x1x784 .f32)
      = shapeCast S16x1x784 (extractStridedSlice S16x28x28 ![0, 1, 3] (shapeCast S16x32x32 (V (Proc.devRef .tc main_arg0) : Vec F S16x1x32x32 .f32) shapeCasts_S16x1x32x32_S16x32x32) slices_S16x32x32_S16x28x28_0_1_3) shapeCasts_S16x28x28_S16x1x784 := by
    simp only [hostOps0, List.take_succ_cons, List.take_zero]
    after_results_simp
    rfl
  rw [e]
  exact piece_at _ 1 3 (by decide) (by decide) _ _ _ im l

theorem head_x9 (V : Valuation τ sig (Elt F)) (im : Fin 16) (l : Fin 784) :
    (StableHlo.after (hostOps0.take 53) V (Proc.devRef .tc main_call0_v20) : Vec F S16x1x784 .f32) (ix3 im 0 l)
      = (V (Proc.devRef .tc main_arg0) : Vec F S16x1x32x32 .f32) (ix4 im 0 ⟨(l : ℕ) / 28 + 1, by omega⟩ ⟨(l : ℕ) % 28 + 4, by omega⟩) := by
  have e : (StableHlo.after (hostOps0.take 53) V (Proc.devRef .tc main_call0_v20) : Vec F S16x1x784 .f32)
      = shapeCast S16x1x784 (extractStridedSlice S16x28x28 ![0, 1, 4] (shapeCast S16x32x32 (V (Proc.devRef .tc main_arg0) : Vec F S16x1x32x32 .f32) shapeCasts_S16x1x32x32_S16x32x32) slices_S16x32x32_S16x28x28_0_1_4) shapeCasts_S16x28x28_S16x1x784 := by
    simp only [hostOps0, List.take_succ_cons, List.take_zero]
    after_results_simp
    rfl
  rw [e]
  exact piece_at _ 1 4 (by decide) (by decide) _ _ _ im l

theorem head_x10 (V : Valuation τ sig (Elt F)) (im : Fin 16) (l : Fin 784) :
    (StableHlo.after (hostOps0.take 53) V (Proc.devRef .tc main_call0_v22) : Vec F S16x1x784 .f32) (ix3 im 0 l)
      = (V (Proc.devRef .tc main_arg0) : Vec F S16x1x32x32 .f32) (ix4 im 0 ⟨(l : ℕ) / 28 + 2, by omega⟩ ⟨(l : ℕ) % 28 + 0, by omega⟩) := by
  have e : (StableHlo.after (hostOps0.take 53) V (Proc.devRef .tc main_call0_v22) : Vec F S16x1x784 .f32)
      = shapeCast S16x1x784 (extractStridedSlice S16x28x28 ![0, 2, 0] (shapeCast S16x32x32 (V (Proc.devRef .tc main_arg0) : Vec F S16x1x32x32 .f32) shapeCasts_S16x1x32x32_S16x32x32) slices_S16x32x32_S16x28x28_0_2_0) shapeCasts_S16x28x28_S16x1x784 := by
    simp only [hostOps0, List.take_succ_cons, List.take_zero]
    after_results_simp
    rfl
  rw [e]
  exact piece_at _ 2 0 (by decide) (by decide) _ _ _ im l

theorem head_x11 (V : Valuation τ sig (Elt F)) (im : Fin 16) (l : Fin 784) :
    (StableHlo.after (hostOps0.take 53) V (Proc.devRef .tc main_call0_v24) : Vec F S16x1x784 .f32) (ix3 im 0 l)
      = (V (Proc.devRef .tc main_arg0) : Vec F S16x1x32x32 .f32) (ix4 im 0 ⟨(l : ℕ) / 28 + 2, by omega⟩ ⟨(l : ℕ) % 28 + 1, by omega⟩) := by
  have e : (StableHlo.after (hostOps0.take 53) V (Proc.devRef .tc main_call0_v24) : Vec F S16x1x784 .f32)
      = shapeCast S16x1x784 (extractStridedSlice S16x28x28 ![0, 2, 1] (shapeCast S16x32x32 (V (Proc.devRef .tc main_arg0) : Vec F S16x1x32x32 .f32) shapeCasts_S16x1x32x32_S16x32x32) slices_S16x32x32_S16x28x28_0_2_1) shapeCasts_S16x28x28_S16x1x784 := by
    simp only [hostOps0, List.take_succ_cons, List.take_zero]
    after_results_simp
    rfl
  rw [e]
  exact piece_at _ 2 1 (by decide) (by decide) _ _ _ im l

theorem head_x12 (V : Valuation τ sig (Elt F)) (im : Fin 16) (l : Fin 784) :
    (StableHlo.after (hostOps0.take 53) V (Proc.devRef .tc main_call0_v26) : Vec F S16x1x784 .f32) (ix3 im 0 l)
      = (V (Proc.devRef .tc main_arg0) : Vec F S16x1x32x32 .f32) (ix4 im 0 ⟨(l : ℕ) / 28 + 2, by omega⟩ ⟨(l : ℕ) % 28 + 2, by omega⟩) := by
  have e : (StableHlo.after (hostOps0.take 53) V (Proc.devRef .tc main_call0_v26) : Vec F S16x1x784 .f32)
      = shapeCast S16x1x784 (extractStridedSlice S16x28x28 ![0, 2, 2] (shapeCast S16x32x32 (V (Proc.devRef .tc main_arg0) : Vec F S16x1x32x32 .f32) shapeCasts_S16x1x32x32_S16x32x32) slices_S16x32x32_S16x28x28_0_2_2) shapeCasts_S16x28x28_S16x1x784 := by
    simp only [hostOps0, List.take_succ_cons, List.take_zero]
    after_results_simp
    rfl
  rw [e]
  exact piece_at _ 2 2 (by decide) (by decide) _ _ _ im l

theorem head_x13 (V : Valuation τ sig (Elt F)) (im : Fin 16) (l : Fin 784) :
    (StableHlo.after (hostOps0.take 53) V (Proc.devRef .tc main_call0_v28) : Vec F S16x1x784 .f32) (ix3 im 0 l)
      = (V (Proc.devRef .tc main_arg0) : Vec F S16x1x32x32 .f32) (ix4 im 0 ⟨(l : ℕ) / 28 + 2, by omega⟩ ⟨(l : ℕ) % 28 + 3, by omega⟩) := by
  have e : (StableHlo.after (hostOps0.take 53) V (Proc.devRef .tc main_call0_v28) : Vec F S16x1x784 .f32)
      = shapeCast S16x1x784 (extractStridedSlice S16x28x28 ![0, 2, 3] (shapeCast S16x32x32 (V (Proc.devRef .tc main_arg0) : Vec F S16x1x32x32 .f32) shapeCasts_S16x1x32x32_S16x32x32) slices_S16x32x32_S16x28x28_0_2_3) shapeCasts_S16x28x28_S16x1x784 := by
    simp only [hostOps0, List.take_succ_cons, List.take_zero]
    after_results_simp
    rfl
  rw [e]
  exact piece_at _ 2 3 (by decide) (by decide) _ _ _ im l

theorem head_x14 (V : Valuation τ sig (Elt F)) (im : Fin 16) (l : Fin 784) :
    (StableHlo.after (hostOps0.take 53) V (Proc.devRef .tc main_call0_v30) : Vec F S16x1x784 .f32) (ix3 im 0 l)
      = (V (Proc.devRef .tc main_arg0) : Vec F S16x1x32x32 .f32) (ix4 im 0 ⟨(l : ℕ) / 28 + 2, by omega⟩ ⟨(l : ℕ) % 28 + 4, by omega⟩) := by
  have e : (StableHlo.after (hostOps0.take 53) V (Proc.devRef .tc main_call0_v30) : Vec F S16x1x784 .f32)
      = shapeCast S16x1x784 (extractStridedSlice S16x28x28 ![0, 2, 4] (shapeCast S16x32x32 (V (Proc.devRef .tc main_arg0) : Vec F S16x1x32x32 .f32) shapeCasts_S16x1x32x32_S16x32x32) slices_S16x32x32_S16x28x28_0_2_4) shapeCasts_S16x28x28_S16x1x784 := by
    simp only [hostOps0, List.take_succ_cons, List.take_zero]
    after_results_simp
    rfl
  rw [e]
  exact piece_at _ 2 4 (by decide) (by decide) _ _ _ im l

theorem head_x15 (V : Valuation τ sig (Elt F)) (im : Fin 16) (l : Fin 784) :
    (StableHlo.after (hostOps0.take 53) V (Proc.devRef .tc main_call0_v32) : Vec F S16x1x784 .f32) (ix3 im 0 l)
      = (V (Proc.devRef .tc main_arg0) : Vec F S16x1x32x32 .f32) (ix4 im 0 ⟨(l : ℕ) / 28 + 3, by omega⟩ ⟨(l : ℕ) % 28 + 0, by omega⟩) := by
  have e : (StableHlo.after (hostOps0.take 53) V (Proc.devRef .tc main_call0_v32) : Vec F S16x1x784 .f32)
      = shapeCast S16x1x784 (extractStridedSlice S16x28x28 ![0, 3, 0] (shapeCast S16x32x32 (V (Proc.devRef .tc main_arg0) : Vec F S16x1x32x32 .f32) shapeCasts_S16x1x32x32_S16x32x32) slices_S16x32x32_S16x28x28_0_3_0) shapeCasts_S16x28x28_S16x1x784 := by
    simp only [hostOps0, List.take_succ_cons, List.take_zero]
    after_results_simp
    rfl
  rw [e]
  exact piece_at _ 3 0 (by decide) (by decide) _ _ _ im l

theorem head_x16 (V : Valuation τ sig (Elt F)) (im : Fin 16) (l : Fin 784) :
    (StableHlo.after (hostOps0.take 53) V (Proc.devRef .tc main_call0_v34) : Vec F S16x1x784 .f32) (ix3 im 0 l)
      = (V (Proc.devRef .tc main_arg0) : Vec F S16x1x32x32 .f32) (ix4 im 0 ⟨(l : ℕ) / 28 + 3, by omega⟩ ⟨(l : ℕ) % 28 + 1, by omega⟩) := by
  have e : (StableHlo.after (hostOps0.take 53) V (Proc.devRef .tc main_call0_v34) : Vec F S16x1x784 .f32)
      = shapeCast S16x1x784 (extractStridedSlice S16x28x28 ![0, 3, 1] (shapeCast S16x32x32 (V (Proc.devRef .tc main_arg0) : Vec F S16x1x32x32 .f32) shapeCasts_S16x1x32x32_S16x32x32) slices_S16x32x32_S16x28x28_0_3_1) shapeCasts_S16x28x28_S16x1x784 := by
    simp only [hostOps0, List.take_succ_cons, List.take_zero]
    after_results_simp
    rfl
  rw [e]
  exact piece_at _ 3 1 (by decide) (by decide) _ _ _ im l

theorem head_x17 (V : Valuation τ sig (Elt F)) (im : Fin 16) (l : Fin 784) :
    (StableHlo.after (hostOps0.take 53) V (Proc.devRef .tc main_call0_v36) : Vec F S16x1x784 .f32) (ix3 im 0 l)
      = (V (Proc.devRef .tc main_arg0) : Vec F S16x1x32x32 .f32) (ix4 im 0 ⟨(l : ℕ) / 28 + 3, by omega⟩ ⟨(l : ℕ) % 28 + 2, by omega⟩) := by
  have e : (StableHlo.after (hostOps0.take 53) V (Proc.devRef .tc main_call0_v36) : Vec F S16x1x784 .f32)
      = shapeCast S16x1x784 (extractStridedSlice S16x28x28 ![0, 3, 2] (shapeCast S16x32x32 (V (Proc.devRef .tc main_arg0) : Vec F S16x1x32x32 .f32) shapeCasts_S16x1x32x32_S16x32x32) slices_S16x32x32_S16x28x28_0_3_2) shapeCasts_S16x28x28_S16x1x784 := by
    simp only [hostOps0, List.take_succ_cons, List.take_zero]
    after_results_simp
    rfl
  rw [e]
  exact piece_at _ 3 2 (by decide) (by decide) _ _ _ im l

theorem head_x18 (V : Valuation τ sig (Elt F)) (im : Fin 16) (l : Fin 784) :
    (StableHlo.after (hostOps0.take 53) V (Proc.devRef .tc main_call0_v38) : Vec F S16x1x784 .f32) (ix3 im 0 l)
      = (V (Proc.devRef .tc main_arg0) : Vec F S16x1x32x32 .f32) (ix4 im 0 ⟨(l : ℕ) / 28 + 3, by omega⟩ ⟨(l : ℕ) % 28 + 3, by omega⟩) := by
  have e : (StableHlo.after (hostOps0.take 53) V (Proc.devRef .tc main_call0_v38) : Vec F S16x1x784 .f32)
      = shapeCast S16x1x784 (extractStridedSlice S16x28x28 ![0, 3, 3] (shapeCast S16x32x32 (V (Proc.devRef .tc main_arg0) : Vec F S16x1x32x32 .f32) shapeCasts_S16x1x32x32_S16x32x32) slices_S16x32x32_S16x28x28_0_3_3) shapeCasts_S16x28x28_S16x1x784 := by
    simp only [hostOps0, List.take_succ_cons, List.take_zero]
    after_results_simp
    rfl
  rw [e]
  exact piece_at _ 3 3 (by decide) (by decide) _ _ _ im l

theorem head_x19 (V : Valuation τ sig (Elt F)) (im : Fin 16) (l : Fin 784) :
    (StableHlo.after (hostOps0.take 53) V (Proc.devRef .tc main_call0_v40) : Vec F S16x1x784 .f32) (ix3 im 0 l)
      = (V (Proc.devRef .tc main_arg0) : Vec F S16x1x32x32 .f32) (ix4 im 0 ⟨(l : ℕ) / 28 + 3, by omega⟩ ⟨(l : ℕ) % 28 + 4, by omega⟩) := by
  have e : (StableHlo.after (hostOps0.take 53) V (Proc.devRef .tc main_call0_v40) : Vec F S16x1x784 .f32)
      = shapeCast S16x1x784 (extractStridedSlice S16x28x28 ![0, 3, 4] (shapeCast S16x32x32 (V (Proc.devRef .tc main_arg0) : Vec F S16x1x32x32 .f32) shapeCasts_S16x1x32x32_S16x32x32) slices_S16x32x32_S16x28x28_0_3_4) shapeCasts_S16x28x28_S16x1x784 := by
    simp only [hostOps0, List.take_succ_cons, List.take_zero]
    after_results_simp
    rfl
  rw [e]
  exact piece_at _ 3 4 (by decide) (by decide) _ _ _ im l

theorem head_x20 (V : Valuation τ sig (Elt F)) (im : Fin 16) (l : Fin 784) :
    (StableHlo.after (hostOps0.take 53) V (Proc.devRef .tc main_call0_v42) : Vec F S16x1x784 .f32) (ix3 im 0 l)
      = (V (Proc.devRef .tc main_arg0) : Vec F S16x1x32x32 .f32) (ix4 im 0 ⟨(l : ℕ) / 28 + 4, by omega⟩ ⟨(l : ℕ) % 28 + 0, by omega⟩) := by
  have e : (StableHlo.after (hostOps0.take 53) V (Proc.devRef .tc main_call0_v42) : Vec F S16x1x784 .f32)
      = shapeCast S16x1x784 (extractStridedSlice S16x28x28 ![0, 4, 0] (shapeCast S16x32x32 (V (Proc.devRef .tc main_arg0) : Vec F S16x1x32x32 .f32) shapeCasts_S16x1x32x32_S16x32x32) slices_S16x32x32_S16x28x28_0_4_0) shapeCasts_S16x28x28_S16x1x784 := by
    simp only [hostOps0, List.take_succ_cons, List.take_zero]
    after_results_simp
    rfl
  rw [e]
  exact piece_at _ 4 0 (by decide) (by decide) _ _ _ im l

theorem head_x21 (V : Valuation τ sig (Elt F)) (im : Fin 16) (l : Fin 784) :
    (StableHlo.after (hostOps0.take 53) V (Proc.devRef .tc main_call0_v44) : Vec F S16x1x784 .f32) (ix3 im 0 l)
      = (V (Proc.devRef .tc main_arg0) : Vec F S16x1x32x32 .f32) (ix4 im 0 ⟨(l : ℕ) / 28 + 4, by omega⟩ ⟨(l : ℕ) % 28 + 1, by omega⟩) := by
  have e : (StableHlo.after (hostOps0.take 53) V (Proc.devRef .tc main_call0_v44) : Vec F S16x1x784 .f32)
      = shapeCast S16x1x784 (extractStridedSlice S16x28x28 ![0, 4, 1] (shapeCast S16x32x32 (V (Proc.devRef .tc main_arg0) : Vec F S16x1x32x32 .f32) shapeCasts_S16x1x32x32_S16x32x32) slices_S16x32x32_S16x28x28_0_4_1) shapeCasts_S16x28x28_S16x1x784 := by
    simp only [hostOps0, List.take_succ_cons, List.take_zero]
    after_results_simp
    rfl
  rw [e]
  exact piece_at _ 4 1 (by decide) (by decide) _ _ _ im l

theorem head_x22 (V : Valuation τ sig (Elt F)) (im : Fin 16) (l : Fin 784) :
    (StableHlo.after (hostOps0.take 53) V (Proc.devRef .tc main_call0_v46) : Vec F S16x1x784 .f32) (ix3 im 0 l)
      = (V (Proc.devRef .tc main_arg0) : Vec F S16x1x32x32 .f32) (ix4 im 0 ⟨(l : ℕ) / 28 + 4, by omega⟩ ⟨(l : ℕ) % 28 + 2, by omega⟩) := by
  have e : (StableHlo.after (hostOps0.take 53) V (Proc.devRef .tc main_call0_v46) : Vec F S16x1x784 .f32)
      = shapeCast S16x1x784 (extractStridedSlice S16x28x28 ![0, 4, 2] (shapeCast S16x32x32 (V (Proc.devRef .tc main_arg0) : Vec F S16x1x32x32 .f32) shapeCasts_S16x1x32x32_S16x32x32) slices_S16x32x32_S16x28x28_0_4_2) shapeCasts_S16x28x28_S16x1x784 := by
    simp only [hostOps0, List.take_succ_cons, List.take_zero]
    after_results_simp
    rfl
  rw [e]
  exact piece_at _ 4 2 (by decide) (by decide) _ _ _ im l

theorem head_x23 (V : Valuation τ sig (Elt F)) (im : Fin 16) (l : Fin 784) :
    (StableHlo.after (hostOps0.take 53) V (Proc.devRef .tc main_call0_v48) : Vec F S16x1x784 .f32) (ix3 im 0 l)
      = (V (Proc.devRef .tc main_arg0) : Vec F S16x1x32x32 .f32) (ix4 im 0 ⟨(l : ℕ) / 28 + 4, by omega⟩ ⟨(l : ℕ) % 28 + 3, by omega⟩) := by
  have e : (StableHlo.after (hostOps0.take 53) V (Proc.devRef .tc main_call0_v48) : Vec F S16x1x784 .f32)
      = shapeCast S16x1x784 (extractStridedSlice S16x28x28 ![0, 4, 3] (shapeCast S16x32x32 (V (Proc.devRef .tc main_arg0) : Vec F S16x1x32x32 .f32) shapeCasts_S16x1x32x32_S16x32x32) slices_S16x32x32_S16x28x28_0_4_3) shapeCasts_S16x28x28_S16x1x784 := by
    simp only [hostOps0, List.take_succ_cons, List.take_zero]
    after_results_simp
    rfl
  rw [e]
  exact piece_at _ 4 3 (by decide) (by decide) _ _ _ im l

theorem head_x24 (V : Valuation τ sig (Elt F)) (im : Fin 16) (l : Fin 784) :
    (StableHlo.after (hostOps0.take 53) V (Proc.devRef .tc main_call0_v50) : Vec F S16x1x784 .f32) (ix3 im 0 l)
      = (V (Proc.devRef .tc main_arg0) : Vec F S16x1x32x32 .f32) (ix4 im 0 ⟨(l : ℕ) / 28 + 4, by omega⟩ ⟨(l : ℕ) % 28 + 4, by omega⟩) := by
  have e : (StableHlo.after (hostOps0.take 53) V (Proc.devRef .tc main_call0_v50) : Vec F S16x1x784 .f32)
      = shapeCast S16x1x784 (extractStridedSlice S16x28x28 ![0, 4, 4] (shapeCast S16x32x32 (V (Proc.devRef .tc main_arg0) : Vec F S16x1x32x32 .f32) shapeCasts_S16x1x32x32_S16x32x32) slices_S16x32x32_S16x28x28_0_4_4) shapeCasts_S16x28x28_S16x1x784 := by
    simp only [hostOps0, List.take_succ_cons, List.take_zero]
    after_results_simp
    rfl
  rw [e]
  exact piece_at _ 4 4 (by decide) (by decide) _ _ _ im l

theorem pairL_at (A B : Vec F S16x16x784 .f32) (h) (im : Fin 16) (k : Fin 16) (l : Fin 784) :
    concatenate S16x32x784 1 [⟨S16x16x784, A⟩, ⟨S16x16x784, B⟩] h (ix3 im (k.castLE (by decide) : Fin 32) l) = A (ix3 im k l) := by
  refine concatenate_pair_apply_left 1 A B h _ rfl (ix3 im k l) ?_
  intro b
  fin_cases b <;> rfl

theorem pairR_at (A B : Vec F S16x16x784 .f32) (h) (im : Fin 16) (k : Fin 16) (l : Fin 784) :
    concatenate S16x32x784 1 [⟨S16x16x784, A⟩, ⟨S16x16x784, B⟩] h (ix3 im (⟨16 + (k : ℕ), by omega⟩ : Fin 32) l) = B (ix3 im k l) := by
  refine concatenate_pair_apply_right 1 A B h _ rfl rfl (ix3 im k l) ?_ ?_
  · intro b hb
    fin_cases b
    · rfl
    · exact absurd rfl hb
    · rfl
  · show (k : ℕ) + 16 = 16 + k
    omega

set_option maxHeartbeats 1600000 in
/-- The patches the region reads: entry `k` of the window at place `l` of image `im`. -/
theorem V_x_at (c : Dev nD) (im : Fin 16) (k : Fin 25) (l : Fin 784) :
    V m c main_call0_v54 (ix3 im (k.castLE (by decide) : Fin 32) l)
      = ax m c (ix4 im 0 ⟨(l : ℕ) / 28 + (k : ℕ) / 5, by omega⟩ ⟨(l : ℕ) % 28 + (k : ℕ) % 5, by omega⟩) := by
  rw [V_split, tail_x]
  fin_cases k
  · exact (pairL_at _ _ _ im 0 l).trans ((cat16_at _ _ _ _ _ _ _ _ _ _ _ _ _ _ _ _ _ im 0 l).trans (head_x0 (fun b => m (c, b)) im l))
  · exact (pairL_at _ _ _ im 1 l).trans ((cat16_at _ _ _ _ _ _ _ _ _ _ _ _ _ _ _ _ _ im 1 l).trans (head_x1 (fun b => m (c, b)) im l))
  · exact (pairL_at _ _ _ im 2 l).trans ((cat16_at _ _ _ _ _ _ _ _ _ _ _ _ _ _ _ _ _ im 2 l).trans (head_x2 (fun b => m (c, b)) im l))
  · exact (pairL_at _ _ _ im 3 l).trans ((cat16_at _ _ _ _ _ _ _ _ _ _ _ _ _ _ _ _ _ im 3 l).trans (head_x3 (fun b => m (c, b)) im l))
  · exact (pairL_at _ _ _ im 4 l).trans ((cat16_at _ _ _ _ _ _ _ _ _ _ _ _ _ _ _ _ _ im 4 l).trans (head_x4 (fun b => m (c, b)) im l))
  · exact (pairL_at _ _ _ im 5 l).trans ((cat16_at _ _ _ _ _ _ _ _ _ _ _ _ _ _ _ _ _ im 5 l).trans (head_x5 (fun b => m (c, b)) im l))
  · exact (pairL_at _ _ _ im 6 l).trans ((cat16_at _ _ _ _ _ _ _ _ _ _ _ _ _ _ _ _ _ im 6 l).trans (head_x6 (fun b => m (c, b)) im l))
  · exact (pairL_at _ _ _ im 7 l).trans ((cat16_at _ _ _ _ _ _ _ _ _ _ _ _ _ _ _ _ _ im 7 l).trans (head_x7 (fun b => m (c, b)) im l))
  · exact (pairL_at _ _ _ im 8 l).trans ((cat16_at _ _ _ _ _ _ _ _ _ _ _ _ _ _ _ _ _ im 8 l).trans (head_x8 (fun b => m (c, b)) im l))
  · exact (pairL_at _ _ _ im 9 l).trans ((cat16_at _ _ _ _ _ _ _ _ _ _ _ _ _ _ _ _ _ im 9 l).trans (head_x9 (fun b => m (c, b)) im l))
  · exact (pairL_at _ _ _ im 10 l).trans ((cat16_at _ _ _ _ _ _ _ _ _ _ _ _ _ _ _ _ _ im 10 l).trans (head_x10 (fun b => m (c, b)) im l))
  · exact (pairL_at _ _ _ im 11 l).trans ((cat16_at _ _ _ _ _ _ _ _ _ _ _ _ _ _ _ _ _ im 11 l).trans (head_x11 (fun b => m (c, b)) im l))
  · exact (pairL_at _ _ _ im 12 l).trans ((cat16_at _ _ _ _ _ _ _ _ _ _ _ _ _ _ _ _ _ im 12 l).trans (head_x12 (fun b => m (c, b)) im l))
  · exact (pairL_at _ _ _ im 13 l).trans ((cat16_at _ _ _ _ _ _ _ _ _ _ _ _ _ _ _ _ _ im 13 l).trans (head_x13 (fun b => m (c, b)) im l))
  · exact (pairL_at _ _ _ im 14 l).trans ((cat16_at _ _ _ _ _ _ _ _ _ _ _ _ _ _ _ _ _ im 14 l).trans (head_x14 (fun b => m (c, b)) im l))
  · exact (pairL_at _ _ _ im 15 l).trans ((cat16_at _ _ _ _ _ _ _ _ _ _ _ _ _ _ _ _ _ im 15 l).trans (head_x15 (fun b => m (c, b)) im l))
  · exact (pairR_at _ _ _ im 0 l).trans ((cat9_at _ _ _ _ _ _ _ _ _ _ _ im 0 l).trans (head_x16 (fun b => m (c, b)) im l))
  · exact (pairR_at _ _ _ im 1 l).trans ((cat9_at _ _ _ _ _ _ _ _ _ _ _ im 1 l).trans (head_x17 (fun b => m (c, b)) im l))
  · exact (pairR_at _ _ _ im 2 l).trans ((cat9_at _ _ _ _ _ _ _ _ _ _ _ im 2 l).trans (head_x18 (fun b => m (c, b)) im l))
  · exact (pairR_at _ _ _ im 3 l).trans ((cat9_at _ _ _ _ _ _ _ _ _ _ _ im 3 l).trans (head_x19 (fun b => m (c, b)) im l))
  · exact (pairR_at _ _ _ im 4 l).trans ((cat9_at _ _ _ _ _ _ _ _ _ _ _ im 4 l).trans (head_x20 (fun b => m (c, b)) im l))
  · exact (pairR_at _ _ _ im 5 l).trans ((cat9_at _ _ _ _ _ _ _ _ _ _ _ im 5 l).trans (head_x21 (fun b => m (c, b)) im l))
  · exact (pairR_at _ _ _ im 6 l).trans ((cat9_at _ _ _ _ _ _ _ _ _ _ _ im 6 l).trans (head_x22 (fun b => m (c, b)) im l))
  · exact (pairR_at _ _ _ im 7 l).trans ((cat9_at _ _ _ _ _ _ _ _ _ _ _ im 7 l).trans (head_x23 (fun b => m (c, b)) im l))
  · exact (pairR_at _ _ _ im 8 l).trans ((cat9_at _ _ _ _ _ _ _ _ _ _ _ im 8 l).trans (head_x24 (fun b => m (c, b)) im l))

end Cert.KernelIdeal.Hand
end
end
-- ==== Proof.KI.Result.lean ====
/- The region's result array: each block the trees of one group, read at an index from the argument arrays. -/
module

public import proofs.«01_k».proof.Proof.KI.Frame
public import Idealize.ShloMosaic.Lib.Claim
public import Idealize.ShloMosaic.Lib.WordSum
public import Idealize.ShloMosaic.Lib.Pipeline.ValueKit.Geometry
public import proofs.«01_k».proof.Proof.KI.Arrays
public import proofs.«01_k».proof.Proof.KI.Pays

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Words

/-- The block's address is the tree's, when the block's arrays are the tree's wires and tables. -/
theorem a2_tree (x0 : Vec F S16x32x784 .f32) (x1 : Vec F S576x6 .i32) (x2 : Vec F S96x6 .i32) (x3 : Vec F S16x6 .i32) (x4 : Vec F S576x64 .f32)
    (x5 : Vec F S96x64 .f32) (im tl : Fin 16) (l : Fin 784)
    (X : Fin 25 → F .f32) (w0 : Fin 36 → Fin 6 → BitVec 32) (t0 : Fin 36 → Fin 64 → F .f32)
    (w1 : Fin 6 → Fin 6 → BitVec 32) (t1 : Fin 6 → Fin 64 → F .f32) (w2 : Fin 6 → BitVec 32)
    (hx0 : ∀ k : Fin 25, x0 (ix3 im (k.castLE (by decide) : Fin 32) l) = X k)
    (hx1 : ∀ (n : Fin 36) j, x1 (ix2 (⟨36 * (tl : ℕ) + n, by omega⟩ : Fin 576) j) = w0 n j)
    (hx2 : ∀ (n : Fin 6) j, x2 (ix2 (⟨6 * (tl : ℕ) + n, by omega⟩ : Fin 96) j) = w1 n j)
    (hx3 : ∀ j, x3 (ix2 tl j) = w2 j)
    (hx4 : ∀ (n : Fin 36) j, x4 (ix2 (⟨36 * (tl : ℕ) + n, by omega⟩ : Fin 576) j) = t0 n j)
    (hx5 : ∀ (n : Fin 6) j, x5 (ix2 (⟨6 * (tl : ℕ) + n, by omega⟩ : Fin 96) j) = t1 n j) :
    a2 x0 x1 x2 x3 x4 x5 im tl l = tree (fun k => gt (X k)) w0 (fun n i => gt (t0 n i)) w1 (fun n i => gt (t1 n i)) w2 := by
  have e2 : ∀ j, q2 x3 tl j = ⟨6 * (tl : ℕ) + ixOf 6 (w2 j), by omega⟩ := fun j => Fin.ext (by
    show (tl : ℕ) * 6 + ixOf 6 (x3 (ix2 tl j)) = 6 * (tl : ℕ) + ixOf 6 (w2 j)
    rw [hx3]
    omega)
  have e1 : ∀ (n : Fin 6) i, q1 x2 ⟨6 * (tl : ℕ) + n, by omega⟩ i = ⟨36 * (tl : ℕ) + ixOf 36 (w1 n i), by omega⟩ := fun n i => Fin.ext (by
    show (6 * (tl : ℕ) + n) / 6 * 36 + ixOf 36 (x2 (ix2 _ i)) = 36 * (tl : ℕ) + ixOf 36 (w1 n i)
    rw [hx2]
    omega)
  have e0 : ∀ n : Fin 36, n0 x0 x1 x4 im l ⟨36 * (tl : ℕ) + n, by omega⟩ = gt (t0 n (node (fun k => gt (X k)) (w0 n))) := by
    intro n
    unfold n0 flags node
    rw [row_fin, hx4]
    have e : ∀ j, q0 x1 ⟨36 * (tl : ℕ) + n, by omega⟩ j = ixOf 25 (w0 n j) := fun j => congrArg (ixOf 25) (hx1 n j)
    simp only [e, hx0]
  have key : ∀ j, flags x5 (q2 x3 tl j) (adr fun i => n0 x0 x1 x4 im l (q1 x2 (q2 x3 tl j) i))
      = gt (t1 (ixOf 6 (w2 j)) (node (fun n => gt (t0 n (node (fun k => gt (X k)) (w0 n)))) (w1 (ixOf 6 (w2 j))))) := by
    intro j
    rw [e2]
    unfold flags
    rw [row_fin, hx5]
    have e : ∀ i, n0 x0 x1 x4 im l (q1 x2 ⟨6 * (tl : ℕ) + ixOf 6 (w2 j), by omega⟩ i)
        = gt (t0 (ixOf 36 (w1 (ixOf 6 (w2 j)) i)) (node (fun k => gt (X k)) (w0 (ixOf 36 (w1 (ixOf 6 (w2 j)) i))))) := by
      intro i
      rw [e1, e0]
    simp only [e]
    rfl
  exact congrArg adr (funext key)

variable (m : (ℓ : Loc nD τ sig) → Buf (Elt F) ℓ)

/-- The last address of tree `t` on patch `l` of image `im`, of the argument arrays. -/
def addr (c : Dev nD) (im : Fin 16) (t : Fin 64) (l : Fin 784) : Fin 64 :=
  tree (fun k : Fin 25 => gt (ax m c (ix4 im 0 ⟨(l : ℕ) / 28 + (k : ℕ) / 5, by omega⟩ ⟨(l : ℕ) % 28 + (k : ℕ) % 5, by omega⟩)))
    (fun n j => ai0 m c (ix3 t n j)) (fun n i => gt (al0 m c (ix3 t n i)))
    (fun n j => ai1 m c (ix3 t n j)) (fun n i => gt (al1 m c (ix3 t n i))) (fun j => ai2 m c (ix3 t 0 j))

/-- The region's result array. -/
def outArr (c : Dev nD) : Vec F S16x64x784 .f32 := fun y => al2 m c (ix3 (y 1) 0 (addr m c (y 0) (y 1) (y 2)))

/-! ### The blocks at coordinates -/

theorem index0 : ∀ t : Fin cfg0.N, win0_0.index t = ![0, 0, 0] := (by decide +kernel : ∀ t : Fin grid0.N, _)
theorem index1 : ∀ t : Fin cfg0.N, win0_1.index t = ![(t : ℕ), 0] := (by decide +kernel : ∀ t : Fin grid0.N, _)
theorem index2 : ∀ t : Fin cfg0.N, win0_2.index t = ![(t : ℕ), 0] := (by decide +kernel : ∀ t : Fin grid0.N, _)
theorem index3 : ∀ t : Fin cfg0.N, win0_3.index t = ![(t : ℕ), 0] := (by decide +kernel : ∀ t : Fin grid0.N, _)
theorem index4 : ∀ t : Fin cfg0.N, win0_4.index t = ![(t : ℕ), 0] := (by decide +kernel : ∀ t : Fin grid0.N, _)
theorem index5 : ∀ t : Fin cfg0.N, win0_5.index t = ![(t : ℕ), 0] := (by decide +kernel : ∀ t : Fin grid0.N, _)
theorem index6 : ∀ t : Fin cfg0.N, win0_6.index t = ![(t : ℕ), 0] := (by decide +kernel : ∀ t : Fin grid0.N, _)
theorem index7 : ∀ t : Fin cfg0.N, win0_7.index t = ![0, (t : ℕ), 0] := (by decide +kernel : ∀ t : Fin grid0.N, _)

theorem point_lt (t : Fin cfg0.N) : (t : ℕ) < 4 := lt_of_lt_of_eq t.isLt (by decide +kernel : grid0.N = 4)

theorem iblk0_at (c : Dev nD) (t : Fin cfg0.N) (im : Fin 16) (k : Fin 32) (l : Fin 784) :
    iblk m c 0 t (ix3 im k l) = V m c main_call0_v54 (ix3 im k l) := by
  blk_simp [iblk]
  refine congrArg (V m c main_call0_v54) ?_
  blk_ext [index0]

theorem iblk1_at (c : Dev nD) (t : Fin cfg0.N) (r : Fin 576) (j : Fin 6) :
    iblk m c 1 t (ix2 r j) = V m c main_call0_v55 (ix2 (⟨576 * (t : ℕ) + r, by have := point_lt t; omega⟩ : Fin 2304) j) := by
  blk_simp [iblk]
  refine congrArg (V m c main_call0_v55) ?_
  blk_ext [index1]

theorem iblk2_at (c : Dev nD) (t : Fin cfg0.N) (r : Fin 96) (j : Fin 6) :
    iblk m c 2 t (ix2 r j) = V m c main_call0_v56 (ix2 (⟨96 * (t : ℕ) + r, by have := point_lt t; omega⟩ : Fin 384) j) := by
  blk_simp [iblk]
  refine congrArg (V m c main_call0_v56) ?_
  blk_ext [index2]

theorem iblk3_at (c : Dev nD) (t : Fin cfg0.N) (r : Fin 16) (j : Fin 6) :
    iblk m c 3 t (ix2 r j) = V m c main_call0_v57 (ix2 (⟨16 * (t : ℕ) + r, by have := point_lt t; omega⟩ : Fin 64) j) := by
  blk_simp [iblk]
  refine congrArg (V m c main_call0_v57) ?_
  blk_ext [index3]

theorem iblk4_at (c : Dev nD) (t : Fin cfg0.N) (r : Fin 576) (j : Fin 64) :
    iblk m c 4 t (ix2 r j) = V m c main_call0_v58 (ix2 (⟨576 * (t : ℕ) + r, by have := point_lt t; omega⟩ : Fin 2304) j) := by
  blk_simp [iblk]
  refine congrArg (V m c main_call0_v58) ?_
  blk_ext [index4]

theorem iblk5_at (c : Dev nD) (t : Fin cfg0.N) (r : Fin 96) (j : Fin 64) :
    iblk m c 5 t (ix2 r j) = V m c main_call0_v59 (ix2 (⟨96 * (t : ℕ) + r, by have := point_lt t; omega⟩ : Fin 384) j) := by
  blk_simp [iblk]
  refine congrArg (V m c main_call0_v59) ?_
  blk_ext [index5]

theorem iblk6_at (c : Dev nD) (t : Fin cfg0.N) (r : Fin 16) (j : Fin 64) :
    iblk m c 6 t (ix2 r j) = V m c main_call0_v60 (ix2 (⟨16 * (t : ℕ) + r, by have := point_lt t; omega⟩ : Fin 64) j) := by
  blk_simp [iblk]
  refine congrArg (V m c main_call0_v60) ?_
  blk_ext [index6]

/-! ### The same, by tree -/

/-- Tree `tl` of group `t`. -/
def treeAt (t : Fin cfg0.N) (tl : Fin 16) : Fin 64 := ⟨16 * (t : ℕ) + tl, by have := point_lt t; omega⟩

theorem blk1_tree (c : Dev nD) (t : Fin cfg0.N) (tl : Fin 16) (n : Fin 36) (j : Fin 6) :
    iblk m c 1 t (ix2 (⟨36 * (tl : ℕ) + n, by omega⟩ : Fin 576) j) = ai0 m c (ix3 (treeAt t tl) n j) := by
  rw [iblk1_at, ← V_idx0_at]
  refine congrArg (fun r => V m c main_call0_v55 (ix2 r j)) (Fin.ext ?_)
  show 576 * (t : ℕ) + (36 * (tl : ℕ) + n) = 36 * (16 * (t : ℕ) + tl) + n
  omega

theorem blk2_tree (c : Dev nD) (t : Fin cfg0.N) (tl : Fin 16) (n : Fin 6) (j : Fin 6) :
    iblk m c 2 t (ix2 (⟨6 * (tl : ℕ) + n, by omega⟩ : Fin 96) j) = ai1 m c (ix3 (treeAt t tl) n j) := by
  rw [iblk2_at, ← V_idx1_at]
  refine congrArg (fun r => V m c main_call0_v56 (ix2 r j)) (Fin.ext ?_)
  show 96 * (t : ℕ) + (6 * (tl : ℕ) + n) = 6 * (16 * (t : ℕ) + tl) + n
  omega

theorem blk4_tree (c : Dev nD) (t : Fin cfg0.N) (tl : Fin 16) (n : Fin 36) (j : Fin 64) :
    iblk m c 4 t (ix2 (⟨36 * (tl : ℕ) + n, by omega⟩ : Fin 576) j) = al0 m c (ix3 (treeAt t tl) n j) := by
  rw [iblk4_at, ← V_lut0_at]
  refine congrArg (fun r => V m c main_call0_v58 (ix2 r j)) (Fin.ext ?_)
  show 576 * (t : ℕ) + (36 * (tl : ℕ) + n) = 36 * (16 * (t : ℕ) + tl) + n
  omega

theorem blk5_tree (c : Dev nD) (t : Fin cfg0.N) (tl : Fin 16) (n : Fin 6) (j : Fin 64) :
    iblk m c 5 t (ix2 (⟨6 * (tl : ℕ) + n, by omega⟩ : Fin 96) j) = al1 m c (ix3 (treeAt t tl) n j) := by
  rw [iblk5_at, ← V_lut1_at]
  refine congrArg (fun r => V m c main_call0_v59 (ix2 r j)) (Fin.ext ?_)
  show 96 * (t : ℕ) + (6 * (tl : ℕ) + n) = 6 * (16 * (t : ℕ) + tl) + n
  omega

theorem blk3_tree (c : Dev nD) (t : Fin cfg0.N) (tl : Fin 16) (j : Fin 6) :
    iblk m c 3 t (ix2 tl j) = ai2 m c (ix3 (treeAt t tl) 0 j) := by
  rw [iblk3_at, ← V_idx2_at]
  rfl

theorem blk6_tree (c : Dev nD) (t : Fin cfg0.N) (tl : Fin 16) (j : Fin 64) :
    iblk m c 6 t (ix2 tl j) = al2 m c (ix3 (treeAt t tl) 0 j) := by
  rw [iblk6_at, ← V_lut2_at]
  rfl

/-- The address of one tree of the group, from the blocks. -/
theorem a2_addr (c : Dev nD) (t : Fin cfg0.N) (im tl : Fin 16) (l : Fin 784) :
    a2 (iblk m c 0 t) (iblk m c 1 t) (iblk m c 2 t) (iblk m c 3 t) (iblk m c 4 t) (iblk m c 5 t) im tl l = addr m c im (treeAt t tl) l :=
  a2_tree (iblk m c 0 t) (iblk m c 1 t) (iblk m c 2 t) (iblk m c 3 t) (iblk m c 4 t) (iblk m c 5 t) im tl l _ _ _ _ _ _
    (fun k => (iblk0_at m c t im _ l).trans (V_x_at m c im k l))
    (fun n j => blk1_tree m c t tl n j) (fun n j => blk2_tree m c t tl n j) (fun j => blk3_tree m c t tl j)
    (fun n j => blk4_tree m c t tl n j) (fun n j => blk5_tree m c t tl n j)

/-- Every wire names one of its layer's inputs. -/
structure InRange (c : Dev nD) : Prop where
  h0 : ∀ t n j, (ai0 m c (ix3 t n j)).toNat < 25
  h1 : ∀ t n j, (ai1 m c (ix3 t n j)).toNat < 36
  h2 : ∀ t j, (ai2 m c (ix3 t 0 j)).toNat < 6

variable {m} in
theorem InRange.blk1 {c : Dev nD} (h : InRange m c) (t : Fin cfg0.N) (r : Fin 576) (j : Fin 6) :
    ((iblk m c 1 t (ix2 r j) : BitVec 32)).toNat < 25 := by
  have e : r = (⟨36 * ((⟨(r : ℕ) / 36, by omega⟩ : Fin 16) : ℕ) + ((⟨(r : ℕ) % 36, by omega⟩ : Fin 36) : ℕ), by dsimp only; omega⟩ : Fin 576) :=
    Fin.ext (by dsimp only; omega)
  rw [e, blk1_tree]
  exact h.h0 _ _ _

variable {m} in
theorem InRange.blk2 {c : Dev nD} (h : InRange m c) (t : Fin cfg0.N) (r : Fin 96) (j : Fin 6) :
    ((iblk m c 2 t (ix2 r j) : BitVec 32)).toNat < 36 := by
  have e : r = (⟨6 * ((⟨(r : ℕ) / 6, by omega⟩ : Fin 16) : ℕ) + ((⟨(r : ℕ) % 6, by omega⟩ : Fin 6) : ℕ), by dsimp only; omega⟩ : Fin 96) :=
    Fin.ext (by dsimp only; omega)
  rw [e, blk2_tree]
  exact h.h1 _ _ _

variable {m} in
theorem InRange.blk3 {c : Dev nD} (h : InRange m c) (t : Fin cfg0.N) (r : Fin 16) (j : Fin 6) :
    ((iblk m c 3 t (ix2 r j) : BitVec 32)).toNat < 6 := by
  rw [blk3_tree]
  exact h.h2 _ _

/-- What each grid point leaves in the result's block. -/
theorem outsAt0_eq (c : Dev nD) (h : InRange m c) (t : Fin cfg0.N) :
    outsAt0 m c t = blk (iblk m c 0 t) (iblk m c 1 t) (iblk m c 2 t) (iblk m c 3 t) (iblk m c 4 t) (iblk m c 5 t) (iblk m c 6 t) := by
  unfold outsAt0
  exact out_at (h1 := h.blk1 t) (h2 := h.blk2 t) (h3 := h.blk3 t) ..

/-- The region's result array, the last write of each element being the tree's bit. -/
theorem out_eq (c : Dev nD) (h : InRange m c) : (dats m 0 c).arrAt 7 cfg0.N = outArr m c := by
  refine (dats m 0 c).arrAt_eq_of_covers 7 (outArr m c) (by decide +kernel) fun t hf y => ?_
  rw [after0_7, outsAt0_eq m c h]
  obtain ⟨im, tl, l, rfl⟩ : ∃ (im : Fin 16) (tl : Fin 16) (l : Fin 784), y = (ix3 im tl l : S16x16x784.Idx) := ⟨y 0, y 1, y 2, by idx_vars y⟩
  have hy : (win0_7.blk t).view.emb (ix3 im tl l : S16x16x784.Idx) = (ix3 im (treeAt t tl) l : S16x64x784.Idx) := by
    blk_ext [index7]
    show (t : ℕ) * 16 + (tl : ℕ) = 16 * (t : ℕ) + tl
    omega
  refine Eq.trans ?_ (congrArg (outArr m c) hy).symm
  show iblk m c 6 t (ix2 tl (a2 (iblk m c 0 t) (iblk m c 1 t) (iblk m c 2 t) (iblk m c 3 t) (iblk m c 4 t) (iblk m c 5 t) im tl l)) = _
  rw [blk6_tree, a2_addr]
  rfl

end Cert.KernelIdeal.Hand
end
end
-- ==== Proof.KI.Run.lean ====
/- The run of the idealized kernel with its result named. -/
module

public import proofs.«01_k».proof.Proof.KI.Frame
public import Idealize.ShloMosaic.Lib.Claim
public import Idealize.ShloMosaic.Lib.WordSum
public import proofs.«01_k».proof.Proof.KI.Result
public import proofs.«01_k».proof.Proof.KI.Pays

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The program's result, the region's array given its two trailing axes. -/
def result (c : Dev nD) : Vec F S16x64x28x28 .f32 := shapeCast S16x64x28x28 (outArr m c) shapeCasts_S16x64x784_S16x64x28x28

theorem arrays_inj : Function.Injective (Pipeline.arrRef (cfgs 0).spec) := by decide

/-- The line after the region leaves the result's buffer at the region's array, reshaped. -/
theorem tail_eq (c : Dev nD) (h : InRange m c) :
    Pipeline.afterTail₀ cfgs (dats m) 0 (V0 m) [hostOps1] c main_v0 = result m c := by
  have e : Pipeline.withArrays (cfgs 0).spec c (V0 m c) (fun w => (dats m 0 c).arrAt w (cfgs 0).N) (Proc.devRef .tc main_call0_v61) = outArr m c :=
    (Pipeline.withArrays_arr (cfgs 0).spec arrays_inj c (V0 m c) (fun w => (dats m 0 c).arrAt w (cfgs 0).N) 7).trans (out_eq m c h)
  unfold Pipeline.afterTail₀
  simp only [List.flatten_cons, List.flatten_nil, List.append_nil, hostOps1]
  after_results_simp
  rw [e]
  rfl

theorem result_rest : main_v0 ∈ Pipeline.restRefs sig spec0 := Pipeline.mem_restRefs_of _ (by decide) (by decide)

/-- The run with its result named, the arguments unchanged. -/
theorem run_value (h : ∀ c, InRange m c) : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => by
    have key : ∀ b ∈ argRefs, r.2.mem ((c.tc : Thread nD τ).loc b) = m ((c.tc : Thread nD τ).loc b) :=
      fun b hb => ((hr c).2 b (args_rest b hb)).trans (W_arg m (dats m) c b hb)
    exact ⟨((hr c).2 main_v0 result_rest).trans (tail_eq m c (h c)), key _ (by decide), key _ (by decide), key _ (by decide), key _ (by decide),
      key _ (by decide), key _ (by decide), key _ (by decide)⟩) (run_main m ρ)

end Cert.KernelIdeal.Hand
end
end
-- ==== Proof.Frames.lean ====
/- The reference's frame: its run is the generated one, and it declares no semaphore. -/
module

public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.ReferenceIdeal.Hand

open Idealize.ShloMosaic Idealize.SL.Sem Cert.ReferenceIdeal

variable {F : FTy → Type} [FloatOps F]

/-- The reference runs, its arguments end as launched, and every semaphore counter is zero again. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩)
    (Cert.ReferenceIdeal.Value.run m ρ)

end Cert.ReferenceIdeal.Hand

end
-- ==== Proof.Gathers.lean ====
/- The two gathers a lookup in plain array code lowers to, read at an index; the words of an index; a node's address summed. -/
module

public import proofs.«01_k».proof.Proof.Words
public import Idealize.ShloMosaic.Lib.Pointwise
public import Idealize.ShloMosaic.Lib.ValueIdxCore

@[expose] public section

noncomputable section

namespace Cert.Gathers

open Idealize.ShloMosaic Idealize.ShloMosaic.TcCoe Cert.Words

/-! ### Words of an index -/

theorem toInt_index (a : ℕ) (h : a < 2 ^ 31) : (BitVec.ofNat 32 a).toInt = (a : ℤ) := by
  have e : (BitVec.ofNat 32 a).toNat = a := by
    rw [BitVec.toNat_ofNat]
    omega
  rw [BitVec.toInt_eq_toNat_of_lt (by omega), e]

theorem ofNat_toInt (a : ℕ) (h : a < 2 ^ 31) : (BitVec.ofNat 32 a).toInt.toNat = a := by
  rw [toInt_index a h]
  omega

/-- An index that is not negative is left as it is by the wrap of negative ones. -/
theorem wrap_ofNat (a : ℕ) (h : a < 2 ^ 31) (n : BitVec 32) :
    Scalar.select (IntOp.cmpi .slt (BitVec.ofNat 32 a) 0#32) (IntOp.addi (BitVec.ofNat 32 a) n) (BitVec.ofNat 32 a) = BitVec.ofNat 32 a := by
  have hs : ¬ (BitVec.ofNat 32 a).slt 0#32 = true := by
    rw [BitVec.slt_iff_toInt_lt, toInt_index a h]
    simp
  simp [Scalar.select, IntOp.cmpi, hs]

/-- The same of a word in range, as the index it names. -/
theorem wrap_word (K : ℕ) [NeZero K] (w : BitVec 32) (h : w.toNat < K) (hK : K ≤ 2 ^ 31) (n : BitVec 32) :
    Scalar.select (IntOp.cmpi .slt w 0#32) (IntOp.addi w n) w = BitVec.ofNat 32 (ixOf K w : ℕ) := by
  have e := wrap_ofNat (ixOf K w : ℕ) (lt_of_lt_of_le (ixOf K w).isLt hK) n
  rw [ofNat_ixOf K w h] at e ⊢
  exact e

/-! ### A gather of single elements at triples -/

section Triple
variable {α : Type} {N0 N1 N2 P T J : ℕ}

/-- Its dimension numbers. -/
abbrev tripleDims (N0 N1 N2 P T J : ℕ)
    (wf : GatherDims.WF ⟨3, ![N0, N1, N2]⟩ ⟨4, ![P, T, J, 3]⟩ ⟨3, ![P, T, J]⟩ [] [0, 1, 2] [] [0, 1, 2] [] 3 ![1, 1, 1]) :
    GatherDims ⟨3, ![N0, N1, N2]⟩ ⟨4, ![P, T, J, 3]⟩ ⟨3, ![P, T, J]⟩ where
  offsetDims := []
  collapsedSliceDims := [0, 1, 2]
  operandBatchingDims := []
  startIndicesBatchingDims := []
  startIndexMap := [0, 1, 2]
  indexVectorDim := 3
  sliceSizes := ![1, 1, 1]
  wf := wf

theorem gather_triple (wf : GatherDims.WF ⟨3, ![N0, N1, N2]⟩ ⟨4, ![P, T, J, 3]⟩ ⟨3, ![P, T, J]⟩ [] [0, 1, 2] [] [0, 1, 2] [] 3 ![1, 1, 1])
    (x : (⟨3, ![N0, N1, N2]⟩ : Shape).Idx → α) (idx : IVec ⟨4, ![P, T, J, 3]⟩ 32) (p : Fin P) (t : Fin T) (j : Fin J)
    (a : Fin N0) (b : Fin N1) (c : Fin N2) (h0 : N0 ≤ 2 ^ 31) (h1 : N1 ≤ 2 ^ 31) (h2 : N2 ≤ 2 ^ 31)
    (ha : idx (ix4 p t j 0) = BitVec.ofNat 32 a) (hb : idx (ix4 p t j 1) = BitVec.ofNat 32 b) (hc : idx (ix4 p t j 2) = BitVec.ofNat 32 c) :
    Host.gather (tripleDims N0 N1 N2 P T J wf) x idx (ix3 p t j) = x (ix3 a b c) := by
  have hoff : ∀ k, (tripleDims N0 N1 N2 P T J wf).offCoord (ix3 p t j) k = 0 := fun k =>
    GatherDims.offCoord_eq_zero _ _ _ (fun h => ((GatherDims.mem_sKept _ _).mp h).1 (by
      match k with
      | ⟨0, _⟩ => simp
      | ⟨1, _⟩ => simp
      | ⟨2, _⟩ => simp))
  have hbat : ∀ k, (tripleDims N0 N1 N2 P T J wf).batchCoord (ix3 p t j) k = 0 := fun k =>
    GatherDims.batchCoord_eq_zero _ _ _ List.not_mem_nil
  have hsi : ∀ q : Fin 3, (tripleDims N0 N1 N2 P T J wf).siIdx (ix3 p t j) q = ix4 p t j q := by
    intro q
    funext k
    refine Fin.ext ?_
    match k with
    | ⟨0, _⟩ => rfl
    | ⟨1, _⟩ => rfl
    | ⟨2, _⟩ => rfl
    | ⟨3, _⟩ => rfl
  unfold Host.gather
  congr 1
  funext k
  refine Fin.ext ?_
  show (tripleDims N0 N1 N2 P T J wf).start (ix3 p t j) idx k + (tripleDims N0 N1 N2 P T J wf).batchCoord (ix3 p t j) k
      + (tripleDims N0 N1 N2 P T J wf).offCoord (ix3 p t j) k = _
  rw [hoff, hbat]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  unfold GatherDims.start
  rcases hk with rfl | rfl | rfl
  · rw [dif_pos (show (0 : Fin 3) ∈ (tripleDims N0 N1 N2 P T J wf).startIndexMap by simp)]
    show min (idx ((tripleDims N0 N1 N2 P T J wf).siIdx (ix3 p t j) (0 : Fin 3))).toInt.toNat (N0 - 1) + 0 + 0 = (a : ℕ)
    rw [hsi, ha, ofNat_toInt _ (by omega)]
    omega
  · rw [dif_pos (show (1 : Fin 3) ∈ (tripleDims N0 N1 N2 P T J wf).startIndexMap by simp)]
    show min (idx ((tripleDims N0 N1 N2 P T J wf).siIdx (ix3 p t j) (1 : Fin 3))).toInt.toNat (N1 - 1) + 0 + 0 = (b : ℕ)
    rw [hsi, hb, ofNat_toInt _ (by omega)]
    omega
  · rw [dif_pos (show (2 : Fin 3) ∈ (tripleDims N0 N1 N2 P T J wf).startIndexMap by simp)]
    show min (idx ((tripleDims N0 N1 N2 P T J wf).siIdx (ix3 p t j) (2 : Fin 3))).toInt.toNat (N2 - 1) + 0 + 0 = (c : ℕ)
    rw [hsi, hc, ofNat_toInt _ (by omega)]
    omega

end Triple

/-! ### A gather of columns -/

section Column
variable {α : Type} {P K T J : ℕ}

/-- Its dimension numbers. -/
abbrev columnDims (P K T J : ℕ)
    (wf : GatherDims.WF ⟨2, ![P, K]⟩ ⟨3, ![T, J, 1]⟩ ⟨3, ![P, T, J]⟩ [0] [1] [] [1] [] 2 ![P, 1]) :
    GatherDims ⟨2, ![P, K]⟩ ⟨3, ![T, J, 1]⟩ ⟨3, ![P, T, J]⟩ where
  offsetDims := [0]
  collapsedSliceDims := [1]
  operandBatchingDims := []
  startIndicesBatchingDims := []
  startIndexMap := [1]
  indexVectorDim := 2
  sliceSizes := ![P, 1]
  wf := wf

theorem gather_column (wf : GatherDims.WF ⟨2, ![P, K]⟩ ⟨3, ![T, J, 1]⟩ ⟨3, ![P, T, J]⟩ [0] [1] [] [1] [] 2 ![P, 1])
    (x : (⟨2, ![P, K]⟩ : Shape).Idx → α) (idx : IVec ⟨3, ![T, J, 1]⟩ 32) (p : Fin P) (t : Fin T) (j : Fin J)
    (k : Fin K) (h1 : K ≤ 2 ^ 31) (hk : idx (ix3 t j 0) = BitVec.ofNat 32 k) :
    Host.gather (columnDims P K T J wf) x idx (ix3 p t j) = x (ix2 p k) := by
  have hsi : (columnDims P K T J wf).siIdx (ix3 p t j) (0 : Fin 1) = ix3 t j 0 := by
    funext k
    refine Fin.ext ?_
    match k with
    | ⟨0, _⟩ => rfl
    | ⟨1, _⟩ => rfl
    | ⟨2, _⟩ => rfl
  unfold Host.gather
  congr 1
  funext q
  refine Fin.ext ?_
  show (columnDims P K T J wf).start (ix3 p t j) idx q + (columnDims P K T J wf).batchCoord (ix3 p t j) q
      + (columnDims P K T J wf).offCoord (ix3 p t j) q = _
  rw [GatherDims.batchCoord_eq_zero _ _ _ List.not_mem_nil]
  have hq : q = 0 ∨ q = 1 := by
    match q with
    | ⟨0, _⟩ => exact Or.inl rfl
    | ⟨1, _⟩ => exact Or.inr rfl
  rcases hq with rfl | rfl
  · unfold GatherDims.start
    rw [dif_neg (show (0 : Fin 2) ∉ (columnDims P K T J wf).startIndexMap by simp)]
    unfold GatherDims.offCoord
    rw [dif_pos ((GatherDims.mem_sKept _ _).mpr ⟨by simp, List.not_mem_nil⟩)]
    show 0 + 0 + (p : ℕ) = p
    omega
  · rw [GatherDims.offCoord_eq_zero _ _ _ (fun h => ((GatherDims.mem_sKept _ _).mp h).1 (by simp))]
    unfold GatherDims.start
    rw [dif_pos (show (1 : Fin 2) ∈ (columnDims P K T J wf).startIndexMap by simp)]
    show min (idx ((columnDims P K T J wf).siIdx (ix3 p t j) (0 : Fin 1))).toInt.toNat (K - 1) + 0 + 0 = (k : ℕ)
    rw [hsi, hk, ofNat_toInt _ (by omega)]
    omega

end Column

/-! ### A node's address -/

/-- The weighted sum of six flags, as words. -/
theorem sum_flags (b : Fin 6 → BitVec 1) :
    IntOp.addi (IntOp.addi (IntOp.addi (IntOp.addi (IntOp.addi (IntOp.addi 0#32 (IntOp.muli ((b 0).setWidth 32) 1#32)) (IntOp.muli ((b 1).setWidth 32) 2#32))
      (IntOp.muli ((b 2).setWidth 32) 4#32)) (IntOp.muli ((b 3).setWidth 32) 8#32)) (IntOp.muli ((b 4).setWidth 32) 16#32)) (IntOp.muli ((b 5).setWidth 32) 32#32)
      = BitVec.ofNat 32 (adr b : ℕ) := by
  show _ = BitVec.ofNat 32 (adrN b)
  unfold adrN
  rw [Fin.sum_univ_six]
  generalize b 0 = b0
  generalize b 1 = b1
  generalize b 2 = b2
  generalize b 3 = b3
  generalize b 4 = b4
  generalize b 5 = b5
  revert b0 b1 b2 b3 b4 b5
  decide +kernel

end Cert.Gathers
end
end
-- ==== Proof.RefLayers.lean ====
/- The reference of the lookup trees, its layers read at an index: each wire a gather, each node a sum of six flags and a gather. -/
module

public import proofs.«01_k».proof.Proof.Gen.ReferenceIdeal.Run
public import proofs.«01_k».proof.Proof.Gathers
public import Idealize.ShloMosaic.Lib.Pointwise
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Words Cert.Gathers

variable {F : FTy → Type} [FloatOps F]

/-- The flag of an element. -/
def pos (x : F .f32) : BitVec 1 := FloatOps.cmpf .ogt x (Scalar.ofBits .f32 0x00000000#32)

variable (V0 : Valuation τ sig (Elt F))

/-! ### The arguments -/

abbrev bx : Vec F S16x1x32x32 .f32 := V0 (Proc.devRef .tc main_arg0)
abbrev bi0 : Vec F S64x36x6 .i32 := V0 (Proc.devRef .tc main_arg1)
abbrev bi1 : Vec F S64x6x6 .i32 := V0 (Proc.devRef .tc main_arg2)
abbrev bi2 : Vec F S64x1x6 .i32 := V0 (Proc.devRef .tc main_arg3)
abbrev bl0 : Vec F S64x36x64 .f32 := V0 (Proc.devRef .tc main_arg4)
abbrev bl1 : Vec F S64x6x64 .f32 := V0 (Proc.devRef .tc main_arg5)
abbrev bl2 : Vec F S64x1x64 .f32 := V0 (Proc.devRef .tc main_arg6)

/-! ### Layer 0 -/

theorem v86_at (t : Fin 64) (n : Fin 36) : (res_main_v86 V0 : IVec S64x36 32) (ix2 t n) = bi0 V0 (ix3 t n 0) := by
  unfold res_main_v86
  pointwise
  try rfl

theorem v98_at (t : Fin 64) (n : Fin 36) : (res_main_v98 V0 : IVec S64x36 32) (ix2 t n) = bi0 V0 (ix3 t n 1) := by
  unfold res_main_v98
  pointwise
  try rfl

theorem v110_at (t : Fin 64) (n : Fin 36) : (res_main_v110 V0 : IVec S64x36 32) (ix2 t n) = bi0 V0 (ix3 t n 2) := by
  unfold res_main_v110
  pointwise
  try rfl

theorem v122_at (t : Fin 64) (n : Fin 36) : (res_main_v122 V0 : IVec S64x36 32) (ix2 t n) = bi0 V0 (ix3 t n 3) := by
  unfold res_main_v122
  pointwise
  try rfl

theorem v134_at (t : Fin 64) (n : Fin 36) : (res_main_v134 V0 : IVec S64x36 32) (ix2 t n) = bi0 V0 (ix3 t n 4) := by
  unfold res_main_v134
  pointwise
  try rfl

theorem v146_at (t : Fin 64) (n : Fin 36) : (res_main_v146 V0 : IVec S64x36 32) (ix2 t n) = bi0 V0 (ix3 t n 5) := by
  unfold res_main_v146
  pointwise
  try rfl

/-- One wire of layer 0 picks its position's flag. -/
theorem wire0 (X : IVec S12544x25 32) (w : IVec S64x36 32) (p : Fin 12544) (t : Fin 64) (n : Fin 36) (h : (w (ix2 t n)).toNat < 25) :
    Host.gather gather_S12544x25_S64x36x1_S12544x64x36_0_1_n_n_1_2_125441 X
      (broadcastInDim S64x36x1 ![0, 1] bcast_S64x36_S64x36x1_0_1
        (select (cmpi .slt w (broadcastInDim S64x36 ![] bcast_S_S64x36 (constantI S_ 32 0#32)))
          (addi w (broadcastInDim S64x36 ![] bcast_S_S64x36 (constantI S_ 32 25#32))) w)) (ix3 p t n)
      = X (ix2 p (ixOf 25 (w (ix2 t n)))) := by
  refine gather_column gather_S12544x25_S64x36x1_S12544x64x36_0_1_n_n_1_2_125441_wf X _ p t n (ixOf 25 (w (ix2 t n))) (by decide) ?_
  pointwise
  exact wrap_word 25 _ h (by decide) _

/-- The address of a node of layer 0. -/
theorem v156_at (p : Fin 12544) (t : Fin 64) (n : Fin 36) (b : Fin 25 → BitVec 1)
    (hb : ∀ k, (res_main_v83 V0 : IVec S12544x25 32) (ix2 p k) = (b k).setWidth 32)
    (h : ∀ j, (bi0 V0 (ix3 t n j) : BitVec 32).toNat < 25) :
    (res_main_v156 V0 : IVec S12544x64x36 32) (ix3 p t n) = BitVec.ofNat 32 (node b (fun j => bi0 V0 (ix3 t n j)) : ℕ) := by
  have e := sum_flags fun j => b (ixOf 25 (bi0 V0 (ix3 t n j)))
  unfold res_main_v156
  pointwise
  rw [wire0 (res_main_v83 V0) (res_main_v86 V0) p t n (by rw [v86_at]; exact h 0), v86_at, hb]
  rw [wire0 (res_main_v83 V0) (res_main_v98 V0) p t n (by rw [v98_at]; exact h 1), v98_at, hb]
  rw [wire0 (res_main_v83 V0) (res_main_v110 V0) p t n (by rw [v110_at]; exact h 2), v110_at, hb]
  rw [wire0 (res_main_v83 V0) (res_main_v122 V0) p t n (by rw [v122_at]; exact h 3), v122_at, hb]
  rw [wire0 (res_main_v83 V0) (res_main_v134 V0) p t n (by rw [v134_at]; exact h 4), v134_at, hb]
  rw [wire0 (res_main_v83 V0) (res_main_v146 V0) p t n (by rw [v146_at]; exact h 5), v146_at, hb]
  exact e

theorem v158_at (t : Fin 64) : (res_main_v158 V0 : IVec S1x64x1 32) (ix3 0 t 0) = BitVec.ofNat 32 (t : ℕ) := by
  unfold res_main_v158
  pointwise
  try rfl

theorem v160_at (n : Fin 36) : (res_main_v160 V0 : IVec S1x1x36 32) (ix3 0 0 n) = BitVec.ofNat 32 (n : ℕ) := by
  unfold res_main_v160
  pointwise
  try rfl

/-- The output of a node of layer 0. -/
theorem v185_at (p : Fin 12544) (t : Fin 64) (n : Fin 36) (a : Fin 64)
    (ha : (res_main_v156 V0 : IVec S12544x64x36 32) (ix3 p t n) = BitVec.ofNat 32 (a : ℕ)) :
    (res_main_v185 V0 : IVec S12544x64x36 32) (ix3 p t n) = (pos (bl0 V0 (ix3 t n a))).setWidth 32 := by
  unfold res_main_v185
  pointwise
  refine (congrArg (fun z : F .f32 => (pos z).setWidth 32) ?_ : (pos _).setWidth 32 = _)
  refine gather_triple gather_S64x36x64_S12544x64x36x3_S12544x64x36_n_012_n_n_012_3_111_wf _ _ p t n t n a (by decide) (by decide) (by decide) ?_ ?_ ?_
  · pointwise
    rw [v158_at]
    exact wrap_ofNat _ (by omega) _
  · pointwise
    rw [v160_at]
    exact wrap_ofNat _ (by omega) _
  · pointwise
    rw [ha]
    exact wrap_ofNat _ (by omega) _

/-! ### Layer 1 -/

theorem v193_at (t : Fin 64) (n : Fin 6) : (res_main_v193 V0 : IVec S1x64x6 32) (ix3 0 t n) = bi1 V0 (ix3 t n 0) := by
  unfold res_main_v193
  pointwise
  try rfl

theorem v222_at (t : Fin 64) (n : Fin 6) : (res_main_v222 V0 : IVec S1x64x6 32) (ix3 0 t n) = bi1 V0 (ix3 t n 1) := by
  unfold res_main_v222
  pointwise
  try rfl

theorem v251_at (t : Fin 64) (n : Fin 6) : (res_main_v251 V0 : IVec S1x64x6 32) (ix3 0 t n) = bi1 V0 (ix3 t n 2) := by
  unfold res_main_v251
  pointwise
  try rfl

theorem v280_at (t : Fin 64) (n : Fin 6) : (res_main_v280 V0 : IVec S1x64x6 32) (ix3 0 t n) = bi1 V0 (ix3 t n 3) := by
  unfold res_main_v280
  pointwise
  try rfl

theorem v309_at (t : Fin 64) (n : Fin 6) : (res_main_v309 V0 : IVec S1x64x6 32) (ix3 0 t n) = bi1 V0 (ix3 t n 4) := by
  unfold res_main_v309
  pointwise
  try rfl

theorem v338_at (t : Fin 64) (n : Fin 6) : (res_main_v338 V0 : IVec S1x64x6 32) (ix3 0 t n) = bi1 V0 (ix3 t n 5) := by
  unfold res_main_v338
  pointwise
  try rfl

theorem v187_at (p : Fin 12544) : (res_main_v187 V0 : IVec S12544x1x1 32) (ix3 p 0 0) = BitVec.ofNat 32 (p : ℕ) := by
  unfold res_main_v187
  pointwise
  try rfl

theorem v189_at (t : Fin 64) : (res_main_v189 V0 : IVec S1x64x1 32) (ix3 0 t 0) = BitVec.ofNat 32 (t : ℕ) := by
  unfold res_main_v189
  pointwise
  try rfl

theorem v366_at (n : Fin 6) : (res_main_v366 V0 : IVec S1x1x6 32) (ix3 0 0 n) = BitVec.ofNat 32 (n : ℕ) := by
  unfold res_main_v366
  pointwise
  try rfl

/-- One wire of layer 1 picks its node's output. -/
theorem wire1 (X : IVec S12544x64x36 32) (w : IVec S1x64x6 32) (p : Fin 12544) (t : Fin 64) (n : Fin 6) (h : (w (ix3 0 t n)).toNat < 36) :
    (Host.gather gather_S12544x64x36_S12544x64x6x3_S12544x64x6_n_012_n_n_012_3_111 X ((concatenate S12544x64x6x3 3 [⟨S12544x64x6x1, ((broadcastInDim S12544x64x6x1 ![0, 1, 2] bcast_S12544x64x6_S12544x64x6x1_0_1_2 (broadcastInDim S12544x64x6 ![0, 1, 2] bcast_S12544x1x1_S12544x64x6_0_1_2 (select (cmpi .slt (res_main_v187 V0) (broadcastInDim S12544x1x1 ![] bcast_S_S12544x1x1 (constantI S_ 32 0#32))) (addi (res_main_v187 V0) (broadcastInDim S12544x1x1 ![] bcast_S_S12544x1x1 (constantI S_ 32 12544#32))) (res_main_v187 V0)))) : (⟨S12544x64x6x1, .i32⟩ : BufTy).Contents (Elt F))⟩, ⟨S12544x64x6x1, ((broadcastInDim S12544x64x6x1 ![0, 1, 2] bcast_S12544x64x6_S12544x64x6x1_0_1_2 (broadcastInDim S12544x64x6 ![0, 1, 2] bcast_S1x64x1_S12544x64x6_0_1_2 (select (cmpi .slt (res_main_v189 V0) (broadcastInDim S1x64x1 ![] bcast_S_S1x64x1 (constantI S_ 32 0#32))) (addi (res_main_v189 V0) (broadcastInDim S1x64x1 ![] bcast_S_S1x64x1 (constantI S_ 32 64#32))) (res_main_v189 V0)))) : (⟨S12544x64x6x1, .i32⟩ : BufTy).Contents (Elt F))⟩, ⟨S12544x64x6x1, ((broadcastInDim S12544x64x6x1 ![0, 1, 2] bcast_S12544x64x6_S12544x64x6x1_0_1_2 (broadcastInDim S12544x64x6 ![0, 1, 2] bcast_S1x64x6_S12544x64x6_0_1_2 (select (cmpi .slt w (broadcastInDim S1x64x6 ![] bcast_S_S1x64x6 (constantI S_ 32 0#32))) (addi w (broadcastInDim S1x64x6 ![] bcast_S_S1x64x6 (constantI S_ 32 36#32))) w))) : (⟨S12544x64x6x1, .i32⟩ : BufTy).Contents (Elt F))⟩] concatenates_S12544x64x6x1_S12544x64x6x1_S12544x64x6x1_S12544x64x6x3_d3 : (⟨S12544x64x6x3, .i32⟩ : BufTy).Contents (Elt F)))) (ix3 p t n)
      = X (ix3 p t (ixOf 36 (w (ix3 0 t n)))) := by
  refine gather_triple gather_S12544x64x36_S12544x64x6x3_S12544x64x6_n_012_n_n_012_3_111_wf _ _ p t n p t (ixOf 36 (w (ix3 0 t n))) (by decide) (by decide) (by decide) ?_ ?_ ?_
  · pointwise
    rw [v187_at]
    exact wrap_ofNat _ (by omega) _
  · pointwise
    rw [v189_at]
    exact wrap_ofNat _ (by omega) _
  · pointwise
    exact wrap_word 36 _ h (by decide) _

/-- The address of a node of layer 1. -/
theorem v364_at (p : Fin 12544) (t : Fin 64) (n : Fin 6) (b : Fin 36 → BitVec 1)
    (hb : ∀ k, (res_main_v185 V0 : IVec S12544x64x36 32) (ix3 p t k) = (b k).setWidth 32)
    (h : ∀ j, (bi1 V0 (ix3 t n j) : BitVec 32).toNat < 36) :
    (res_main_v364 V0 : IVec S12544x64x6 32) (ix3 p t n) = BitVec.ofNat 32 (node b (fun j => bi1 V0 (ix3 t n j)) : ℕ) := by
  have e := sum_flags fun j => b (ixOf 36 (bi1 V0 (ix3 t n j)))
  unfold res_main_v364
  pointwise
  unfold res_main_v277
  pointwise
  rw [wire1 V0 (res_main_v185 V0) (res_main_v193 V0) p t n (by rw [v193_at]; exact h 0), v193_at, hb]
  rw [wire1 V0 (res_main_v185 V0) (res_main_v222 V0) p t n (by rw [v222_at]; exact h 1), v222_at, hb]
  rw [wire1 V0 (res_main_v185 V0) (res_main_v251 V0) p t n (by rw [v251_at]; exact h 2), v251_at, hb]
  rw [wire1 V0 (res_main_v185 V0) (res_main_v280 V0) p t n (by rw [v280_at]; exact h 3), v280_at, hb]
  rw [wire1 V0 (res_main_v185 V0) (res_main_v309 V0) p t n (by rw [v309_at]; exact h 4), v309_at, hb]
  rw [wire1 V0 (res_main_v185 V0) (res_main_v338 V0) p t n (by rw [v338_at]; exact h 5), v338_at, hb]
  exact e

/-- The output of a node of layer 1. -/
theorem v391_at (p : Fin 12544) (t : Fin 64) (n : Fin 6) (a : Fin 64)
    (ha : (res_main_v364 V0 : IVec S12544x64x6 32) (ix3 p t n) = BitVec.ofNat 32 (a : ℕ)) :
    (res_main_v391 V0 : IVec S12544x64x6 32) (ix3 p t n) = (pos (bl1 V0 (ix3 t n a))).setWidth 32 := by
  unfold res_main_v391
  pointwise
  refine (congrArg (fun z : F .f32 => (pos z).setWidth 32) ?_ : (pos _).setWidth 32 = _)
  refine gather_triple gather_S64x6x64_S12544x64x6x3_S12544x64x6_n_012_n_n_012_3_111_wf _ _ p t n t n a (by decide) (by decide) (by decide) ?_ ?_ ?_
  · pointwise
    rw [v189_at]
    exact wrap_ofNat _ (by omega) _
  · pointwise
    rw [v366_at]
    exact wrap_ofNat _ (by omega) _
  · pointwise
    rw [ha]
    exact wrap_ofNat _ (by omega) _

/-! ### Layer 2 -/

theorem v399_at (t : Fin 64) (n : Fin 1) : (res_main_v399 V0 : IVec S1x64x1 32) (ix3 0 t n) = bi2 V0 (ix3 t n 0) := by
  obtain rfl : n = 0 := Subsingleton.elim _ _
  unfold res_main_v399
  pointwise
  try rfl

theorem v428_at (t : Fin 64) (n : Fin 1) : (res_main_v428 V0 : IVec S1x64x1 32) (ix3 0 t n) = bi2 V0 (ix3 t n 1) := by
  obtain rfl : n = 0 := Subsingleton.elim _ _
  unfold res_main_v428
  pointwise
  try rfl

theorem v457_at (t : Fin 64) (n : Fin 1) : (res_main_v457 V0 : IVec S1x64x1 32) (ix3 0 t n) = bi2 V0 (ix3 t n 2) := by
  obtain rfl : n = 0 := Subsingleton.elim _ _
  unfold res_main_v457
  pointwise
  try rfl

theorem v486_at (t : Fin 64) (n : Fin 1) : (res_main_v486 V0 : IVec S1x64x1 32) (ix3 0 t n) = bi2 V0 (ix3 t n 3) := by
  obtain rfl : n = 0 := Subsingleton.elim _ _
  unfold res_main_v486
  pointwise
  try rfl

theorem v515_at (t : Fin 64) (n : Fin 1) : (res_main_v515 V0 : IVec S1x64x1 32) (ix3 0 t n) = bi2 V0 (ix3 t n 4) := by
  obtain rfl : n = 0 := Subsingleton.elim _ _
  unfold res_main_v515
  pointwise
  try rfl

theorem v544_at (t : Fin 64) (n : Fin 1) : (res_main_v544 V0 : IVec S1x64x1 32) (ix3 0 t n) = bi2 V0 (ix3 t n 5) := by
  obtain rfl : n = 0 := Subsingleton.elim _ _
  unfold res_main_v544
  pointwise
  try rfl

theorem v393_at (p : Fin 12544) : (res_main_v393 V0 : IVec S12544x1x1 32) (ix3 p 0 0) = BitVec.ofNat 32 (p : ℕ) := by
  unfold res_main_v393
  pointwise
  try rfl

theorem v395_at (t : Fin 64) : (res_main_v395 V0 : IVec S1x64x1 32) (ix3 0 t 0) = BitVec.ofNat 32 (t : ℕ) := by
  unfold res_main_v395
  pointwise
  try rfl

theorem v572_at (n : Fin 1) : (res_main_v572 V0 : IVec S1x1x1 32) (ix3 0 0 n) = BitVec.ofNat 32 (n : ℕ) := by
  unfold res_main_v572
  pointwise
  try rfl

/-- One wire of layer 2 picks its node's output. -/
theorem wire2 (X : IVec S12544x64x6 32) (w : IVec S1x64x1 32) (p : Fin 12544) (t : Fin 64) (n : Fin 1) (h : (w (ix3 0 t n)).toNat < 6) :
    (Host.gather gather_S12544x64x6_S12544x64x1x3_S12544x64x1_n_012_n_n_012_3_111 X ((concatenate S12544x64x1x3 3 [⟨S12544x64x1x1, ((broadcastInDim S12544x64x1x1 ![0, 1, 2] bcast_S12544x64x1_S12544x64x1x1_0_1_2 (broadcastInDim S12544x64x1 ![0, 1, 2] bcast_S12544x1x1_S12544x64x1_0_1_2 (select (cmpi .slt (res_main_v393 V0) (broadcastInDim S12544x1x1 ![] bcast_S_S12544x1x1 (constantI S_ 32 0#32))) (addi (res_main_v393 V0) (broadcastInDim S12544x1x1 ![] bcast_S_S12544x1x1 (constantI S_ 32 12544#32))) (res_main_v393 V0)))) : (⟨S12544x64x1x1, .i32⟩ : BufTy).Contents (Elt F))⟩, ⟨S12544x64x1x1, ((broadcastInDim S12544x64x1x1 ![0, 1, 2] bcast_S12544x64x1_S12544x64x1x1_0_1_2 (broadcastInDim S12544x64x1 ![0, 1, 2] bcast_S1x64x1_S12544x64x1_0_1_2 (select (cmpi .slt (res_main_v395 V0) (broadcastInDim S1x64x1 ![] bcast_S_S1x64x1 (constantI S_ 32 0#32))) (addi (res_main_v395 V0) (broadcastInDim S1x64x1 ![] bcast_S_S1x64x1 (constantI S_ 32 64#32))) (res_main_v395 V0)))) : (⟨S12544x64x1x1, .i32⟩ : BufTy).Contents (Elt F))⟩, ⟨S12544x64x1x1, ((broadcastInDim S12544x64x1x1 ![0, 1, 2] bcast_S12544x64x1_S12544x64x1x1_0_1_2 (broadcastInDim S12544x64x1 ![0, 1, 2] bcast_S1x64x1_S12544x64x1_0_1_2 (select (cmpi .slt w (broadcastInDim S1x64x1 ![] bcast_S_S1x64x1 (constantI S_ 32 0#32))) (addi w (broadcastInDim S1x64x1 ![] bcast_S_S1x64x1 (constantI S_ 32 6#32))) w))) : (⟨S12544x64x1x1, .i32⟩ : BufTy).Contents (Elt F))⟩] concatenates_S12544x64x1x1_S12544x64x1x1_S12544x64x1x1_S12544x64x1x3_d3 : (⟨S12544x64x1x3, .i32⟩ : BufTy).Contents (Elt F)))) (ix3 p t n)
      = X (ix3 p t (ixOf 6 (w (ix3 0 t n)))) := by
  obtain rfl : n = 0 := Subsingleton.elim _ _
  refine gather_triple gather_S12544x64x6_S12544x64x1x3_S12544x64x1_n_012_n_n_012_3_111_wf _ _ p t 0 p t (ixOf 6 (w (ix3 0 t 0))) (by decide) (by decide) (by decide) ?_ ?_ ?_
  · pointwise
    rw [v393_at]
    exact wrap_ofNat _ (by omega) _
  · pointwise
    rw [v395_at]
    exact wrap_ofNat _ (by omega) _
  · pointwise
    exact wrap_word 6 _ h (by decide) _

/-- The address of a node of layer 2. -/
theorem v570_at (p : Fin 12544) (t : Fin 64) (n : Fin 1) (b : Fin 6 → BitVec 1)
    (hb : ∀ k, (res_main_v391 V0 : IVec S12544x64x6 32) (ix3 p t k) = (b k).setWidth 32)
    (h : ∀ j, (bi2 V0 (ix3 t n j) : BitVec 32).toNat < 6) :
    (res_main_v570 V0 : IVec S12544x64x1 32) (ix3 p t n) = BitVec.ofNat 32 (node b (fun j => bi2 V0 (ix3 t n j)) : ℕ) := by
  have e := sum_flags fun j => b (ixOf 6 (bi2 V0 (ix3 t n j)))
  unfold res_main_v570
  pointwise
  unfold res_main_v483
  pointwise
  rw [wire2 V0 (res_main_v391 V0) (res_main_v399 V0) p t n (by rw [v399_at]; exact h 0), v399_at, hb]
  rw [wire2 V0 (res_main_v391 V0) (res_main_v428 V0) p t n (by rw [v428_at]; exact h 1), v428_at, hb]
  rw [wire2 V0 (res_main_v391 V0) (res_main_v457 V0) p t n (by rw [v457_at]; exact h 2), v457_at, hb]
  rw [wire2 V0 (res_main_v391 V0) (res_main_v486 V0) p t n (by rw [v486_at]; exact h 3), v486_at, hb]
  rw [wire2 V0 (res_main_v391 V0) (res_main_v515 V0) p t n (by rw [v515_at]; exact h 4), v515_at, hb]
  rw [wire2 V0 (res_main_v391 V0) (res_main_v544 V0) p t n (by rw [v544_at]; exact h 5), v544_at, hb]
  exact e

/-- The gathered bits, one per position and tree. -/
def bits : FVec F S12544x64x1 .f32 := Host.gather gather_S64x1x64_S12544x64x1x3_S12544x64x1_n_012_n_n_012_3_111 (V0 (Proc.devRef .tc main_arg6)) ((concatenate S12544x64x1x3 3 [⟨S12544x64x1x1, ((broadcastInDim S12544x64x1x1 ![0, 1, 2] bcast_S12544x64x1_S12544x64x1x1_0_1_2 (broadcastInDim S12544x64x1 ![0, 1, 2] bcast_S1x64x1_S12544x64x1_0_1_2 (select (cmpi .slt (res_main_v395 V0) (broadcastInDim S1x64x1 ![] bcast_S_S1x64x1 (constantI S_ 32 0#32))) (addi (res_main_v395 V0) (broadcastInDim S1x64x1 ![] bcast_S_S1x64x1 (constantI S_ 32 64#32))) (res_main_v395 V0)))) : (⟨S12544x64x1x1, .i32⟩ : BufTy).Contents (Elt F))⟩, ⟨S12544x64x1x1, ((broadcastInDim S12544x64x1x1 ![0, 1, 2] bcast_S12544x64x1_S12544x64x1x1_0_1_2 (broadcastInDim S12544x64x1 ![0, 1, 2] bcast_S1x1x1_S12544x64x1_0_1_2 (select (cmpi .slt (res_main_v572 V0) (broadcastInDim S1x1x1 ![] bcast_S_S1x1x1 (constantI S_ 32 0#32))) (addi (res_main_v572 V0) (broadcastInDim S1x1x1 ![] bcast_S_S1x1x1 (constantI S_ 32 1#32))) (res_main_v572 V0)))) : (⟨S12544x64x1x1, .i32⟩ : BufTy).Contents (Elt F))⟩, ⟨S12544x64x1x1, ((broadcastInDim S12544x64x1x1 ![0, 1, 2] bcast_S12544x64x1_S12544x64x1x1_0_1_2 (select (cmpi .slt (res_main_v570 V0) (broadcastInDim S12544x64x1 ![] bcast_S_S12544x64x1 (constantI S_ 32 0#32))) (addi (res_main_v570 V0) (broadcastInDim S12544x64x1 ![] bcast_S_S12544x64x1 (constantI S_ 32 64#32))) (res_main_v570 V0))) : (⟨S12544x64x1x1, .i32⟩ : BufTy).Contents (Elt F))⟩] concatenates_S12544x64x1x1_S12544x64x1x1_S12544x64x1x1_S12544x64x1x3_d3 : (⟨S12544x64x1x3, .i32⟩ : BufTy).Contents (Elt F)))

theorem bits_at (p : Fin 12544) (t : Fin 64) (a : Fin 64)
    (ha : (res_main_v570 V0 : IVec S12544x64x1 32) (ix3 p t 0) = BitVec.ofNat 32 (a : ℕ)) :
    bits V0 (ix3 p t 0) = bl2 V0 (ix3 t 0 a) := by
  unfold bits
  refine gather_triple gather_S64x1x64_S12544x64x1x3_S12544x64x1_n_012_n_n_012_3_111_wf _ _ p t 0 t 0 a (by decide) (by decide) (by decide) ?_ ?_ ?_
  · pointwise
    rw [v395_at]
    exact wrap_ofNat _ (by omega) _
  · pointwise
    rw [v572_at]
    exact wrap_ofNat _ (by decide) _
  · pointwise
    rw [ha]
    exact wrap_ofNat _ (by omega) _

end Cert.ReferenceIdeal.Hand
end
end
-- ==== Proof.RefValue.lean ====
/- The value of the reference of the lookup trees: the patches, and the result at an index. -/
module

public import proofs.«01_k».proof.Proof.Gen.ReferenceIdeal.Run
public import proofs.«01_k».proof.Proof.RefLayers
public import Idealize.ShloMosaic.Lib.Pointwise
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Words Cert.Gathers

variable {F : FTy → Type} [FloatOps F]

variable (V0 : Valuation τ sig (Elt F))

/-! ### The patches -/

/-- The row of image `im`, position `l`. -/
def at784 (im : Fin 16) (l : Fin 784) : Fin 12544 := ⟨784 * (im : ℕ) + l, by omega⟩

/-- The flags of the stacked windows, one row per position. -/
theorem flags_at (C : FVec F S16x25x28x28 .f32) (h1 : S16x25x28x28.ShapeCasts S16x25x784) (h2 : S16x25x784.Transposes [0, 2, 1] S16x784x25)
    (h3 : S16x784x25.ShapeCasts S12544x25) (h4 : S_.BroadcastsInDim S12544x25 ![]) (h5 : 1 < 32) (im : Fin 16) (l : Fin 784) (k : Fin 25) :
    extui 32 (cmpf .ogt (shapeCast S12544x25 (transpose S16x784x25 [0, 2, 1] (shapeCast S16x25x784 C h1) h2) h3)
        (broadcastInDim S12544x25 ![] h4 (constant S_ .f32 0x00000000#32))) h5 (ix2 (at784 im l) k)
      = (pos (C (ix4 im k ⟨(l : ℕ) / 28, by omega⟩ ⟨(l : ℕ) % 28, by omega⟩))).setWidth 32 := by
  pointwise
  refine (congrArg (fun z : F .f32 => (pos z).setWidth 32) ?_ : (pos _).setWidth 32 = _)
  have e1 : (at784 im l : ℕ) / 784 = im := by
    show (784 * (im : ℕ) + l) / 784 = im
    omega
  have e2 : (at784 im l : ℕ) % 784 = l := by
    show (784 * (im : ℕ) + l) % 784 = l
    omega
  simp only [e1, e2, Fin.eta]

theorem v83_0 (im : Fin 16) (l : Fin 784) : (res_main_v83 V0 : IVec S12544x25 32) (ix2 (at784 im l) 0)
    = (pos (bx V0 (ix4 im 0 ⟨(l : ℕ) / 28 + 0, by omega⟩ ⟨(l : ℕ) % 28 + 0, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 0).trans ?_
  unfold res_main_v75
  pointwise
  all_goals first | rfl | simp only [Nat.add_comm]

theorem v83_1 (im : Fin 16) (l : Fin 784) : (res_main_v83 V0 : IVec S12544x25 32) (ix2 (at784 im l) 1)
    = (pos (bx V0 (ix4 im 0 ⟨(l : ℕ) / 28 + 0, by omega⟩ ⟨(l : ℕ) % 28 + 1, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 1).trans ?_
  unfold res_main_v75
  pointwise
  all_goals first | rfl | simp only [Nat.add_comm]

theorem v83_2 (im : Fin 16) (l : Fin 784) : (res_main_v83 V0 : IVec S12544x25 32) (ix2 (at784 im l) 2)
    = (pos (bx V0 (ix4 im 0 ⟨(l : ℕ) / 28 + 0, by omega⟩ ⟨(l : ℕ) % 28 + 2, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 2).trans ?_
  unfold res_main_v75
  pointwise
  all_goals first | rfl | simp only [Nat.add_comm]

theorem v83_3 (im : Fin 16) (l : Fin 784) : (res_main_v83 V0 : IVec S12544x25 32) (ix2 (at784 im l) 3)
    = (pos (bx V0 (ix4 im 0 ⟨(l : ℕ) / 28 + 0, by omega⟩ ⟨(l : ℕ) % 28 + 3, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 3).trans ?_
  unfold res_main_v75
  pointwise
  all_goals first | rfl | simp only [Nat.add_comm]

theorem v83_4 (im : Fin 16) (l : Fin 784) : (res_main_v83 V0 : IVec S12544x25 32) (ix2 (at784 im l) 4)
    = (pos (bx V0 (ix4 im 0 ⟨(l : ℕ) / 28 + 0, by omega⟩ ⟨(l : ℕ) % 28 + 4, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 4).trans ?_
  unfold res_main_v75
  pointwise
  all_goals first | rfl | simp only [Nat.add_comm]

theorem v83_5 (im : Fin 16) (l : Fin 784) : (res_main_v83 V0 : IVec S12544x25 32) (ix2 (at784 im l) 5)
    = (pos (bx V0 (ix4 im 0 ⟨(l : ℕ) / 28 + 1, by omega⟩ ⟨(l : ℕ) % 28 + 0, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 5).trans ?_
  unfold res_main_v75
  pointwise
  all_goals first | rfl | simp only [Nat.add_comm]

theorem v83_6 (im : Fin 16) (l : Fin 784) : (res_main_v83 V0 : IVec S12544x25 32) (ix2 (at784 im l) 6)
    = (pos (bx V0 (ix4 im 0 ⟨(l : ℕ) / 28 + 1, by omega⟩ ⟨(l : ℕ) % 28 + 1, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 6).trans ?_
  unfold res_main_v75
  pointwise
  all_goals first | rfl | simp only [Nat.add_comm]

theorem v83_7 (im : Fin 16) (l : Fin 784) : (res_main_v83 V0 : IVec S12544x25 32) (ix2 (at784 im l) 7)
    = (pos (bx V0 (ix4 im 0 ⟨(l : ℕ) / 28 + 1, by omega⟩ ⟨(l : ℕ) % 28 + 2, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 7).trans ?_
  unfold res_main_v75
  pointwise
  all_goals first | rfl | simp only [Nat.add_comm]

theorem v83_8 (im : Fin 16) (l : Fin 784) : (res_main_v83 V0 : IVec S12544x25 32) (ix2 (at784 im l) 8)
    = (pos (bx V0 (ix4 im 0 ⟨(l : ℕ) / 28 + 1, by omega⟩ ⟨(l : ℕ) % 28 + 3, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 8).trans ?_
  unfold res_main_v75
  pointwise
  all_goals first | rfl | simp only [Nat.add_comm]

theorem v83_9 (im : Fin 16) (l : Fin 784) : (res_main_v83 V0 : IVec S12544x25 32) (ix2 (at784 im l) 9)
    = (pos (bx V0 (ix4 im 0 ⟨(l : ℕ) / 28 + 1, by omega⟩ ⟨(l : ℕ) % 28 + 4, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 9).trans ?_
  unfold res_main_v75
  pointwise
  all_goals first | rfl | simp only [Nat.add_comm]

theorem v83_10 (im : Fin 16) (l : Fin 784) : (res_main_v83 V0 : IVec S12544x25 32) (ix2 (at784 im l) 10)
    = (pos (bx V0 (ix4 im 0 ⟨(l : ℕ) / 28 + 2, by omega⟩ ⟨(l : ℕ) % 28 + 0, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 10).trans ?_
  unfold res_main_v75
  pointwise
  all_goals first | rfl | simp only [Nat.add_comm]

theorem v83_11 (im : Fin 16) (l : Fin 784) : (res_main_v83 V0 : IVec S12544x25 32) (ix2 (at784 im l) 11)
    = (pos (bx V0 (ix4 im 0 ⟨(l : ℕ) / 28 + 2, by omega⟩ ⟨(l : ℕ) % 28 + 1, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 11).trans ?_
  unfold res_main_v75
  pointwise
  all_goals first | rfl | simp only [Nat.add_comm]

theorem v83_12 (im : Fin 16) (l : Fin 784) : (res_main_v83 V0 : IVec S12544x25 32) (ix2 (at784 im l) 12)
    = (pos (bx V0 (ix4 im 0 ⟨(l : ℕ) / 28 + 2, by omega⟩ ⟨(l : ℕ) % 28 + 2, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 12).trans ?_
  unfold res_main_v75
  pointwise
  all_goals first | rfl | simp only [Nat.add_comm]

theorem v83_13 (im : Fin 16) (l : Fin 784) : (res_main_v83 V0 : IVec S12544x25 32) (ix2 (at784 im l) 13)
    = (pos (bx V0 (ix4 im 0 ⟨(l : ℕ) / 28 + 2, by omega⟩ ⟨(l : ℕ) % 28 + 3, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 13).trans ?_
  unfold res_main_v75
  pointwise
  all_goals first | rfl | simp only [Nat.add_comm]

theorem v83_14 (im : Fin 16) (l : Fin 784) : (res_main_v83 V0 : IVec S12544x25 32) (ix2 (at784 im l) 14)
    = (pos (bx V0 (ix4 im 0 ⟨(l : ℕ) / 28 + 2, by omega⟩ ⟨(l : ℕ) % 28 + 4, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 14).trans ?_
  unfold res_main_v75
  pointwise
  all_goals first | rfl | simp only [Nat.add_comm]

theorem v83_15 (im : Fin 16) (l : Fin 784) : (res_main_v83 V0 : IVec S12544x25 32) (ix2 (at784 im l) 15)
    = (pos (bx V0 (ix4 im 0 ⟨(l : ℕ) / 28 + 3, by omega⟩ ⟨(l : ℕ) % 28 + 0, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 15).trans ?_
  unfold res_main_v75
  pointwise
  all_goals first | rfl | simp only [Nat.add_comm]

theorem v83_16 (im : Fin 16) (l : Fin 784) : (res_main_v83 V0 : IVec S12544x25 32) (ix2 (at784 im l) 16)
    = (pos (bx V0 (ix4 im 0 ⟨(l : ℕ) / 28 + 3, by omega⟩ ⟨(l : ℕ) % 28 + 1, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 16).trans ?_
  pointwise
  all_goals first | rfl | simp only [Nat.add_comm]

theorem v83_17 (im : Fin 16) (l : Fin 784) : (res_main_v83 V0 : IVec S12544x25 32) (ix2 (at784 im l) 17)
    = (pos (bx V0 (ix4 im 0 ⟨(l : ℕ) / 28 + 3, by omega⟩ ⟨(l : ℕ) % 28 + 2, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 17).trans ?_
  pointwise
  all_goals first | rfl | simp only [Nat.add_comm]

theorem v83_18 (im : Fin 16) (l : Fin 784) : (res_main_v83 V0 : IVec S12544x25 32) (ix2 (at784 im l) 18)
    = (pos (bx V0 (ix4 im 0 ⟨(l : ℕ) / 28 + 3, by omega⟩ ⟨(l : ℕ) % 28 + 3, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 18).trans ?_
  pointwise
  all_goals first | rfl | simp only [Nat.add_comm]

theorem v83_19 (im : Fin 16) (l : Fin 784) : (res_main_v83 V0 : IVec S12544x25 32) (ix2 (at784 im l) 19)
    = (pos (bx V0 (ix4 im 0 ⟨(l : ℕ) / 28 + 3, by omega⟩ ⟨(l : ℕ) % 28 + 4, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 19).trans ?_
  pointwise
  all_goals first | rfl | simp only [Nat.add_comm]

theorem v83_20 (im : Fin 16) (l : Fin 784) : (res_main_v83 V0 : IVec S12544x25 32) (ix2 (at784 im l) 20)
    = (pos (bx V0 (ix4 im 0 ⟨(l : ℕ) / 28 + 4, by omega⟩ ⟨(l : ℕ) % 28 + 0, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 20).trans ?_
  pointwise
  all_goals first | rfl | simp only [Nat.add_comm]

theorem v83_21 (im : Fin 16) (l : Fin 784) : (res_main_v83 V0 : IVec S12544x25 32) (ix2 (at784 im l) 21)
    = (pos (bx V0 (ix4 im 0 ⟨(l : ℕ) / 28 + 4, by omega⟩ ⟨(l : ℕ) % 28 + 1, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 21).trans ?_
  pointwise
  all_goals first | rfl | simp only [Nat.add_comm]

theorem v83_22 (im : Fin 16) (l : Fin 784) : (res_main_v83 V0 : IVec S12544x25 32) (ix2 (at784 im l) 22)
    = (pos (bx V0 (ix4 im 0 ⟨(l : ℕ) / 28 + 4, by omega⟩ ⟨(l : ℕ) % 28 + 2, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 22).trans ?_
  pointwise
  all_goals first | rfl | simp only [Nat.add_comm]

theorem v83_23 (im : Fin 16) (l : Fin 784) : (res_main_v83 V0 : IVec S12544x25 32) (ix2 (at784 im l) 23)
    = (pos (bx V0 (ix4 im 0 ⟨(l : ℕ) / 28 + 4, by omega⟩ ⟨(l : ℕ) % 28 + 3, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 23).trans ?_
  pointwise
  all_goals first | rfl | simp only [Nat.add_comm]

theorem v83_24 (im : Fin 16) (l : Fin 784) : (res_main_v83 V0 : IVec S12544x25 32) (ix2 (at784 im l) 24)
    = (pos (bx V0 (ix4 im 0 ⟨(l : ℕ) / 28 + 4, by omega⟩ ⟨(l : ℕ) % 28 + 4, by omega⟩))).setWidth 32 := by
  unfold res_main_v83
  refine (flags_at _ shapeCasts_S16x25x28x28_S16x25x784 transposes_S16x25x784_S16x784x25_0_2_1 shapeCasts_S16x784x25_S12544x25 bcast_S_S12544x25 natLt_1_32 im l 24).trans ?_
  pointwise
  all_goals first | rfl | simp only [Nat.add_comm]

theorem v83_at (im : Fin 16) (l : Fin 784) (k : Fin 25) : (res_main_v83 V0 : IVec S12544x25 32) (ix2 (at784 im l) k)
    = (pos (bx V0 (ix4 im 0 ⟨(l : ℕ) / 28 + (k : ℕ) / 5, by omega⟩ ⟨(l : ℕ) % 28 + (k : ℕ) % 5, by omega⟩))).setWidth 32 := by
  fin_cases k
  · exact v83_0 V0 im l
  · exact v83_1 V0 im l
  · exact v83_2 V0 im l
  · exact v83_3 V0 im l
  · exact v83_4 V0 im l
  · exact v83_5 V0 im l
  · exact v83_6 V0 im l
  · exact v83_7 V0 im l
  · exact v83_8 V0 im l
  · exact v83_9 V0 im l
  · exact v83_10 V0 im l
  · exact v83_11 V0 im l
  · exact v83_12 V0 im l
  · exact v83_13 V0 im l
  · exact v83_14 V0 im l
  · exact v83_15 V0 im l
  · exact v83_16 V0 im l
  · exact v83_17 V0 im l
  · exact v83_18 V0 im l
  · exact v83_19 V0 im l
  · exact v83_20 V0 im l
  · exact v83_21 V0 im l
  · exact v83_22 V0 im l
  · exact v83_23 V0 im l
  · exact v83_24 V0 im l

/-! ### The result -/

/-- The last address of tree `t` on patch `l` of image `im`. -/
def addr (im : Fin 16) (t : Fin 64) (l : Fin 784) : Fin 64 :=
  tree (fun k : Fin 25 => pos (bx V0 (ix4 im 0 ⟨(l : ℕ) / 28 + (k : ℕ) / 5, by omega⟩ ⟨(l : ℕ) % 28 + (k : ℕ) % 5, by omega⟩)))
    (fun n j => bi0 V0 (ix3 t n j)) (fun n i => pos (bl0 V0 (ix3 t n i)))
    (fun n j => bi1 V0 (ix3 t n j)) (fun n i => pos (bl1 V0 (ix3 t n i))) (fun j => bi2 V0 (ix3 t 0 j))

/-- Every wire names one of its layer's inputs. -/
structure InRange : Prop where
  h0 : ∀ t n j, (bi0 V0 (ix3 t n j) : BitVec 32).toNat < 25
  h1 : ∀ t n j, (bi1 V0 (ix3 t n j) : BitVec 32).toNat < 36
  h2 : ∀ t j, (bi2 V0 (ix3 t 0 j) : BitVec 32).toNat < 6

/-- The three layers end at the tree's address. -/
theorem addr_at (h : InRange V0) (im : Fin 16) (t : Fin 64) (l : Fin 784) :
    (res_main_v570 V0 : IVec S12544x64x1 32) (ix3 (at784 im l) t 0) = BitVec.ofNat 32 (addr V0 im t l : ℕ) := by
  refine v570_at V0 (at784 im l) t 0 _ (fun n => v391_at V0 (at784 im l) t n _ ?_) (fun j => h.h2 t j)
  refine v364_at V0 (at784 im l) t n _ (fun k => v185_at V0 (at784 im l) t k _ ?_) (fun j => h.h1 t n j)
  exact v156_at V0 (at784 im l) t k _ (fun q => v83_at V0 im l q) (fun j => h.h0 t k j)

/-- The result array before its last reshape. -/
def outArr : FVec F S16x64x784 .f32 := fun y => bl2 V0 (ix3 (y 1) 0 (addr V0 (y 0) (y 1) (y 2)))

theorem result_eq (h : InRange V0) :
    transpose S16x64x784 [0, 2, 1] (shapeCast S16x784x64 (shapeCast S12544x64 (bits V0) shapeCasts_S12544x64x1_S12544x64) shapeCasts_S12544x64_S16x784x64) transposes_S16x784x64_S16x64x784_0_2_1
      = outArr V0 := by
  funext y
  obtain ⟨im, t, l, rfl⟩ : ∃ (im : Fin 16) (t : Fin 64) (l : Fin 784), y = (ix3 im t l : S16x64x784.Idx) := ⟨y 0, y 1, y 2, by idx_vars y⟩
  refine (transpose_apply [0, 2, 1] (shapeCast S16x784x64 (shapeCast S12544x64 (bits V0) shapeCasts_S12544x64x1_S12544x64) shapeCasts_S12544x64_S16x784x64) transposes_S16x784x64_S16x64x784_0_2_1 (ix3 im t l) (ix3 im l t) ?_).trans ?_
  · intro b
    match b with
    | ⟨0, _⟩ => rfl
    | ⟨1, _⟩ => rfl
    | ⟨2, _⟩ => rfl
  refine (shapeCast_apply (shapeCast S12544x64 (bits V0) shapeCasts_S12544x64x1_S12544x64) shapeCasts_S12544x64_S16x784x64 (ix3 im l t) (ix2 (at784 im l) t) ?_).trans ?_
  · rw [Shape.rowMajor_val_two, Shape.rowMajor_val_three]
    show (784 * (im : ℕ) + l) * 64 + t = ((im : ℕ) * 784 + l) * 64 + t
    ring
  refine (shapeCast_apply (bits V0) shapeCasts_S12544x64x1_S12544x64 (ix2 (at784 im l) t) (ix3 (at784 im l) t 0) ?_).trans ?_
  · rw [Shape.rowMajor_val_three, Shape.rowMajor_val_two]
    show ((784 * (im : ℕ) + l) * 64 + t) * 1 + 0 = (784 * (im : ℕ) + l) * 64 + t
    ring
  exact bits_at V0 _ t _ (addr_at V0 h im t l)

end Cert.ReferenceIdeal.Hand
end
end
-- ==== Proof.RefRun.lean ====
/- The run of the reference with its result named. -/
module

public import proofs.«01_k».proof.Proof.RefValue

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The reference's result: the trees' values, the position split into its two axes. -/
def result (c : Dev nD) : FVec F S16x64x28x28 .f32 :=
  shapeCast S16x64x28x28 (outArr (launchContents m c)) shapeCasts_S16x64x784_S16x64x28x28

theorem run_value (h : ∀ c, InRange (launchContents m c)) : θ_run defs (onTc (τ := τ) (main (F := F))) ⟨m, fun _ => 0, ρ⟩ (fun r => ∀ c : Dev nD,
      r.2.mem ((c.tc : Thread nD τ).loc main_v598) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨(hr c).1.trans
    (congrArg (fun z : FVec F S16x64x784 .f32 => shapeCast S16x64x28x28 z shapeCasts_S16x64x784_S16x64x28x28) (result_eq (launchContents m c) (h c))), (hr c).2⟩)
    (Cert.ReferenceIdeal.Value.run m ρ)

end Cert.ReferenceIdeal.Hand

end
-- ==== Proof.Wires.lean ====
/- The precondition of the value claim, read: every wire of a layer names one of that layer's inputs. -/
module

public import proofs.«01_k».proof.Pre_wires_in_range
public import Idealize.ShloMosaic.Lib.ReduceAll
public import Idealize.ShloMosaic.Lib.WordCmp
public import Idealize.ShloMosaic.Lib.Pipeline.Value

@[expose] public section

set_option maxRecDepth 16384

noncomputable section

namespace Cert.Wires

open Idealize.ShloMosaic Cert.Pre_wires_in_range

/-- What the predicate's operations ask of their shapes. -/
theorem facts : Facts where
  bcast_S_S64x36x6 := by decide
  reducesTo_S64x36x6_S_d0_1_2 := by decide
  h_S_ := by decide
  bcast_S_S64x6x6 := by decide
  reducesTo_S64x6x6_S_d0_1_2 := by decide
  bcast_S_S64x1x6 := by decide
  reducesTo_S64x1x6_S_d0_1_2 := by decide

instance : Subsingleton S_.Idx := ⟨fun a b => funext fun i => i.elim0⟩

/-- A word at least zero and below a small bound, both read with a sign, is below it read without. -/
theorem below {k : ℕ} (hk : k < 2 ^ 31) (x : BitVec 32)
    (h : IntOp.andi (IntOp.cmpi .sge x 0#32) (IntOp.cmpi .slt x (BitVec.ofNat 32 k)) = 1#1) : x.toNat < k := by
  rw [WordCmp.andi_sge_zero_slt_ofNat hk] at h
  by_contra hn
  simp [hn] at h

variable {F : FTy → Type} [FloatOps F]

/-- The predicate all ones: every wire is below its layer's number of inputs. -/
theorem read [Facts] (a0 : FVec F S16x1x32x32 .f32) (a1 : IVec S64x36x6 32) (a2 : IVec S64x6x6 32) (a3 : IVec S64x1x6 32)
    (a4 : FVec F S64x36x64 .f32) (a5 : FVec F S64x6x64 .f32) (a6 : FVec F S64x1x64 .f32)
    (h : fn (F := F) a0 a1 a2 a3 a4 a5 a6 = fun _ => 1#1) :
    (∀ i, (a1 i).toNat < 25) ∧ (∀ i, (a2 i).toNat < 36) ∧ ∀ i, (a3 i).toNat < 6 := by
  have e := congrFun h (fun i => i.elim0)
  simp only [fn, fn_part1] at e
  obtain ⟨e12, e3⟩ := IntOp.andi_eq_one.1 e
  obtain ⟨e1, e2⟩ := IntOp.andi_eq_one.1 e12
  exact ⟨fun i => below (by decide) _ (Host.reduce_andi_all _ _ _ _ _ e1 i), fun i => below (by decide) _ (Host.reduce_andi_all _ _ _ _ _ e2 i),
    fun i => below (by decide) _ (Host.reduce_andi_all _ _ _ _ _ e3 i)⟩

end Cert.Wires

end
-- ==== Proof.lean ====
/- The certificate: the frames of the kernel, of its ideal reading and of the reference, and their results equal. -/
module

public import proofs.«01_k».proof.Defs
public import proofs.«01_k».proof.Proof.KR.Frame
public import proofs.«01_k».proof.Proof.KI.Frame
public import proofs.«01_k».proof.Proof.KI.Run
public import proofs.«01_k».proof.Proof.Frames
public import proofs.«01_k».proof.Proof.RefRun
public import proofs.«01_k».proof.Proof.Wires

@[expose] public section

set_option maxRecDepth 16384

noncomputable section

namespace Cert.Proof

open Idealize.ShloMosaic Idealize.SL.Sem

/-- The predicate read at the kernel's arguments. -/
theorem inRange (m : (ℓ : Loc Cert.KernelIdeal.nD Cert.KernelIdeal.τ Cert.KernelIdeal.sig) → Buf (Elt Ideal) ℓ)
    (h : Cert.Pre_KernelIdeal_wires_in_range (hPre_wires_in_range := Cert.Wires.facts) m) (c : Dev Cert.KernelIdeal.nD) :
    Cert.KernelIdeal.Hand.InRange m c := by
  have r := @Cert.Wires.read Ideal _ Cert.Wires.facts _ _ _ _ _ _ _ (h c)
  exact ⟨fun t n j => r.1 _, fun t n j => r.2.1 _, fun t j => r.2.2 _⟩

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

open Cert.ReferenceIdeal.Hand (bx bi0 bi1 bi2 bl0 bl1 bl2) in
open Cert.KernelIdeal.Hand (ax ai0 ai1 ai2 al0 al1 al2) in
/-- From agreeing arguments, the kernel's array and the reference's are one. -/
theorem outArr_agree (V0 : Valuation Cert.ReferenceIdeal.τ Cert.ReferenceIdeal.sig (Elt Ideal))
    (h0 : bx V0 = ax m c) (h1 : bi0 V0 = ai0 m c) (h2 : bi1 V0 = ai1 m c) (h3 : bi2 V0 = ai2 m c)
    (h4 : bl0 V0 = al0 m c) (h5 : bl1 V0 = al1 m c) (h6 : bl2 V0 = al2 m c) :
    Cert.ReferenceIdeal.Hand.outArr V0 = Cert.KernelIdeal.Hand.outArr m c := by
  unfold Cert.ReferenceIdeal.Hand.outArr Cert.KernelIdeal.Hand.outArr Cert.ReferenceIdeal.Hand.addr Cert.KernelIdeal.Hand.addr
  rw [h0, h1, h2, h3, h4, h5, h6]
  rfl

end Agree

theorem algebraic : Cert.algebraic_KernelIdeal_ReferenceIdeal_pre_wires_in_range (hKernelIdeal := Cert.KernelIdeal.Gen.facts)
    (hReferenceIdeal := Cert.ReferenceIdeal.Gen.facts) (hPre_wires_in_range := Cert.Wires.facts) := by
  intro m g m' g' hpre hag
  have hin := inRange m hpre
  have hin' : ∀ c, Cert.ReferenceIdeal.Hand.InRange (StableHlo.launchContents m' c) := fun c => by
    obtain ⟨_, e1, e2, e3, _⟩ := hag c
    exact ⟨fun t n j => lt_of_eq_of_lt (congrArg (fun z : IVec _ 32 => (z (ix3 t n j)).toNat) e1) ((hin c).h0 t n j),
      fun t n j => lt_of_eq_of_lt (congrArg (fun z : IVec _ 32 => (z (ix3 t n j)).toNat) e2) ((hin c).h1 t n j),
      fun t j => lt_of_eq_of_lt (congrArg (fun z : IVec _ 32 => (z (ix3 t 0 j)).toNat) e3) ((hin c).h2 t j)⟩
  refine ⟨fun c => Cert.KernelIdeal.Hand.result m c, Cert.KernelIdeal.Hand.run_value m g hin, ?_⟩
  refine (θ_run Cert.ReferenceIdeal.defs _ _).mono (fun r hr c => ⟨(hr c).1.trans ?_, (hr c).2⟩) (Cert.ReferenceIdeal.Hand.run_value m' g' hin')
  obtain ⟨e0, e1, e2, e3, e4, e5, e6⟩ := hag c
  exact congrArg (fun z : FVec Ideal Cert.KernelIdeal.S16x64x784 .f32 => shapeCast Cert.KernelIdeal.S16x64x28x28 z Cert.KernelIdeal.Facts₀.shapeCasts_S16x64x784_S16x64x28x28)
    (outArr_agree m c (StableHlo.launchContents m' c) e0 e1 e2 e3 e4 e5 e6)

theorem claim : Cert.Claim := ⟨Cert.Kernel.Gen.facts, Cert.KernelIdeal.Gen.facts, Cert.ReferenceIdeal.Gen.facts, Cert.Wires.facts,
  fun m g _ => Cert.Kernel.Hand.frame m g, fun m g _ => Cert.KernelIdeal.Hand.frame m g, fun m g _ => Cert.KernelIdeal.Hand.frame m g,
  fun m g _ => Cert.ReferenceIdeal.Hand.frame m g, fun m g _ => Cert.ReferenceIdeal.Hand.frame m g, trivial, algebraic⟩

end Cert.Proof

end
